-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selections [hPre_selections : Cert.Pre_selections.Facts] (m : (ℓ : Loc Cert.KernelIdeal.nD Cert.KernelIdeal.τ Cert.KernelIdeal.sig) → Buf (Elt Ideal) ℓ) : Prop :=
  ∀ c : Dev Cert.KernelIdeal.nD,
    (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_selections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selections [hPre_selections : Cert.Pre_selections.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_selections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_selections [hKernelIdeal : Cert.KernelIdeal.Facts] [hPre_selections : Cert.Pre_selections.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selections m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_selections [hReferenceIdeal : Cert.ReferenceIdeal.Facts] [hPre_selections : Cert.Pre_selections.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selections m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_selections [hKernelIdeal : Cert.KernelIdeal.Facts] [hReferenceIdeal : Cert.ReferenceIdeal.Facts] [hPre_selections : Cert.Pre_selections.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selections m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_selections : Cert.Pre_selections.Facts),
    quiescent_Kernel (hKernel := hKernel)
    ∧ quiescent_KernelIdeal (hKernelIdeal := hKernelIdeal)
    ∧ quiescent_KernelIdeal_pre_selections (hKernelIdeal := hKernelIdeal) (hPre_selections := hPre_selections)
    ∧ quiescent_ReferenceIdeal (hReferenceIdeal := hReferenceIdeal)
    ∧ quiescent_ReferenceIdeal_pre_selections (hReferenceIdeal := hReferenceIdeal) (hPre_selections := hPre_selections)
    ∧ preserves_Kernel_KernelIdeal
    ∧ algebraic_KernelIdeal_ReferenceIdeal_pre_selections (hKernelIdeal := hKernelIdeal) (hReferenceIdeal := hReferenceIdeal) (hPre_selections := hPre_selections)
-- ==== Pre_selections.lean ====
abbrev S10000x128 : Shape := ⟨2, ![10000, 128]⟩
abbrev S10000x10000 : Shape := ⟨2, ![10000, 10000]⟩
abbrev S10000 : Shape := ⟨1, ![10000]⟩
abbrev S5000 : Shape := ⟨1, ![5000]⟩
abbrev S2500 : Shape := ⟨1, ![2500]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S5000x1 : Shape := ⟨2, ![5000, 1]⟩
abbrev S1x5000 : Shape := ⟨2, ![1, 5000]⟩
abbrev S5000x5000 : Shape := ⟨2, ![5000, 5000]⟩
abbrev S2500x1 : Shape := ⟨2, ![2500, 1]⟩
abbrev S1x2500 : Shape := ⟨2, ![1, 2500]⟩
abbrev S2500x2500 : Shape := ⟨2, ![2500, 2500]⟩

class Facts : Prop where
  bcast_S_S5000 : S_.BroadcastsInDim S5000 (![] : Fin 0 → Fin S5000.rank)
  bcast_S5000_S5000x1_0 : S5000.BroadcastsInDim S5000x1 (![0] : Fin 1 → Fin S5000x1.rank)
  bcast_S5000_S1x5000_1 : S5000.BroadcastsInDim S1x5000 (![1] : Fin 1 → Fin S1x5000.rank)
  bcast_S5000x1_S5000x5000_0_1 : S5000x1.BroadcastsInDim S5000x5000 (![0, 1] : Fin 2 → Fin S5000x5000.rank)
  bcast_S1x5000_S5000x5000_0_1 : S1x5000.BroadcastsInDim S5000x5000 (![0, 1] : Fin 2 → Fin S5000x5000.rank)
  bcast_S_S2500 : S_.BroadcastsInDim S2500 (![] : Fin 0 → Fin S2500.rank)
  bcast_S2500_S2500x1_0 : S2500.BroadcastsInDim S2500x1 (![0] : Fin 1 → Fin S2500x1.rank)
  bcast_S2500_S1x2500_1 : S2500.BroadcastsInDim S1x2500 (![1] : Fin 1 → Fin S1x2500.rank)
  bcast_S2500x1_S2500x2500_0_1 : S2500x1.BroadcastsInDim S2500x2500 (![0, 1] : Fin 2 → Fin S2500x2500.rank)
  bcast_S1x2500_S2500x2500_0_1 : S1x2500.BroadcastsInDim S2500x2500 (![0, 1] : Fin 2 → Fin S2500x2500.rank)
  bcast_S_S10000 : S_.BroadcastsInDim S10000 (![] : Fin 0 → Fin S10000.rank)
  bcast_S_S10000x128 : S_.BroadcastsInDim S10000x128 (![] : Fin 0 → Fin S10000x128.rank)
  bcast_S_S128x32 : S_.BroadcastsInDim S128x32 (![] : Fin 0 → Fin S128x32.rank)
  bcast_S_S32 : S_.BroadcastsInDim S32 (![] : Fin 0 → Fin S32.rank)
  bcast_S_S32x32 : S_.BroadcastsInDim S32x32 (![] : Fin 0 → Fin S32x32.rank)

variable [Facts]

def fn_part3 {F : FTy → Type} [FloatOps F] (main_v4 : IVec S5000 1) (main_v17 : IVec S5000x5000 1) (main_v22 : IVec S2500 1) (main_v35 : IVec S2500x2500 1) (main_v37 : IVec S10000 1) (main_v40 : IVec S10000x128 1) (main_v43 : IVec S128x32 1) (main_v46 : IVec S128x32 1) (main_v49 : IVec S32 1) (main_v52 : IVec S32x32 1) (main_v55 : IVec S32x32 1) (main_v58 : IVec S32 1) (main_v59 : FVec F S32x32 .f32) : IVec S5000 1 × IVec S5000x5000 1 × IVec S2500 1 × IVec S2500x2500 1 × IVec S10000 1 × IVec S10000x128 1 × IVec S128x32 1 × IVec S128x32 1 × IVec S32 1 × IVec S32x32 1 × IVec S32x32 1 × IVec S32 1 × IVec S32x32 1 :=
  let main_cst_10 : FVec F S_ .f32 := constant S_ .f32 0x7F800000#32
  let main_v60 : FVec F S32x32 .f32 := broadcastInDim S32x32 ![] bcast_S_S32x32 main_cst_10
  let main_v61 : IVec S32x32 1 := cmpf .olt main_v59 main_v60
  (main_v4, main_v17, main_v22, main_v35, main_v37, main_v40, main_v43, main_v46, main_v49, main_v52, main_v55, main_v58, main_v61)

def fn_part2 {F : FTy → Type} [FloatOps F] (main_arg6 : FVec F S128x32 .f32) (main_arg7 : FVec F S32 .f32) (main_arg9 : FVec F S32x32 .f32) (main_arg10 : FVec F S32x32 .f32) (main_arg11 : FVec F S32 .f32) (main_arg12 : FVec F S32x32 .f32) (main_v4 : IVec S5000 1) (main_v17 : IVec S5000x5000 1) (main_v22 : IVec S2500 1) (main_v35 : IVec S2500x2500 1) (main_v37 : IVec S10000 1) (main_v40 : IVec S10000x128 1) (main_v41 : FVec F S128x32 .f32) : IVec S5000 1 × IVec S5000x5000 1 × IVec S2500 1 × IVec S2500x2500 1 × IVec S10000 1 × IVec S10000x128 1 × IVec S128x32 1 × IVec S128x32 1 × IVec S32 1 × IVec S32x32 1 × IVec S32x32 1 × IVec S32 1 × IVec S32x32 1 :=
  let main_cst_4 : FVec F S_ .f32 := constant S_ .f32 0x7F800000#32
  let main_v42 : FVec F S128x32 .f32 := broadcastInDim S128x32 ![] bcast_S_S128x32 main_cst_4
  let main_v43 : IVec S128x32 1 := cmpf .olt main_v41 main_v42
  let main_v44 : FVec F S128x32 .f32 := Host.absf main_arg6
  let main_cst_5 : FVec F S_ .f32 := constant S_ .f32 0x7F800000#32
  let main_v45 : FVec F S128x32 .f32 := broadcastInDim S128x32 ![] bcast_S_S128x32 main_cst_5
  let main_v46 : IVec S128x32 1 := cmpf .olt main_v44 main_v45
  let main_v47 : FVec F S32 .f32 := Host.absf main_arg7
  let main_cst_6 : FVec F S_ .f32 := constant S_ .f32 0x7F800000#32
  let main_v48 : FVec F S32 .f32 := broadcastInDim S32 ![] bcast_S_S32 main_cst_6
  let main_v49 : IVec S32 1 := cmpf .olt main_v47 main_v48
  let main_v50 : FVec F S32x32 .f32 := Host.absf main_arg9
  let main_cst_7 : FVec F S_ .f32 := constant S_ .f32 0x7F800000#32
  let main_v51 : FVec F S32x32 .f32 := broadcastInDim S32x32 ![] bcast_S_S32x32 main_cst_7
  let main_v52 : IVec S32x32 1 := cmpf .olt main_v50 main_v51
  let main_v53 : FVec F S32x32 .f32 := Host.absf main_arg10
  let main_cst_8 : FVec F S_ .f32 := constant S_ .f32 0x7F800000#32
  let main_v54 : FVec F S32x32 .f32 := broadcastInDim S32x32 ![] bcast_S_S32x32 main_cst_8
  let main_v55 : IVec S32x32 1 := cmpf .olt main_v53 main_v54
  let main_v56 : FVec F S32 .f32 := Host.absf main_arg11
  let main_cst_9 : FVec F S_ .f32 := constant S_ .f32 0x7F800000#32
  let main_v57 : FVec F S32 .f32 := broadcastInDim S32 ![] bcast_S_S32 main_cst_9
  let main_v58 : IVec S32 1 := cmpf .olt main_v56 main_v57
  let main_v59 : FVec F S32x32 .f32 := Host.absf main_arg12
  fn_part3 (F := F) main_v4 main_v17 main_v22 main_v35 main_v37 main_v40 main_v43 main_v46 main_v49 main_v52 main_v55 main_v58 main_v59

def fn_part1 {F : FTy → Type} [FloatOps F] (main_arg0 : FVec F S10000x128 .f32) (main_arg2 : IVec S10000 32) (main_arg4 : IVec S2500 32) (main_arg5 : FVec F S128x32 .f32) (main_arg6 : FVec F S128x32 .f32) (main_arg7 : FVec F S32 .f32) (main_arg9 : FVec F S32x32 .f32) (main_arg10 : FVec F S32x32 .f32) (main_arg11 : FVec F S32 .f32) (main_arg12 : FVec F S32x32 .f32) (main_v4 : IVec S5000 1) (main_v17 : IVec S5000x5000 1) (main_v19 : IVec S2500 1) (main_c_2 : IVec S_ 32) : IVec S5000 1 × IVec S5000x5000 1 × IVec S2500 1 × IVec S2500x2500 1 × IVec S10000 1 × IVec S10000x128 1 × IVec S128x32 1 × IVec S128x32 1 × IVec S32 1 × IVec S32x32 1 × IVec S32x32 1 × IVec S32 1 × IVec S32x32 1 :=
  let main_v20 : IVec S2500 32 := broadcastInDim S2500 ![] bcast_S_S2500 main_c_2
  let main_v21 : IVec S2500 1 := cmpi .slt main_arg4 main_v20
  let main_v22 : IVec S2500 1 := andi main_v19 main_v21
  let main_v23 : IVec S2500x1 32 := broadcastInDim S2500x1 ![0] bcast_S2500_S2500x1_0 main_arg4
  let main_v24 : IVec S1x2500 32 := broadcastInDim S1x2500 ![1] bcast_S2500_S1x2500_1 main_arg4
  let main_v25 : IVec S2500x2500 32 := broadcastInDim S2500x2500 ![0, 1] bcast_S2500x1_S2500x2500_0_1 main_v23
  let main_v26 : IVec S2500x2500 32 := broadcastInDim S2500x2500 ![0, 1] bcast_S1x2500_S2500x2500_0_1 main_v24
  let main_v27 : IVec S2500x2500 1 := cmpi .ne main_v25 main_v26
  let main_v28 : IVec S2500 32 := iotaInDim S2500 32 0
  let main_v29 : IVec S2500x1 32 := broadcastInDim S2500x1 ![0] bcast_S2500_S2500x1_0 main_v28
  let main_v30 : IVec S2500 32 := iotaInDim S2500 32 0
  let main_v31 : IVec S1x2500 32 := broadcastInDim S1x2500 ![1] bcast_S2500_S1x2500_1 main_v30
  let main_v32 : IVec S2500x2500 32 := broadcastInDim S2500x2500 ![0, 1] bcast_S2500x1_S2500x2500_0_1 main_v29
  let main_v33 : IVec S2500x2500 32 := broadcastInDim S2500x2500 ![0, 1] bcast_S1x2500_S2500x2500_0_1 main_v31
  let main_v34 : IVec S2500x2500 1 := cmpi .eq main_v32 main_v33
  let main_v35 : IVec S2500x2500 1 := ori main_v27 main_v34
  let main_c_3 : IVec S_ 32 := constantI S_ 32 0#32
  let main_v36 : IVec S10000 32 := broadcastInDim S10000 ![] bcast_S_S10000 main_c_3
  let main_v37 : IVec S10000 1 := cmpi .eq main_arg2 main_v36
  let main_v38 : FVec F S10000x128 .f32 := Host.absf main_arg0
  let main_cst : FVec F S_ .f32 := constant S_ .f32 0x7F800000#32
  let main_v39 : FVec F S10000x128 .f32 := broadcastInDim S10000x128 ![] bcast_S_S10000x128 main_cst
  let main_v40 : IVec S10000x128 1 := cmpf .olt main_v38 main_v39
  let main_v41 : FVec F S128x32 .f32 := Host.absf main_arg5
  fn_part2 (F := F) main_arg6 main_arg7 main_arg9 main_arg10 main_arg11 main_arg12 main_v4 main_v17 main_v22 main_v35 main_v37 main_v40 main_v41

def fn {F : FTy → Type} [FloatOps F] (main_arg0 : FVec F S10000x128 .f32) (main_arg1 : FVec F S10000x10000 .f32) (main_arg2 : IVec S10000 32) (main_arg3 : IVec S5000 32) (main_arg4 : IVec S2500 32) (main_arg5 : FVec F S128x32 .f32) (main_arg6 : FVec F S128x32 .f32) (main_arg7 : FVec F S32 .f32) (main_arg8 : FVec F S32 .f32) (main_arg9 : FVec F S32x32 .f32) (main_arg10 : FVec F S32x32 .f32) (main_arg11 : FVec F S32 .f32) (main_arg12 : FVec F S32x32 .f32) (main_arg13 : FVec F S32x32 .f32) (main_arg14 : FVec F S32 .f32) (main_arg15 : FVec F S32x1 .f32) (main_arg16 : FVec F S1 .f32) : IVec S5000 1 × IVec S5000x5000 1 × IVec S2500 1 × IVec S2500x2500 1 × IVec S10000 1 × IVec S10000x128 1 × IVec S128x32 1 × IVec S128x32 1 × IVec S32 1 × IVec S32x32 1 × IVec S32x32 1 × IVec S32 1 × IVec S32x32 1 :=
  let main_c : IVec S_ 32 := constantI S_ 32 0#32
  let main_v0 : IVec S5000 32 := broadcastInDim S5000 ![] bcast_S_S5000 main_c
  let main_v1 : IVec S5000 1 := cmpi .sge main_arg3 main_v0
  let main_c_0 : IVec S_ 32 := constantI S_ 32 10000#32
  let main_v2 : IVec S5000 32 := broadcastInDim S5000 ![] bcast_S_S5000 main_c_0
  let main_v3 : IVec S5000 1 := cmpi .slt main_arg3 main_v2
  let main_v4 : IVec S5000 1 := andi main_v1 main_v3
  let main_v5 : IVec S5000x1 32 := broadcastInDim S5000x1 ![0] bcast_S5000_S5000x1_0 main_arg3
  let main_v6 : IVec S1x5000 32 := broadcastInDim S1x5000 ![1] bcast_S5000_S1x5000_1 main_arg3
  let main_v7 : IVec S5000x5000 32 := broadcastInDim S5000x5000 ![0, 1] bcast_S5000x1_S5000x5000_0_1 main_v5
  let main_v8 : IVec S5000x5000 32 := broadcastInDim S5000x5000 ![0, 1] bcast_S1x5000_S5000x5000_0_1 main_v6
  let main_v9 : IVec S5000x5000 1 := cmpi .ne main_v7 main_v8
  let main_v10 : IVec S5000 32 := iotaInDim S5000 32 0
  let main_v11 : IVec S5000x1 32 := broadcastInDim S5000x1 ![0] bcast_S5000_S5000x1_0 main_v10
  let main_v12 : IVec S5000 32 := iotaInDim S5000 32 0
  let main_v13 : IVec S1x5000 32 := broadcastInDim S1x5000 ![1] bcast_S5000_S1x5000_1 main_v12
  let main_v14 : IVec S5000x5000 32 := broadcastInDim S5000x5000 ![0, 1] bcast_S5000x1_S5000x5000_0_1 main_v11
  let main_v15 : IVec S5000x5000 32 := broadcastInDim S5000x5000 ![0, 1] bcast_S1x5000_S5000x5000_0_1 main_v13
  let main_v16 : IVec S5000x5000 1 := cmpi .eq main_v14 main_v15
  let main_v17 : IVec S5000x5000 1 := ori main_v9 main_v16
  let main_c_1 : IVec S_ 32 := constantI S_ 32 0#32
  let main_v18 : IVec S2500 32 := broadcastInDim S2500 ![] bcast_S_S2500 main_c_1
  let main_v19 : IVec S2500 1 := cmpi .sge main_arg4 main_v18
  let main_c_2 : IVec S_ 32 := constantI S_ 32 5000#32
  fn_part1 (F := F) main_arg0 main_arg2 main_arg4 main_arg5 main_arg6 main_arg7 main_arg9 main_arg10 main_arg11 main_arg12 main_v4 main_v17 main_v19 main_c_2
-- ==== Kernel.lean ====
abbrev S10000x128 : Shape := ⟨2, ![10000, 128]⟩
abbrev S10000x10000 : Shape := ⟨2, ![10000, 10000]⟩
abbrev S10000 : Shape := ⟨1, ![10000]⟩
abbrev S5000 : Shape := ⟨1, ![5000]⟩
abbrev S2500 : Shape := ⟨1, ![2500]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S10000x1 : Shape := ⟨2, ![10000, 1]⟩
abbrev S400x10000 : Shape := ⟨2, ![400, 10000]⟩
abbrev S400x1 : Shape := ⟨2, ![400, 1]⟩
abbrev S400 : Shape := ⟨1, ![400]⟩
abbrev S1x32 : Shape := ⟨2, ![1, 32]⟩
abbrev S10000x32 : Shape := ⟨2, ![10000, 32]⟩
abbrev S25x1x32 : Shape := ⟨3, ![25, 1, 32]⟩
abbrev S400x32 : Shape := ⟨2, ![400, 32]⟩
abbrev S1x1x32 : Shape := ⟨3, ![1, 1, 32]⟩
abbrev S5000x1 : Shape := ⟨2, ![5000, 1]⟩
abbrev S2500x1 : Shape := ⟨2, ![2500, 1]⟩
abbrev S1x1 : Shape := ⟨2, ![1, 1]⟩

abbrev nBuf : Space → Nat
  | .hbm => 91
  | .vmem => 84
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .i32⟩
  | .hbm, ⟨3, _⟩ => ⟨S5000, .i32⟩
  | .hbm, ⟨4, _⟩ => ⟨S2500, .i32⟩
  | .hbm, ⟨5, _⟩ => ⟨S128x32, .f32⟩
  | .hbm, ⟨6, _⟩ => ⟨S128x32, .f32⟩
  | .hbm, ⟨7, _⟩ => ⟨S32, .f32⟩
  | .hbm, ⟨8, _⟩ => ⟨S32, .f32⟩
  | .hbm, ⟨9, _⟩ => ⟨S32x32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S10000x10000, .bf16⟩
  | .hbm, ⟨25, _⟩ => ⟨S10000x1, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S10000x32, .f32⟩
  | .hbm, ⟨30, _⟩ => ⟨S10000x1, .f32⟩
  | .hbm, ⟨31, _⟩ => ⟨S25x1x32, .f32⟩
  | .hbm, ⟨32, _⟩ => ⟨S_, .f32⟩
  | .hbm, ⟨33, _⟩ => ⟨S10000, .f32⟩
  | .hbm, ⟨34, _⟩ => ⟨S_, .i32⟩
  | .hbm, ⟨35, _⟩ => ⟨S5000, .i32⟩
  | .hbm, ⟨36, _⟩ => ⟨S5000, .i1⟩
  | .hbm, ⟨37, _⟩ => ⟨S_, .i32⟩
  | .hbm, ⟨38, _⟩ => ⟨S5000, .i32⟩
  | .hbm, ⟨39, _⟩ => ⟨S5000, .i32⟩
  | .hbm, ⟨40, _⟩ => ⟨S5000, .i32⟩
  | .hbm, ⟨41, _⟩ => ⟨S5000x1, .i32⟩
  | .hbm, ⟨42, _⟩ => ⟨S_, .f32⟩
  | .hbm, ⟨43, _⟩ => ⟨S5000, .f32⟩
  | .hbm, ⟨44, _⟩ => ⟨S10000, .f32⟩
  | .hbm, ⟨45, _⟩ => ⟨S10000x1, .f32⟩
  | .hbm, ⟨46, _⟩ => ⟨S10000x1, .bf16⟩
  | .hbm, ⟨47, _⟩ => ⟨S10000x1, .f32⟩
  | .hbm, ⟨48, _⟩ => ⟨S10000x1, .f32⟩
  | .hbm, ⟨49, _⟩ => ⟨S1x32, .f32⟩
  | .hbm, ⟨50, _⟩ => ⟨S10000x32, .f32⟩
  | .hbm, ⟨51, _⟩ => ⟨S10000x1, .f32⟩
  | .hbm, ⟨52, _⟩ => ⟨S25x1x32, .f32⟩
  | .hbm, ⟨53, _⟩ => ⟨S_, .i32⟩
  | .hbm, ⟨54, _⟩ => ⟨S2500, .i32⟩
  | .hbm, ⟨55, _⟩ => ⟨S2500, .i1⟩
  | .hbm, ⟨56, _⟩ => ⟨S_, .i32⟩
  | .hbm, ⟨57, _⟩ => ⟨S2500, .i32⟩
  | .hbm, ⟨58, _⟩ => ⟨S2500, .i32⟩
  | .hbm, ⟨59, _⟩ => ⟨S2500, .i32⟩
  | .hbm, ⟨60, _⟩ => ⟨S2500x1, .i32⟩
  | .hbm, ⟨61, _⟩ => ⟨S2500, .i32⟩
  | .hbm, ⟨62, _⟩ => ⟨S_, .f32⟩
  | .hbm, ⟨63, _⟩ => ⟨S10000, .f32⟩
  | .hbm, ⟨64, _⟩ => ⟨S_, .i32⟩
  | .hbm, ⟨65, _⟩ => ⟨S2500, .i32⟩
  | .hbm, ⟨66, _⟩ => ⟨S2500, .i1⟩
  | .hbm, ⟨67, _⟩ => ⟨S_, .i32⟩
  | .hbm, ⟨68, _⟩ => ⟨S2500, .i32⟩
  | .hbm, ⟨69, _⟩ => ⟨S2500, .i32⟩
  | .hbm, ⟨70, _⟩ => ⟨S2500, .i32⟩
  | .hbm, ⟨71, _⟩ => ⟨S2500x1, .i32⟩
  | .hbm, ⟨72, _⟩ => ⟨S_, .f32⟩
  | .hbm, ⟨73, _⟩ => ⟨S2500, .f32⟩
  | .hbm, ⟨74, _⟩ => ⟨S10000, .f32⟩
  | .hbm, ⟨75, _⟩ => ⟨S10000x1, .f32⟩
  | .hbm, ⟨76, _⟩ => ⟨S10000x1, .bf16⟩
  | .hbm, ⟨77, _⟩ => ⟨S10000x1, .f32⟩
  | .hbm, ⟨78, _⟩ => ⟨S10000x1, .f32⟩
  | .hbm, ⟨79, _⟩ => ⟨S1x32, .f32⟩
  | .hbm, ⟨80, _⟩ => ⟨S10000x32, .f32⟩
  | .hbm, ⟨81, _⟩ => ⟨S10000x1, .f32⟩
  | .hbm, ⟨82, _⟩ => ⟨S25x1x32, .f32⟩
  | .hbm, ⟨83, _⟩ => ⟨S_, .f32⟩
  | .hbm, ⟨84, _⟩ => ⟨S1x32, .f32⟩
  | .hbm, ⟨85, _⟩ => ⟨S_, .f32⟩
  | .hbm, ⟨86, _⟩ => ⟨S1x32, .f32⟩
  | .hbm, ⟨87, _⟩ => ⟨S1x32, .f32⟩
  | .hbm, ⟨88, _⟩ => ⟨S1x1, .f32⟩
  | .hbm, ⟨89, _⟩ => ⟨S1x1, .f32⟩
  | .hbm, ⟨90, _⟩ => ⟨S1x1, .f32⟩
  | .local _ .vmem, ⟨0, _⟩ => ⟨S400x10000, .f32⟩
  | .local _ .vmem, ⟨1, _⟩ => ⟨S400x10000, .f32⟩
  | .local _ .vmem, ⟨2, _⟩ => ⟨S400x10000, .bf16⟩
  | .local _ .vmem, ⟨3, _⟩ => ⟨S400x10000, .bf16⟩
  | .local _ .vmem, ⟨4, _⟩ => ⟨S400x1, .f32⟩
  | .local _ .vmem, ⟨5, _⟩ => ⟨S400x1, .f32⟩
  | .local _ .vmem, ⟨6, _⟩ => ⟨S10000x128, .f32⟩
  | .local _ .vmem, ⟨7, _⟩ => ⟨S128x32, .f32⟩
  | .local _ .vmem, ⟨8, _⟩ => ⟨S128x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S400x10000, .bf16⟩
  | .local _ .vmem, ⟨13, _⟩ => ⟨S400x10000, .bf16⟩
  | .local _ .vmem, ⟨14, _⟩ => ⟨S10000x1, .f32⟩
  | .local _ .vmem, ⟨15, _⟩ => ⟨S400x1, .f32⟩
  | .local _ .vmem, ⟨16, _⟩ => ⟨S400x1, .f32⟩
  | .local _ .vmem, ⟨17, _⟩ => ⟨S10000x32, .f32⟩
  | .local _ .vmem, ⟨18, _⟩ => ⟨S400x32, .f32⟩
  | .local _ .vmem, ⟨19, _⟩ => ⟨S400x32, .f32⟩
  | .local _ .vmem, ⟨20, _⟩ => ⟨S32x1, .f32⟩
  | .local _ .vmem, ⟨21, _⟩ => ⟨S400x32, .f32⟩
  | .local _ .vmem, ⟨22, _⟩ => ⟨S400x32, .f32⟩
  | .local _ .vmem, ⟨23, _⟩ => ⟨S400x1, .f32⟩
  | .local _ .vmem, ⟨24, _⟩ => ⟨S400x1, .f32⟩
  | .local _ .vmem, ⟨25, _⟩ => ⟨S1x1x32, .f32⟩
  | .local _ .vmem, ⟨26, _⟩ => ⟨S1x1x32, .f32⟩
  | .local _ .vmem, ⟨27, _⟩ => ⟨S10000x32, .bf16⟩
  | .local _ .vmem, ⟨28, _⟩ => ⟨S400x10000, .bf16⟩
  | .local _ .vmem, ⟨29, _⟩ => ⟨S400x10000, .bf16⟩
  | .local _ .vmem, ⟨30, _⟩ => ⟨S10000x1, .bf16⟩
  | .local _ .vmem, ⟨31, _⟩ => ⟨S400x1, .f32⟩
  | .local _ .vmem, ⟨32, _⟩ => ⟨S400x1, .f32⟩
  | .local _ .vmem, ⟨33, _⟩ => ⟨S400x10000, .bf16⟩
  | .local _ .vmem, ⟨34, _⟩ => ⟨S400x10000, .bf16⟩
  | .local _ .vmem, ⟨35, _⟩ => ⟨S10000x1, .f32⟩
  | .local _ .vmem, ⟨36, _⟩ => ⟨S400x1, .f32⟩
  | .local _ .vmem, ⟨37, _⟩ => ⟨S400x1, .f32⟩
  | .local _ .vmem, ⟨38, _⟩ => ⟨S10000x1, .f32⟩
  | .local _ .vmem, ⟨39, _⟩ => ⟨S10000x1, .f32⟩
  | .local _ .vmem, ⟨40, _⟩ => ⟨S400x1, .f32⟩
  | .local _ .vmem, ⟨41, _⟩ => ⟨S400x1, .f32⟩
  | .local _ .vmem, ⟨42, _⟩ => ⟨S10000x32, .f32⟩
  | .local _ .vmem, ⟨43, _⟩ => ⟨S32x32, .f32⟩
  | .local _ .vmem, ⟨44, _⟩ => ⟨S32x32, .f32⟩
  | .local _ .vmem, ⟨45, _⟩ => ⟨S1x32, .f32⟩
  | .local _ .vmem, ⟨46, _⟩ => ⟨S32x1, .f32⟩
  | .local _ .vmem, ⟨47, _⟩ => ⟨S400x32, .f32⟩
  | .local _ .vmem, ⟨48, _⟩ => ⟨S400x32, .f32⟩
  | .local _ .vmem, ⟨49, _⟩ => ⟨S400x1, .f32⟩
  | .local _ .vmem, ⟨50, _⟩ => ⟨S400x1, .f32⟩
  | .local _ .vmem, ⟨51, _⟩ => ⟨S1x1x32, .f32⟩
  | .local _ .vmem, ⟨52, _⟩ => ⟨S1x1x32, .f32⟩
  | .local _ .vmem, ⟨53, _⟩ => ⟨S10000x32, .bf16⟩
  | .local _ .vmem, ⟨54, _⟩ => ⟨S10000x32, .bf16⟩
  | .local _ .vmem, ⟨55, _⟩ => ⟨S10000x32, .f32⟩
  | .local _ .vmem, ⟨56, _⟩ => ⟨S400x10000, .bf16⟩
  | .local _ .vmem, ⟨57, _⟩ => ⟨S400x10000, .bf16⟩
  | .local _ .vmem, ⟨58, _⟩ => ⟨S10000x1, .bf16⟩
  | .local _ .vmem, ⟨59, _⟩ => ⟨S400x1, .f32⟩
  | .local _ .vmem, ⟨60, _⟩ => ⟨S400x1, .f32⟩
  | .local _ .vmem, ⟨61, _⟩ => ⟨S400x10000, .bf16⟩
  | .local _ .vmem, ⟨62, _⟩ => ⟨S400x10000, .bf16⟩
  | .local _ .vmem, ⟨63, _⟩ => ⟨S10000x1, .f32⟩
  | .local _ .vmem, ⟨64, _⟩ => ⟨S400x1, .f32⟩
  | .local _ .vmem, ⟨65, _⟩ => ⟨S400x1, .f32⟩
  | .local _ .vmem, ⟨66, _⟩ => ⟨S10000x1, .f32⟩
  | .local _ .vmem, ⟨67, _⟩ => ⟨S10000x1, .f32⟩
  | .local _ .vmem, ⟨68, _⟩ => ⟨S400x1, .f32⟩
  | .local _ .vmem, ⟨69, _⟩ => ⟨S400x1, .f32⟩
  | .local _ .vmem, ⟨70, _⟩ => ⟨S10000x32, .f32⟩
  | .local _ .vmem, ⟨71, _⟩ => ⟨S32x32, .f32⟩
  | .local _ .vmem, ⟨72, _⟩ => ⟨S32x32, .f32⟩
  | .local _ .vmem, ⟨73, _⟩ => ⟨S1x32, .f32⟩
  | .local _ .vmem, ⟨74, _⟩ => ⟨S32x1, .f32⟩
  | .local _ .vmem, ⟨75, _⟩ => ⟨S400x32, .f32⟩
  | .local _ .vmem, ⟨76, _⟩ => ⟨S400x32, .f32⟩
  | .local _ .vmem, ⟨77, _⟩ => ⟨S400x1, .f32⟩
  | .local _ .vmem, ⟨78, _⟩ => ⟨S400x1, .f32⟩
  | .local _ .vmem, ⟨79, _⟩ => ⟨S1x1x32, .f32⟩
  | .local _ .vmem, ⟨80, _⟩ => ⟨S1x1x32, .f32⟩
  | .local _ .vmem, ⟨81, _⟩ => ⟨S10000x32, .bf16⟩
  | .local _ .vmem, ⟨82, _⟩ => ⟨S10000x32, .bf16⟩
  | .local _ .vmem, ⟨83, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_cst_0 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev main_c_3 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_5 : Ref sig .tc := ⟨.hbm, 62, rfl⟩
abbrev main_v32 : Ref sig .tc := ⟨.hbm, 63, rfl⟩
abbrev main_c_6 : Ref sig .tc := ⟨.hbm, 64, rfl⟩
abbrev main_v33 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46_0 : Ref sig .tc := ⟨.hbm, 80, rfl⟩
abbrev main_v46_1 : Ref sig .tc := ⟨.hbm, 81, rfl⟩
abbrev main_v46_2 : Ref sig .tc := ⟨.hbm, 82, rfl⟩
abbrev main_cst_9 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg10_0 : Ref sig .tc := ⟨.vmem, 46, rfl⟩
abbrev cc4_stg11_0 : Ref sig .tc := ⟨.vmem, 47, rfl⟩
abbrev cc4_stg11_1 : Ref sig .tc := ⟨.vmem, 48, rfl⟩
abbrev cc4_stg12_0 : Ref sig .tc := ⟨.vmem, 49, rfl⟩
abbrev cc4_stg12_1 : Ref sig .tc := ⟨.vmem, 50, rfl⟩
abbrev cc4_stg13_0 : Ref sig .tc := ⟨.vmem, 51, rfl⟩
abbrev cc4_stg13_1 : Ref sig .tc := ⟨.vmem, 52, rfl⟩
abbrev cc4_scratch0 : Ref sig .tc := ⟨.vmem, 53, rfl⟩
abbrev cc4_scratch1 : Ref sig .tc := ⟨.vmem, 54, rfl⟩
abbrev cc4_scratch2 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg2_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg5_1 : Ref sig .tc := ⟨.vmem, 69, rfl⟩
abbrev cc6_stg6_0 : Ref sig .tc := ⟨.vmem, 70, rfl⟩
abbrev cc6_stg7_0 : Ref sig .tc := ⟨.vmem, 71, rfl⟩
abbrev cc6_stg8_0 : Ref sig .tc := ⟨.vmem, 72, rfl⟩
abbrev cc6_stg9_0 : Ref sig .tc := ⟨.vmem, 73, rfl⟩
abbrev cc6_stg10_0 : Ref sig .tc := ⟨.vmem, 74, rfl⟩
abbrev cc6_stg11_0 : Ref sig .tc := ⟨.vmem, 75, rfl⟩
abbrev cc6_stg11_1 : Ref sig .tc := ⟨.vmem, 76, rfl⟩
abbrev cc6_stg12_0 : Ref sig .tc := ⟨.vmem, 77, rfl⟩
abbrev cc6_stg12_1 : Ref sig .tc := ⟨.vmem, 78, rfl⟩
abbrev cc6_stg13_0 : Ref sig .tc := ⟨.vmem, 79, rfl⟩
abbrev cc6_stg13_1 : Ref sig .tc := ⟨.vmem, 80, rfl⟩
abbrev cc6_scratch0 : Ref sig .tc := ⟨.vmem, 81, rfl⟩
abbrev cc6_scratch1 : Ref sig .tc := ⟨.vmem, 82, rfl⟩
abbrev cc6_scratch2 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem5_1 : DmaSem sig := 40
abbrev cc4_sem6_0 : DmaSem sig := 41
abbrev cc4_sem7_0 : DmaSem sig := 42
abbrev cc4_sem8_0 : DmaSem sig := 43
abbrev cc4_sem9_0 : DmaSem sig := 44
abbrev cc4_sem10_0 : DmaSem sig := 45
abbrev cc4_sem11_0 : DmaSem sig := 46
abbrev cc4_sem11_1 : DmaSem sig := 47
abbrev cc4_sem12_0 : DmaSem sig := 48
abbrev cc4_sem12_1 : DmaSem sig := 49
abbrev cc4_sem13_0 : DmaSem sig := 50
abbrev cc4_sem13_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem2_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem5_1 : DmaSem sig := 65
abbrev cc6_sem6_0 : DmaSem sig := 66
abbrev cc6_sem7_0 : DmaSem sig := 67
abbrev cc6_sem8_0 : DmaSem sig := 68
abbrev cc6_sem9_0 : DmaSem sig := 69
abbrev cc6_sem10_0 : DmaSem sig := 70
abbrev cc6_sem11_0 : DmaSem sig := 71
abbrev cc6_sem11_1 : DmaSem sig := 72
abbrev cc6_sem12_0 : DmaSem sig := 73
abbrev cc6_sem12_1 : DmaSem sig := 74
abbrev cc6_sem13_0 : DmaSem sig := 75
abbrev cc6_sem13_1 : DmaSem sig := 76

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S10000x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S10000x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S400x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x1 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_off1 (i : grid4.Coords) : Fin 2 → Nat :=
  let arg0 : BitVec 32 := BitVec.ofNat 32 (i 0).val
  let c400_i32 : BitVec 32 := 400#32
  let v11 : BitVec 32 := Scalar.muli arg0 c400_i32
  let v12 : Index := Scalar.indexCast v11
  let c0_6 : Index := 0#32
  ![v12.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S10000x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10000x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S400x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S10000x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S32x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x32 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S32x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S400x32 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S400x1 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S1x1x32 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x1 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def k6_off1 (i : grid6.Coords) : Fin 2 → Nat :=
  let arg0 : BitVec 32 := BitVec.ofNat 32 (i 0).val
  let c400_i32 : BitVec 32 := 400#32
  let v16 : BitVec 32 := Scalar.muli arg0 c400_i32
  let v17 : Index := Scalar.indexCast v16
  let c0_11 : Index := 0#32
  ![v17.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_13 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S10000x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S10000x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S400x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S10000x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S32x32 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x32 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S32x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S400x32 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S400x1 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev stage6_13 : Fin 2 → Memref sig .tc .vmem S1x1x32 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]
-- ==== ReferenceIdeal.lean ====
abbrev S10000x128 : Shape := ⟨2, ![10000, 128]⟩
abbrev S10000x10000 : Shape := ⟨2, ![10000, 10000]⟩
abbrev S10000 : Shape := ⟨1, ![10000]⟩
abbrev S5000 : Shape := ⟨1, ![5000]⟩
abbrev S2500 : Shape := ⟨1, ![2500]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩
abbrev S10000x1 : Shape := ⟨2, ![10000, 1]⟩
abbrev S1x10000 : Shape := ⟨2, ![1, 10000]⟩
abbrev S10000x32 : Shape := ⟨2, ![10000, 32]⟩
abbrev S1x32 : Shape := ⟨2, ![1, 32]⟩
abbrev S5000x1 : Shape := ⟨2, ![5000, 1]⟩
abbrev S5000x32 : Shape := ⟨2, ![5000, 32]⟩
abbrev S5000x10000 : Shape := ⟨2, ![5000, 10000]⟩
abbrev S5000x5000 : Shape := ⟨2, ![5000, 5000]⟩
abbrev S1x5000 : Shape := ⟨2, ![1, 5000]⟩
abbrev S2500x1 : Shape := ⟨2, ![2500, 1]⟩
abbrev S2500x32 : Shape := ⟨2, ![2500, 32]⟩
abbrev S2500x5000 : Shape := ⟨2, ![2500, 5000]⟩
abbrev S2500x2500 : Shape := ⟨2, ![2500, 2500]⟩
abbrev S1x2500 : Shape := ⟨2, ![1, 2500]⟩
abbrev S1x1 : Shape := ⟨2, ![1, 1]⟩

abbrev nBuf : Space → Nat
  | .hbm => 248
  | .vmem => 0
  | .smem => 0
  | _ => 0

abbrev hbmTy0_0 (i : Nat) : BufTy := match i % 128 with
  | 0 => ⟨S10000x128, .f32⟩
  | 1 => ⟨S10000x10000, .f32⟩
  | 2 => ⟨S10000, .i32⟩
  | 3 => ⟨S5000, .i32⟩
  | 4 => ⟨S2500, .i32⟩
  | 5 => ⟨S128x32, .f32⟩
  | 6 => ⟨S128x32, .f32⟩
  | 7 => ⟨S32, .f32⟩
  | 8 => ⟨S32, .f32⟩
  | 9 => ⟨S32x32, .f32⟩
  | 10 => ⟨S32x32, .f32⟩
  | 11 => ⟨S32, .f32⟩
  | 12 => ⟨S32x32, .f32⟩
  | 13 => ⟨S32x32, .f32⟩
  | 14 => ⟨S32, .f32⟩
  | 15 => ⟨S32x1, .f32⟩
  | 16 => ⟨S1, .f32⟩
  | 17 => ⟨S_, .f32⟩
  | 18 => ⟨S10000, .f32⟩
  | 19 => ⟨S_, .f32⟩
  | 20 => ⟨S10000, .f32⟩
  | 21 => ⟨S10000, .i1⟩
  | 22 => ⟨S10000, .f32⟩
  | 23 => ⟨S_, .f32⟩
  | 24 => ⟨S10000, .f32⟩
  | 25 => ⟨S10000, .f32⟩
  | 26 => ⟨S_, .f32⟩
  | 27 => ⟨S_, .f32⟩
  | 28 => ⟨S10000, .f32⟩
  | 29 => ⟨S10000, .f32⟩
  | 30 => ⟨S10000x1, .f32⟩
  | 31 => ⟨S10000x10000, .f32⟩
  | 32 => ⟨S10000x10000, .f32⟩
  | 33 => ⟨S1x10000, .f32⟩
  | 34 => ⟨S10000x10000, .f32⟩
  | 35 => ⟨S10000x10000, .f32⟩
  | 36 => ⟨S10000x32, .f32⟩
  | 37 => ⟨S10000x32, .f32⟩
  | 38 => ⟨S10000x32, .f32⟩
  | 39 => ⟨S10000x32, .f32⟩
  | 40 => ⟨S1x32, .f32⟩
  | 41 => ⟨S10000x32, .f32⟩
  | 42 => ⟨S10000x32, .f32⟩
  | 43 => ⟨S_, .f32⟩
  | 44 => ⟨S10000x32, .f32⟩
  | 45 => ⟨S10000x32, .f32⟩
  | 46 => ⟨S10000, .f32⟩
  | 47 => ⟨S32, .f32⟩
  | 48 => ⟨S_, .f32⟩
  | 49 => ⟨S_, .f32⟩
  | 50 => ⟨S_, .f32⟩
  | 51 => ⟨S10000, .f32⟩
  | 52 => ⟨S10000, .f32⟩
  | 53 => ⟨S_, .i32⟩
  | 54 => ⟨S5000, .i32⟩
  | 55 => ⟨S5000, .i1⟩
  | 56 => ⟨S_, .i32⟩
  | 57 => ⟨S5000, .i32⟩
  | 58 => ⟨S5000, .i32⟩
  | 59 => ⟨S5000, .i32⟩
  | 60 => ⟨S5000x1, .i32⟩
  | 61 => ⟨S5000, .f32⟩
  | 62 => ⟨S5000, .f32⟩
  | 63 => ⟨S5000, .f32⟩
  | 64 => ⟨S_, .f32⟩
  | 65 => ⟨S5000, .f32⟩
  | 66 => ⟨S5000, .f32⟩
  | 67 => ⟨S_, .f32⟩
  | 68 => ⟨S5000, .f32⟩
  | 69 => ⟨S5000, .f32⟩
  | 70 => ⟨S_, .i32⟩
  | 71 => ⟨S5000, .i32⟩
  | 72 => ⟨S5000, .i1⟩
  | 73 => ⟨S_, .i32⟩
  | 74 => ⟨S5000, .i32⟩
  | 75 => ⟨S5000, .i32⟩
  | 76 => ⟨S5000, .i32⟩
  | 77 => ⟨S5000x1, .i32⟩
  | 78 => ⟨S5000x32, .f32⟩
  | 79 => ⟨S5000x1, .f32⟩
  | 80 => ⟨S5000x32, .f32⟩
  | 81 => ⟨S5000x32, .f32⟩
  | 82 => ⟨S_, .i32⟩
  | 83 => ⟨S5000, .i32⟩
  | 84 => ⟨S5000, .i1⟩
  | 85 => ⟨S_, .i32⟩
  | 86 => ⟨S5000, .i32⟩
  | 87 => ⟨S5000, .i32⟩
  | 88 => ⟨S5000, .i32⟩
  | 89 => ⟨S5000x1, .i32⟩
  | 90 => ⟨S5000x10000, .f32⟩
  | 91 => ⟨S_, .i32⟩
  | 92 => ⟨S5000, .i32⟩
  | 93 => ⟨S5000, .i1⟩
  | 94 => ⟨S_, .i32⟩
  | 95 => ⟨S5000, .i32⟩
  | 96 => ⟨S5000, .i32⟩
  | 97 => ⟨S5000, .i32⟩
  | 98 => ⟨S5000x1, .i32⟩
  | 99 => ⟨S5000x5000, .f32⟩
  | 100 => ⟨S_, .i32⟩
  | 101 => ⟨S5000, .i32⟩
  | 102 => ⟨S5000, .i1⟩
  | 103 => ⟨S_, .i32⟩
  | 104 => ⟨S5000, .i32⟩
  | 105 => ⟨S5000, .i32⟩
  | 106 => ⟨S5000, .i32⟩
  | 107 => ⟨S5000x1, .i32⟩
  | 108 => ⟨S5000, .i32⟩
  | 109 => ⟨S_, .f32⟩
  | 110 => ⟨S5000, .f32⟩
  | 111 => ⟨S_, .f32⟩
  | 112 => ⟨S5000, .f32⟩
  | 113 => ⟨S5000, .i1⟩
  | 114 => ⟨S5000, .f32⟩
  | 115 => ⟨S_, .f32⟩
  | 116 => ⟨S5000, .f32⟩
  | 117 => ⟨S5000, .f32⟩
  | 118 => ⟨S_, .f32⟩
  | 119 => ⟨S_, .f32⟩
  | 120 => ⟨S5000, .f32⟩
  | 121 => ⟨S5000, .f32⟩
  | 122 => ⟨S5000x1, .f32⟩
  | 123 => ⟨S5000x5000, .f32⟩
  | 124 => ⟨S5000x5000, .f32⟩
  | 125 => ⟨S1x5000, .f32⟩
  | 126 => ⟨S5000x5000, .f32⟩
  | 127 => ⟨S5000x5000, .f32⟩
  | _ => ⟨S10000x128, .f32⟩

abbrev hbmTy0_1 (i : Nat) : BufTy := match i % 128 with
  | 0 => ⟨S5000x32, .f32⟩
  | 1 => ⟨S5000x32, .f32⟩
  | 2 => ⟨S5000x32, .f32⟩
  | 3 => ⟨S5000x32, .f32⟩
  | 4 => ⟨S1x32, .f32⟩
  | 5 => ⟨S5000x32, .f32⟩
  | 6 => ⟨S5000x32, .f32⟩
  | 7 => ⟨S_, .f32⟩
  | 8 => ⟨S5000x32, .f32⟩
  | 9 => ⟨S5000x32, .f32⟩
  | 10 => ⟨S5000, .f32⟩
  | 11 => ⟨S32, .f32⟩
  | 12 => ⟨S_, .f32⟩
  | 13 => ⟨S_, .f32⟩
  | 14 => ⟨S_, .f32⟩
  | 15 => ⟨S5000, .f32⟩
  | 16 => ⟨S5000, .f32⟩
  | 17 => ⟨S_, .i32⟩
  | 18 => ⟨S2500, .i32⟩
  | 19 => ⟨S2500, .i1⟩
  | 20 => ⟨S_, .i32⟩
  | 21 => ⟨S2500, .i32⟩
  | 22 => ⟨S2500, .i32⟩
  | 23 => ⟨S2500, .i32⟩
  | 24 => ⟨S2500x1, .i32⟩
  | 25 => ⟨S2500, .f32⟩
  | 26 => ⟨S2500, .f32⟩
  | 27 => ⟨S2500, .f32⟩
  | 28 => ⟨S_, .f32⟩
  | 29 => ⟨S2500, .f32⟩
  | 30 => ⟨S2500, .f32⟩
  | 31 => ⟨S_, .f32⟩
  | 32 => ⟨S2500, .f32⟩
  | 33 => ⟨S2500, .f32⟩
  | 34 => ⟨S_, .i32⟩
  | 35 => ⟨S2500, .i32⟩
  | 36 => ⟨S2500, .i1⟩
  | 37 => ⟨S_, .i32⟩
  | 38 => ⟨S2500, .i32⟩
  | 39 => ⟨S2500, .i32⟩
  | 40 => ⟨S2500, .i32⟩
  | 41 => ⟨S2500x1, .i32⟩
  | 42 => ⟨S2500x32, .f32⟩
  | 43 => ⟨S2500x1, .f32⟩
  | 44 => ⟨S2500x32, .f32⟩
  | 45 => ⟨S2500x32, .f32⟩
  | 46 => ⟨S_, .i32⟩
  | 47 => ⟨S2500, .i32⟩
  | 48 => ⟨S2500, .i1⟩
  | 49 => ⟨S_, .i32⟩
  | 50 => ⟨S2500, .i32⟩
  | 51 => ⟨S2500, .i32⟩
  | 52 => ⟨S2500, .i32⟩
  | 53 => ⟨S2500x1, .i32⟩
  | 54 => ⟨S2500x5000, .f32⟩
  | 55 => ⟨S_, .i32⟩
  | 56 => ⟨S2500, .i32⟩
  | 57 => ⟨S2500, .i1⟩
  | 58 => ⟨S_, .i32⟩
  | 59 => ⟨S2500, .i32⟩
  | 60 => ⟨S2500, .i32⟩
  | 61 => ⟨S2500, .i32⟩
  | 62 => ⟨S2500x1, .i32⟩
  | 63 => ⟨S2500x2500, .f32⟩
  | 64 => ⟨S_, .i32⟩
  | 65 => ⟨S2500, .i32⟩
  | 66 => ⟨S2500, .i1⟩
  | 67 => ⟨S_, .i32⟩
  | 68 => ⟨S2500, .i32⟩
  | 69 => ⟨S2500, .i32⟩
  | 70 => ⟨S2500, .i32⟩
  | 71 => ⟨S2500x1, .i32⟩
  | 72 => ⟨S2500, .i32⟩
  | 73 => ⟨S_, .f32⟩
  | 74 => ⟨S2500, .f32⟩
  | 75 => ⟨S_, .f32⟩
  | 76 => ⟨S2500, .f32⟩
  | 77 => ⟨S2500, .i1⟩
  | 78 => ⟨S2500, .f32⟩
  | 79 => ⟨S_, .f32⟩
  | 80 => ⟨S2500, .f32⟩
  | 81 => ⟨S2500, .f32⟩
  | 82 => ⟨S_, .f32⟩
  | 83 => ⟨S_, .f32⟩
  | 84 => ⟨S2500, .f32⟩
  | 85 => ⟨S2500, .f32⟩
  | 86 => ⟨S2500x1, .f32⟩
  | 87 => ⟨S2500x2500, .f32⟩
  | 88 => ⟨S2500x2500, .f32⟩
  | 89 => ⟨S1x2500, .f32⟩
  | 90 => ⟨S2500x2500, .f32⟩
  | 91 => ⟨S2500x2500, .f32⟩
  | 92 => ⟨S2500x32, .f32⟩
  | 93 => ⟨S2500x32, .f32⟩
  | 94 => ⟨S2500x32, .f32⟩
  | 95 => ⟨S2500x32, .f32⟩
  | 96 => ⟨S1x32, .f32⟩
  | 97 => ⟨S2500x32, .f32⟩
  | 98 => ⟨S2500x32, .f32⟩
  | 99 => ⟨S_, .f32⟩
  | 100 => ⟨S2500x32, .f32⟩
  | 101 => ⟨S2500x32, .f32⟩
  | 102 => ⟨S_, .f32⟩
  | 103 => ⟨S1x32, .f32⟩
  | 104 => ⟨S2500x1, .i32⟩
  | 105 => ⟨S1x32, .f32⟩
  | 106 => ⟨S_, .f32⟩
  | 107 => ⟨S2500x1, .f32⟩
  | 108 => ⟨S_, .f32⟩
  | 109 => ⟨S1x1, .f32⟩
  | 110 => ⟨S2500x1, .i32⟩
  | 111 => ⟨S1x1, .f32⟩
  | 112 => ⟨S_, .f32⟩
  | 113 => ⟨S1x1, .f32⟩
  | 114 => ⟨S1x1, .f32⟩
  | 115 => ⟨S1x32, .f32⟩
  | 116 => ⟨S1x32, .f32⟩
  | 117 => ⟨S1x1, .f32⟩
  | 118 => ⟨S1x1, .f32⟩
  | 119 => ⟨S1x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_cst : Ref sig .tc := ⟨.hbm, 43, rfl⟩
abbrev main_call1_v0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_c_7 : Ref sig .tc := ⟨.hbm, 70, rfl⟩
abbrev main_v40 : Ref sig .tc := ⟨.hbm, 71, rfl⟩
abbrev main_v41 : Ref sig .tc := ⟨.hbm, 72, rfl⟩
abbrev main_c_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_9 : Ref sig .tc := ⟨.hbm, 82, rfl⟩
abbrev main_v50 : Ref sig .tc := ⟨.hbm, 83, rfl⟩
abbrev main_v51 : Ref sig .tc := ⟨.hbm, 84, rfl⟩
abbrev main_c_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_15 : Ref sig .tc := ⟨.hbm, 109, rfl⟩
abbrev main_v71 : Ref sig .tc := ⟨.hbm, 110, rfl⟩
abbrev main_cst_16 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_17 : Ref sig .tc := ⟨.hbm, 115, rfl⟩
abbrev main_v75 : Ref sig .tc := ⟨.hbm, 116, rfl⟩
abbrev main_v76 : Ref sig .tc := ⟨.hbm, 117, rfl⟩
abbrev main_cst_18 : Ref sig .tc := ⟨.hbm, 118, rfl⟩
abbrev main_call2_v0 : Ref sig .tc := ⟨.hbm, 119, rfl⟩
abbrev main_call2_v1 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_call3_cst : Ref sig .tc := ⟨.hbm, 135, rfl⟩
abbrev main_call3_v0 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_19 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_20 : Ref sig .tc := ⟨.hbm, 145, rfl⟩
abbrev main_v98 : Ref sig .tc := ⟨.hbm, 146, rfl⟩
abbrev main_v99 : Ref sig .tc := ⟨.hbm, 147, rfl⟩
abbrev main_c_21 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_22 : Ref sig .tc := ⟨.hbm, 156, rfl⟩
abbrev main_v107 : Ref sig .tc := ⟨.hbm, 157, rfl⟩
abbrev main_v108 : Ref sig .tc := ⟨.hbm, 158, rfl⟩
abbrev main_cst_23 : Ref sig .tc := ⟨.hbm, 159, rfl⟩
abbrev main_v109 : Ref sig .tc := ⟨.hbm, 160, rfl⟩
abbrev main_v110 : Ref sig .tc := ⟨.hbm, 161, rfl⟩
abbrev main_c_24 : Ref sig .tc := ⟨.hbm, 162, rfl⟩
abbrev main_v111 : Ref sig .tc := ⟨.hbm, 163, rfl⟩
abbrev main_v112 : Ref sig .tc := ⟨.hbm, 164, rfl⟩
abbrev main_c_25 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_c_26 : Ref sig .tc := ⟨.hbm, 174, rfl⟩
abbrev main_v121 : Ref sig .tc := ⟨.hbm, 175, rfl⟩
abbrev main_v122 : Ref sig .tc := ⟨.hbm, 176, rfl⟩
abbrev main_c_27 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_c_28 : Ref sig .tc := ⟨.hbm, 183, rfl⟩
abbrev main_v128 : Ref sig .tc := ⟨.hbm, 184, rfl⟩
abbrev main_v129 : Ref sig .tc := ⟨.hbm, 185, rfl⟩
abbrev main_c_29 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_c_30 : Ref sig .tc := ⟨.hbm, 192, rfl⟩
abbrev main_v135 : Ref sig .tc := ⟨.hbm, 193, rfl⟩
abbrev main_v136 : Ref sig .tc := ⟨.hbm, 194, rfl⟩
abbrev main_c_31 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_32 : Ref sig .tc := ⟨.hbm, 201, rfl⟩
abbrev main_v142 : Ref sig .tc := ⟨.hbm, 202, rfl⟩
abbrev main_cst_33 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_34 : Ref sig .tc := ⟨.hbm, 207, rfl⟩
abbrev main_v146 : Ref sig .tc := ⟨.hbm, 208, rfl⟩
abbrev main_v147 : Ref sig .tc := ⟨.hbm, 209, rfl⟩
abbrev main_cst_35 : Ref sig .tc := ⟨.hbm, 210, rfl⟩
abbrev main_call4_v0 : Ref sig .tc := ⟨.hbm, 211, rfl⟩
abbrev main_call4_v1 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_call5_cst : Ref sig .tc := ⟨.hbm, 227, rfl⟩
abbrev main_call5_v0 : Ref sig .tc := ⟨.hbm, 228, rfl⟩
abbrev main_v162 : Ref sig .tc := ⟨.hbm, 229, rfl⟩
abbrev main_cst_36 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_cst_37 : Ref sig .tc := ⟨.hbm, 234, rfl⟩
abbrev main_v166 : Ref sig .tc := ⟨.hbm, 235, rfl⟩
abbrev main_cst_38 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_cst_39 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩

abbrev nD : Nat := 1
abbrev τ : Topo := Topo.v7x

variable {F : FTy → Type} [FloatOps F]
-- ==== Proof.KernelIdeal.Rects.lean ====
/- The whole-buffer rectangles the bodies load and store through. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r400x10000 : Rect S400x10000 := Rect.unit (s := S400x10000) ![0, 0] S400x10000.size inb_S400x10000_S400x10000_0_0
abbrev r400x1 : Rect S400x1 := Rect.unit (s := S400x1) ![0, 0] S400x1.size inb_S400x1_S400x1_0_0
abbrev r400x32 : Rect S400x32 := Rect.unit (s := S400x32) ![0, 0] S400x32.size inb_S400x32_S400x32_0_0
abbrev r10000x1 : Rect S10000x1 := Rect.unit (s := S10000x1) ![0, 0] S10000x1.size inb_S10000x1_S10000x1_0_0
abbrev r10000x32 : Rect S10000x32 := Rect.unit (s := S10000x32) ![0, 0] S10000x32.size inb_S10000x32_S10000x32_0_0
abbrev r10000x128 : Rect S10000x128 := Rect.unit (s := S10000x128) ![0, 0] S10000x128.size inb_S10000x128_S10000x128_0_0
abbrev r128x32 : Rect S128x32 := Rect.unit (s := S128x32) ![0, 0] S128x32.size inb_S128x32_S128x32_0_0
abbrev r32x32 : Rect S32x32 := Rect.unit (s := S32x32) ![0, 0] S32x32.size inb_S32x32_S32x32_0_0
abbrev r1x32 : Rect S1x32 := Rect.unit (s := S1x32) ![0, 0] S1x32.size inb_S1x32_S1x32_0_0
abbrev r32x1 : Rect S32x1 := Rect.unit (s := S32x1) ![0, 0] S32x1.size inb_S32x1_S32x1_0_0
abbrev r1x1x32 : Rect S1x1x32 := Rect.unit (s := S1x1x32) ![0, 0, 0] S1x1x32.size inb_S1x1x32_S1x1x32_0_0_0

end Cert.KernelIdeal.Calls

end

end
-- ==== Proof.KernelIdeal.Cast.lean ====
/- The call that casts the matrix and sums its rows: what one grid point does, and the proof data of the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Rects

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffers' contents when a call is entered
variable (V : (c : Dev nD) → (b : Ref sig .tc) → Buf (Elt F) ((c : Thread nD τ).loc b))

/-! ## Casting and the first row sums -/

/-- Window `w`'s block at grid point `t`, cut out of its array at the entry contents `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- What the body leaves in output window 1. -/
def out0_1 (x0 : Vec F S400x10000 .f32)  : Vec F S400x10000 .bf16 :=
  View.canon [⟨r400x10000, k0_pay1 (View.ld x0 r400x10000)⟩]
theorem cov0_1 (p : Vec F S400x10000 .bf16) (y : S400x10000.Idx) : ∃ pc ∈ ([⟨r400x10000, p⟩] : List (View.Piece (Elt F) S400x10000 .bf16)), y ∈ pc.1.set :=
  View.cover_of_tiled [⟨r400x10000, p⟩] S400x10000.size (by rfl) y
/-- What the body leaves in output window 2. -/
def out0_2 (x0 : Vec F S400x10000 .f32)  : Vec F S400x1 .f32 :=
  View.canon [⟨r400x1, k0_pay2 (View.ld x0 r400x10000)⟩]
theorem cov0_2 (p : Vec F S400x1 .f32) (y : S400x1.Idx) : ∃ pc ∈ ([⟨r400x1, p⟩] : List (View.Piece (Elt F) S400x1 .f32)), y ∈ pc.1.set :=
  View.cover_of_tiled [⟨r400x1, p⟩] S400x1.size (by rfl) y

set_option maxHeartbeats 4000000 in
/-- The body on whole staging buffers: the inputs come back as they were, each output at its function of them. -/
theorem triple0 (c : Dev nD) (E : Set ℕ) (i : grid0.Coords) (arg1 : Memref sig .tc .vmem S400x10000 .f32) (harg1 : arg1.IsWhole) (arg2 : Memref sig .tc .vmem S400x10000 .bf16) (harg2 : arg2.IsWhole) (arg3 : Memref sig .tc .vmem S400x1 .f32) (harg3 : arg3.IsWhole)
    (x0 : Vec F S400x10000 .f32)  (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__cast_deg_body i arg1 harg1 arg2 harg2 arg3 harg3) K := by
  simp only [cc0__cast_deg_body_eq_skeleton]; unfold cc0__cast_deg_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists _; isplitr
    swap; · iexact H0
    ipureintro; rfl
  isplitl [H1]
  · iexists _; isplitr
    swap; · iexact H1
    ipureintro
    refine (View.read_writes_eq_canon _ _ _ (cov0_1 _)).trans ?_
    unfold out0_1
    rfl
  iexists _; isplitr
  swap; · iexact H2
  ipureintro
  refine (View.read_writes_eq_canon _ _ _ (cov0_2 _)).trans ?_
  unfold out0_2
  rfl

/-- The call's proof data at the entry contents `V`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => out0_1 (blk0 V c 0 t)
    | ⟨2, _⟩ => out0_2 (blk0 V c 0 t)
  Φ _ := Pipeline.ΦA spec0 c
  q _ := fullShare
  owed _ := 0
theorem entry0 (c : Dev nD) (w : Fin cfg0.W) : (dat0 V c).A w = V c (Pipeline.arrRef spec0 w) := by dsimp only [dat0]
theorem leaves0_0 (c : Dev nD) (t : Fin cfg0.N) : (dat0 V c).after 0 t = blk0 V c 0 t := by dsimp only [dat0]
theorem leaves0_1 (c : Dev nD) (t : Fin cfg0.N) : (dat0 V c).after 1 t = out0_1 (blk0 V c 0 t) := by dsimp only [dat0]
theorem leaves0_2 (c : Dev nD) (t : Fin cfg0.N) : (dat0 V c).after 2 t = out0_2 (blk0 V c 0 t) := by dsimp only [dat0]
theorem held0_0 (c : Dev nD) (t : Fin cfg0.N) (d) : (dat0 V c).before 0 t d = blk0 V c 0 t :=
  ((dat0 V c).before_in_eq_fetched 0 rfl (fun _ => rfl) (fun _ _ _ => rfl)
    (fun t => by rw [leaves0_0]; unfold Dat.blockOf blk0; rw [entry0]; try rfl) t d).trans
    (by unfold Dat.fetched Dat.blockOf blk0; rw [entry0]; try rfl)

/-- What the body is called with at a point, and what it gives back. -/
def pre0 (c : Dev nD) (t : Fin cfg0.N) : sProp 𝕄 :=
  iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)))
def post0 (c : Dev nD) (t : Fin cfg0.N) : sProp 𝕄 :=
  iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t))

set_option maxHeartbeats 1000000 in
theorem step0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0]
  rw [show (dat0 V c).Φ t.succ = (dat0 V c).Φ t.castSucc from rfl,
    show (dat0 V c).owesAt () t.succ = (dat0 V c).owesAt () t.castSucc from rfl, leaves0_0, leaves0_1, leaves0_2]
  iintro ⟨HΦ, Ho, ⟨%d0, H0⟩, ⟨%d1, H1⟩, ⟨%d2, H2⟩⟩
  iapply (triple0 c Set.univ (grid0.coords t) _ _ _ _ _ _ (blk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]
/-- The body's obligation at every point. -/
theorem body0 (c : Dev nD) : BodyObligation (dat0 (F := F) V c) (defs₀ (F := F)) Variants.none () Set.univ := fun t => by
  rw [bigSep_W0, bigSep_W0, row0]
  exact triple_restated (step0 V c t) rfl .rfl fun _ => .rfl

end Entry

end Cert.KernelIdeal.Calls

end

end
-- ==== Proof.KernelIdeal.Proj.lean ====
/- The call that projects the input features: what its one point does, and the proof data of the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Rects

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffers' contents when a call is entered
variable (V : (c : Dev nD) → (b : Ref sig .tc) → Buf (Elt F) ((c : Thread nD τ).loc b))

/-! ## The two projections of the input features -/

/-- Window `w`'s block at grid point `t`, cut out of its array at the entry contents `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- What the body leaves in output window 4. -/
def out1_4 (x0 : Vec F S10000x128 .f32) (x1 : Vec F S128x32 .f32)  : Vec F S10000x32 .f32 :=
  View.canon [⟨r10000x32, k1_pay1 (View.ld x0 r10000x128) (View.ld x1 r128x32)⟩]
theorem cov1_4 (p : Vec F S10000x32 .f32) (y : S10000x32.Idx) : ∃ pc ∈ ([⟨r10000x32, p⟩] : List (View.Piece (Elt F) S10000x32 .f32)), y ∈ pc.1.set :=
  View.cover_of_tiled [⟨r10000x32, p⟩] S10000x32.size (by rfl) y
/-- What the body leaves in output window 5. -/
def out1_5 (x0 : Vec F S10000x128 .f32) (x2 : Vec F S128x32 .f32) (x3 : Vec F S1x32 .f32)  : Vec F S10000x32 .f32 :=
  View.canon [⟨r10000x32, k1_pay2 (View.ld x0 r10000x128) (View.ld x2 r128x32) (View.ld x3 r1x32)⟩]
theorem cov1_5 (p : Vec F S10000x32 .f32) (y : S10000x32.Idx) : ∃ pc ∈ ([⟨r10000x32, p⟩] : List (View.Piece (Elt F) S10000x32 .f32)), y ∈ pc.1.set :=
  View.cover_of_tiled [⟨r10000x32, p⟩] S10000x32.size (by rfl) y

set_option maxHeartbeats 4000000 in
/-- The body on whole staging buffers: the inputs come back as they were, each output at its function of them. -/
theorem triple1 (c : Dev nD) (E : Set ℕ) (arg0 : Memref sig .tc .vmem S10000x128 .f32) (harg0 : arg0.IsWhole) (arg1 : Memref sig .tc .vmem S128x32 .f32) (harg1 : arg1.IsWhole) (arg2 : Memref sig .tc .vmem S128x32 .f32) (harg2 : arg2.IsWhole) (arg3 : Memref sig .tc .vmem S1x32 .f32) (harg3 : arg3.IsWhole) (arg4 : Memref sig .tc .vmem S10000x32 .f32) (harg4 : arg4.IsWhole) (arg5 : Memref sig .tc .vmem S10000x32 .f32) (harg5 : arg5.IsWhole)
    (x0 : Vec F S10000x128 .f32) (x1 : Vec F S128x32 .f32) (x2 : Vec F S128x32 .f32) (x3 : Vec F S1x32 .f32)  (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1) ∗ owns (c : Thread nD τ) arg5 fullShare (out1_5 x0 x2 x3)) -∗ K ⟨⟩))
      ⊢ wp frame (wpE (defs₀ (F := F)) Variants.none c none) E (cc1__proj_body arg0 harg0 arg1 harg1 arg2 harg2 arg3 harg3 arg4 harg4 arg5 harg5) K := by
  simp only [cc1__proj_body_eq_skeleton]; unfold cc1__proj_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro
    refine (View.read_writes_eq_canon _ _ _ (cov1_4 _)).trans ?_
    unfold out1_4
    rfl
  iexists _; isplitr
  swap; · iexact H5
  ipureintro
  refine (View.read_writes_eq_canon _ _ _ (cov1_5 _)).trans ?_
  unfold out1_5
  rfl

/-- The call's proof data at the entry contents `V`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => out1_4 (blk1 V c 0 t) (blk1 V c 1 t)
    | ⟨5, _⟩ => out1_5 (blk1 V c 0 t) (blk1 V c 2 t) (blk1 V c 3 t)
  Φ _ := Pipeline.ΦA spec1 c
  q _ := fullShare
  owed _ := 0
theorem entry1 (c : Dev nD) (w : Fin cfg1.W) : (dat1 V c).A w = V c (Pipeline.arrRef spec1 w) := by dsimp only [dat1]
theorem leaves1_0 (c : Dev nD) (t : Fin cfg1.N) : (dat1 V c).after 0 t = blk1 V c 0 t := by dsimp only [dat1]
theorem leaves1_1 (c : Dev nD) (t : Fin cfg1.N) : (dat1 V c).after 1 t = blk1 V c 1 t := by dsimp only [dat1]
theorem leaves1_2 (c : Dev nD) (t : Fin cfg1.N) : (dat1 V c).after 2 t = blk1 V c 2 t := by dsimp only [dat1]
theorem leaves1_3 (c : Dev nD) (t : Fin cfg1.N) : (dat1 V c).after 3 t = blk1 V c 3 t := by dsimp only [dat1]
theorem leaves1_4 (c : Dev nD) (t : Fin cfg1.N) : (dat1 V c).after 4 t = out1_4 (blk1 V c 0 t) (blk1 V c 1 t) := by dsimp only [dat1]
theorem leaves1_5 (c : Dev nD) (t : Fin cfg1.N) : (dat1 V c).after 5 t = out1_5 (blk1 V c 0 t) (blk1 V c 2 t) (blk1 V c 3 t) := by dsimp only [dat1]
theorem held1_0 (c : Dev nD) (t : Fin cfg1.N) (d) : (dat1 V c).before 0 t d = blk1 V c 0 t :=
  ((dat1 V c).before_in_eq_fetched 0 rfl (fun _ => rfl) (fun _ _ _ => rfl)
    (fun t => by rw [leaves1_0]; unfold Dat.blockOf blk1; rw [entry1]; try rfl) t d).trans
    (by unfold Dat.fetched Dat.blockOf blk1; rw [entry1]; try rfl)
theorem held1_1 (c : Dev nD) (t : Fin cfg1.N) (d) : (dat1 V c).before 1 t d = blk1 V c 1 t :=
  ((dat1 V c).before_in_eq_fetched 1 rfl (fun _ => rfl) (fun _ _ _ => rfl)
    (fun t => by rw [leaves1_1]; unfold Dat.blockOf blk1; rw [entry1]; try rfl) t d).trans
    (by unfold Dat.fetched Dat.blockOf blk1; rw [entry1]; try rfl)
theorem held1_2 (c : Dev nD) (t : Fin cfg1.N) (d) : (dat1 V c).before 2 t d = blk1 V c 2 t :=
  ((dat1 V c).before_in_eq_fetched 2 rfl (fun _ => rfl) (fun _ _ _ => rfl)
    (fun t => by rw [leaves1_2]; unfold Dat.blockOf blk1; rw [entry1]; try rfl) t d).trans
    (by unfold Dat.fetched Dat.blockOf blk1; rw [entry1]; try rfl)
theorem held1_3 (c : Dev nD) (t : Fin cfg1.N) (d) : (dat1 V c).before 3 t d = blk1 V c 3 t :=
  ((dat1 V c).before_in_eq_fetched 3 rfl (fun _ => rfl) (fun _ _ _ => rfl)
    (fun t => by rw [leaves1_3]; unfold Dat.blockOf blk1; rw [entry1]; try rfl) t d).trans
    (by unfold Dat.fetched Dat.blockOf blk1; rw [entry1]; try rfl)

/-- What the body is called with at a point, and what it gives back. -/
def pre1 (c : Dev nD) (t : Fin cfg1.N) : sProp 𝕄 :=
  iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)))
def post1 (c : Dev nD) (t : Fin cfg1.N) : sProp 𝕄 :=
  iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t) ∗ owns (c : Thread nD τ) (st1_3 t) fullShare ((dat1 V c).after 3 t) ∗ owns (c : Thread nD τ) (st1_4 t) fullShare ((dat1 V c).after 4 t) ∗ owns (c : Thread nD τ) (st1_5 t) fullShare ((dat1 V c).after 5 t))

set_option maxHeartbeats 1000000 in
theorem step1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2, held1_3]
  rw [show (dat1 V c).Φ t.succ = (dat1 V c).Φ t.castSucc from rfl,
    show (dat1 V c).owesAt () t.succ = (dat1 V c).owesAt () t.castSucc from rfl, leaves1_0, leaves1_1, leaves1_2, leaves1_3, leaves1_4, leaves1_5]
  iintro ⟨HΦ, Ho, ⟨%d0, H0⟩, ⟨%d1, H1⟩, ⟨%d2, H2⟩, ⟨%d3, H3⟩, ⟨%d4, H4⟩, ⟨%d5, H5⟩⟩
  iapply (triple1 c Set.univ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row1 (t : Fin cfg1.N) : defs₀ (F := F) .tc cfg1.body (cfg1.bodyArgs t (cfg1.slots t)) = bodyAt1 t := by
  unfold defs₀; rw [Defs.onTc_tc]
/-- The body's obligation at every point. -/
theorem body1 (c : Dev nD) : BodyObligation (dat1 (F := F) V c) (defs₀ (F := F)) Variants.none () Set.univ := fun t => by
  rw [bigSep_W1, bigSep_W1, row1]
  exact triple_restated (step1 V c t) rfl .rfl fun _ => .rfl

end Entry

end Cert.KernelIdeal.Calls

end

end
-- ==== Proof.KernelIdeal.Conv1.lean ====
/- The call of the first convolution. Its first grid point fills a scratch buffer that every point reads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Rects

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffers' contents when a call is entered
variable (V : (c : Dev nD) → (b : Ref sig .tc) → Buf (Elt F) ((c : Thread nD τ).loc b))

/-! ## The first convolution -/

/-- Window `w`'s block at grid point `t`, cut out of its array at the entry contents `V`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- Scratch buffer 0 once the first point has filled it. -/
def scr2_0 (x1 : Vec F S10000x1 .f32) (x3 : Vec F S10000x32 .f32) : Vec F S10000x32 .bf16 :=
  View.canon [⟨r10000x32, k2_pay1 (View.ld x1 r10000x1) (View.ld x3 r10000x32)⟩]
theorem scov2_0 (p : Vec F S10000x32 .bf16) (y : S10000x32.Idx) : ∃ pc ∈ ([⟨r10000x32, p⟩] : List (View.Piece (Elt F) S10000x32 .bf16)), y ∈ pc.1.set :=
  View.cover_of_tiled [⟨r10000x32, p⟩] S10000x32.size (by rfl) y
/-- What the body leaves in output window 6. -/
def out2_6 (x0 : Vec F S400x10000 .bf16) (x2 : Vec F S400x1 .f32) (x4 : Vec F S400x32 .f32) (s0 : Vec F S10000x32 .bf16) : Vec F S400x32 .f32 :=
  View.canon [⟨r400x32, k2_pay2 (View.ld x0 r400x10000) (View.ld s0 r10000x32) (View.ld x2 r400x1) (View.ld x4 r400x32)⟩]
theorem cov2_6 (p : Vec F S400x32 .f32) (y : S400x32.Idx) : ∃ pc ∈ ([⟨r400x32, p⟩] : List (View.Piece (Elt F) S400x32 .f32)), y ∈ pc.1.set :=
  View.cover_of_tiled [⟨r400x32, p⟩] S400x32.size (by rfl) y
/-- What the body leaves in output window 7. -/
def out2_7 (x0 : Vec F S400x10000 .bf16) (x2 : Vec F S400x1 .f32) (x4 : Vec F S400x32 .f32) (x5 : Vec F S32x1 .f32) (s0 : Vec F S10000x32 .bf16) : Vec F S400x1 .f32 :=
  View.canon [⟨r400x1, k2_pay3 (View.ld x0 r400x10000) (View.ld s0 r10000x32) (View.ld x2 r400x1) (View.ld x4 r400x32) (View.ld x5 r32x1)⟩]
theorem cov2_7 (p : Vec F S400x1 .f32) (y : S400x1.Idx) : ∃ pc ∈ ([⟨r400x1, p⟩] : List (View.Piece (Elt F) S400x1 .f32)), y ∈ pc.1.set :=
  View.cover_of_tiled [⟨r400x1, p⟩] S400x1.size (by rfl) y
/-- What the body leaves in output window 8. -/
def out2_8 (x0 : Vec F S400x10000 .bf16) (x2 : Vec F S400x1 .f32) (x4 : Vec F S400x32 .f32) (s0 : Vec F S10000x32 .bf16) : Vec F S1x1x32 .f32 :=
  View.canon [⟨r1x1x32, k2_pay4 (View.ld x0 r400x10000) (View.ld s0 r10000x32) (View.ld x2 r400x1) (View.ld x4 r400x32)⟩]
theorem cov2_8 (p : Vec F S1x1x32 .f32) (y : S1x1x32.Idx) : ∃ pc ∈ ([⟨r1x1x32, p⟩] : List (View.Piece (Elt F) S1x1x32 .f32)), y ∈ pc.1.set :=
  View.cover_of_tiled [⟨r1x1x32, p⟩] S1x1x32.size (by rfl) y

set_option maxHeartbeats 4000000 in
/-- The body at the first point, where it fills the scratch buffers before it reads them. -/
theorem triple2A (c : Dev nD) (E : Set ℕ) (i : grid2.Coords) (arg1 : Memref sig .tc .vmem S400x10000 .bf16) (harg1 : arg1.IsWhole) (arg2 : Memref sig .tc .vmem S10000x1 .f32) (harg2 : arg2.IsWhole) (arg3 : Memref sig .tc .vmem S400x1 .f32) (harg3 : arg3.IsWhole) (arg4 : Memref sig .tc .vmem S10000x32 .f32) (harg4 : arg4.IsWhole) (arg5 : Memref sig .tc .vmem S400x32 .f32) (harg5 : arg5.IsWhole) (arg6 : Memref sig .tc .vmem S32x1 .f32) (harg6 : arg6.IsWhole) (arg7 : Memref sig .tc .vmem S400x32 .f32) (harg7 : arg7.IsWhole) (arg8 : Memref sig .tc .vmem S400x1 .f32) (harg8 : arg8.IsWhole) (arg9 : Memref sig .tc .vmem S1x1x32 .f32) (harg9 : arg9.IsWhole) (arg10 : Memref sig .tc .vmem S10000x32 .bf16) (harg10 : arg10.IsWhole) (hc : Scalar.cmpi .ne (Scalar.extui (Scalar.cmpi .eq (BitVec.ofNat 32 (i 0).val) 0#32)) 0#32 = 1#1)
    (x0 : Vec F S400x10000 .bf16) (x1 : Vec F S10000x1 .f32) (x2 : Vec F S400x1 .f32) (x3 : Vec F S10000x32 .f32) (x4 : Vec F S400x32 .f32) (x5 : Vec F S32x1 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x2 x4 (scr2_0 x1 x3)) ∗ owns (c : Thread nD τ) arg8 fullShare (out2_7 x0 x2 x4 x5 (scr2_0 x1 x3)) ∗ owns (c : Thread nD τ) arg9 fullShare (out2_8 x0 x2 x4 (scr2_0 x1 x3)) ∗ owns (c : Thread nD τ) arg10 fullShare (scr2_0 x1 x3)) -∗ K ⟨⟩))
      ⊢ wp frame (wpE (defs₀ (F := F)) Variants.none c none) E (cc2__conv1_body i arg1 harg1 arg2 harg2 arg3 harg3 arg4 harg4 arg5 harg5 arg6 harg6 arg7 harg7 arg8 harg8 arg9 harg9 arg10 harg10) K := by
  simp only [cc2__conv1_body_eq_skeleton]; unfold cc2__conv1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%e0, %g0, -, G0⟩, Hk⟩
  subst hf0; subst hf1; subst hf2; subst hf3; subst hf4; subst hf5
  sl_exec (disch := first | sl_exact hc)
  sl_step
  iapply Hk
  have hs0 := fun p => View.read_writes_eq_canon (Val := Elt F) arg10.view g0 _ (scov2_0 p)
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro
    refine (View.read_writes_eq_canon _ _ _ (cov2_6 _)).trans ?_
    unfold out2_6 scr2_0
    unfold triple2A.sl.v5
    simp only [View.readCov_eq_canon']
    rfl
  isplitl [H7]
  · iexists _; isplitr
    swap; · iexact H7
    ipureintro
    refine (View.read_writes_eq_canon _ _ _ (cov2_7 _)).trans ?_
    unfold out2_7 scr2_0
    unfold triple2A.sl.v5
    simp only [View.readCov_eq_canon']
    rfl
  isplitl [H8]
  · iexists _; isplitr
    swap; · iexact H8
    ipureintro
    refine (View.read_writes_eq_canon _ _ _ (cov2_8 _)).trans ?_
    unfold out2_8 scr2_0
    unfold triple2A.sl.v5
    simp only [View.readCov_eq_canon']
    rfl
  iexists _; isplitr
  swap; · iexact G0
  ipureintro
  exact hs0 _

set_option maxHeartbeats 4000000 in
/-- The body at a later point, where it finds the scratch buffers filled. -/
theorem triple2B (c : Dev nD) (E : Set ℕ) (i : grid2.Coords) (arg1 : Memref sig .tc .vmem S400x10000 .bf16) (harg1 : arg1.IsWhole) (arg2 : Memref sig .tc .vmem S10000x1 .f32) (harg2 : arg2.IsWhole) (arg3 : Memref sig .tc .vmem S400x1 .f32) (harg3 : arg3.IsWhole) (arg4 : Memref sig .tc .vmem S10000x32 .f32) (harg4 : arg4.IsWhole) (arg5 : Memref sig .tc .vmem S400x32 .f32) (harg5 : arg5.IsWhole) (arg6 : Memref sig .tc .vmem S32x1 .f32) (harg6 : arg6.IsWhole) (arg7 : Memref sig .tc .vmem S400x32 .f32) (harg7 : arg7.IsWhole) (arg8 : Memref sig .tc .vmem S400x1 .f32) (harg8 : arg8.IsWhole) (arg9 : Memref sig .tc .vmem S1x1x32 .f32) (harg9 : arg9.IsWhole) (arg10 : Memref sig .tc .vmem S10000x32 .bf16) (harg10 : arg10.IsWhole) (hc : ¬ (Scalar.cmpi .ne (Scalar.extui (Scalar.cmpi .eq (BitVec.ofNat 32 (i 0).val) 0#32)) 0#32 = 1#1))
    (x0 : Vec F S400x10000 .bf16) (x1 : Vec F S10000x1 .f32) (x2 : Vec F S400x1 .f32) (x3 : Vec F S10000x32 .f32) (x4 : Vec F S400x32 .f32) (x5 : Vec F S32x1 .f32) (s0 : Vec F S10000x32 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x2 x4 s0) ∗ owns (c : Thread nD τ) arg8 fullShare (out2_7 x0 x2 x4 x5 s0) ∗ owns (c : Thread nD τ) arg9 fullShare (out2_8 x0 x2 x4 s0) ∗ owns (c : Thread nD τ) arg10 fullShare s0) -∗ K ⟨⟩))
      ⊢ wp frame (wpE (defs₀ (F := F)) Variants.none c none) E (cc2__conv1_body i arg1 harg1 arg2 harg2 arg3 harg3 arg4 harg4 arg5 harg5 arg6 harg6 arg7 harg7 arg8 harg8 arg9 harg9 arg10 harg10) K := by
  simp only [cc2__conv1_body_eq_skeleton]; unfold cc2__conv1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, G0⟩, Hk⟩
  subst hf0; subst hf1; subst hf2; subst hf3; subst hf4; subst hf5; subst hg0
  sl_exec (disch := first | sl_exact hc)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro
    exact View.read_writes_eq_canon _ _ _ (cov2_6 _)
  isplitl [H7]
  · iexists _; isplitr
    swap; · iexact H7
    ipureintro
    exact View.read_writes_eq_canon _ _ _ (cov2_7 _)
  isplitl [H8]
  · iexists _; isplitr
    swap; · iexact H8
    ipureintro
    exact View.read_writes_eq_canon _ _ _ (cov2_8 _)
  iexists _; isplitr
  swap; · iexact G0
  ipureintro; rfl

/-- The first grid point. -/
def pt2 : Fin cfg2.N := ⟨0, by rw [show cfg2.N = 25 from N_2]; decide⟩
/-- Scratch buffer 0 from the first point on. -/
def held2s_0 (c : Dev nD) : Vec F S10000x32 .bf16 := scr2_0 (blk2 V c 1 pt2) (blk2 V c 3 pt2)
/-- Between points: before the first nothing is known of the scratch buffers; afterwards each holds what the first point put in it. -/
def inv2 (c : Dev nD) : (n : ℕ) → n ≤ cfg2.N → sProp 𝕄
  | 0, _ => Pipeline.ΦA spec2 c
  | _ + 1, _ => iprop(iprop(owns (c : Thread nD τ) (Memref.whole cc2_scratch0) fullShare (held2s_0 V c)) ∗ Pipeline.scopedRestBut (Ix := Unit) (Name := ℕ) (U := UR sig nD τ) (Lvl := ℕ) (Val := Elt F) spec2 c [cc2_scratch0] ∗ ∃ r, prngReg c r)
theorem inv2_zero (c : Dev nD) (n : ℕ) (h : n ≤ cfg2.N) (hz : n = 0) : inv2 V c n h = Pipeline.ΦA spec2 c := by
  subst hz; rfl
theorem inv2_pos (c : Dev nD) (n : ℕ) (h : n ≤ cfg2.N) (hz : n ≠ 0) :
    inv2 V c n h = iprop(iprop(owns (c : Thread nD τ) (Memref.whole cc2_scratch0) fullShare (held2s_0 V c)) ∗ Pipeline.scopedRestBut (Ix := Unit) (Name := ℕ) (U := UR sig nD τ) (Lvl := ℕ) (Val := Elt F) spec2 c [cc2_scratch0] ∗ ∃ r, prngReg c r) := by
  cases n with
  | zero => exact absurd rfl hz
  | succ n => rfl
theorem any2 (c : Dev nD) : (Pipeline.ΦA spec2 c : sProp 𝕄) = iprop(iprop(iprop((∃ d, owns (c : Thread nD τ) (Memref.whole cc2_scratch0) fullShare d)) ∗ Pipeline.scopedRestBut (Ix := Unit) (Name := ℕ) (U := UR sig nD τ) (Lvl := ℕ) (Val := Elt F) spec2 c [cc2_scratch0]) ∗ ∃ r, prngReg c r) := by
  unfold Pipeline.ΦA; rw [scopedRest2_split]; simp only [owns_whole]

/-- The call's proof data at the entry contents `V`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => out2_6 (blk2 V c 0 t) (blk2 V c 2 t) (blk2 V c 4 t) (held2s_0 V c)
    | ⟨7, _⟩ => out2_7 (blk2 V c 0 t) (blk2 V c 2 t) (blk2 V c 4 t) (blk2 V c 5 t) (held2s_0 V c)
    | ⟨8, _⟩ => out2_8 (blk2 V c 0 t) (blk2 V c 2 t) (blk2 V c 4 t) (held2s_0 V c)
  Φ t := inv2 V c t.val (Nat.le_of_lt_succ t.isLt)
  q w := Pipeline.shareOf spec2 w
  owed _ := 0
theorem entry2 (c : Dev nD) (w : Fin cfg2.W) : (dat2 V c).A w = V c (Pipeline.arrRef spec2 w) := by dsimp only [dat2]
theorem leaves2_0 (c : Dev nD) (t : Fin cfg2.N) : (dat2 V c).after 0 t = blk2 V c 0 t := by dsimp only [dat2]
theorem leaves2_1 (c : Dev nD) (t : Fin cfg2.N) : (dat2 V c).after 1 t = blk2 V c 1 t := by dsimp only [dat2]
theorem leaves2_2 (c : Dev nD) (t : Fin cfg2.N) : (dat2 V c).after 2 t = blk2 V c 2 t := by dsimp only [dat2]
theorem leaves2_3 (c : Dev nD) (t : Fin cfg2.N) : (dat2 V c).after 3 t = blk2 V c 3 t := by dsimp only [dat2]
theorem leaves2_4 (c : Dev nD) (t : Fin cfg2.N) : (dat2 V c).after 4 t = blk2 V c 4 t := by dsimp only [dat2]
theorem leaves2_5 (c : Dev nD) (t : Fin cfg2.N) : (dat2 V c).after 5 t = blk2 V c 5 t := by dsimp only [dat2]
theorem leaves2_6 (c : Dev nD) (t : Fin cfg2.N) : (dat2 V c).after 6 t = out2_6 (blk2 V c 0 t) (blk2 V c 2 t) (blk2 V c 4 t) (held2s_0 V c) := by dsimp only [dat2]
theorem leaves2_7 (c : Dev nD) (t : Fin cfg2.N) : (dat2 V c).after 7 t = out2_7 (blk2 V c 0 t) (blk2 V c 2 t) (blk2 V c 4 t) (blk2 V c 5 t) (held2s_0 V c) := by dsimp only [dat2]
theorem leaves2_8 (c : Dev nD) (t : Fin cfg2.N) : (dat2 V c).after 8 t = out2_8 (blk2 V c 0 t) (blk2 V c 2 t) (blk2 V c 4 t) (held2s_0 V c) := by dsimp only [dat2]
theorem held2_0 (c : Dev nD) (t : Fin cfg2.N) (d) : (dat2 V c).before 0 t d = blk2 V c 0 t :=
  ((dat2 V c).before_in_eq_fetched 0 rfl (fun _ => rfl) (fun _ _ _ => rfl)
    (fun t => by rw [leaves2_0]; unfold Dat.blockOf blk2; rw [entry2]; try rfl) t d).trans
    (by unfold Dat.fetched Dat.blockOf blk2; rw [entry2]; try rfl)
theorem held2_1 (c : Dev nD) (t : Fin cfg2.N) (d) : (dat2 V c).before 1 t d = blk2 V c 1 t :=
  ((dat2 V c).before_in_eq_fetched 1 rfl (fun _ => rfl) (fun _ _ _ => rfl)
    (fun t => by rw [leaves2_1]; unfold Dat.blockOf blk2; rw [entry2]; try rfl) t d).trans
    (by unfold Dat.fetched Dat.blockOf blk2; rw [entry2]; try rfl)
theorem held2_2 (c : Dev nD) (t : Fin cfg2.N) (d) : (dat2 V c).before 2 t d = blk2 V c 2 t :=
  ((dat2 V c).before_in_eq_fetched 2 rfl (fun _ => rfl) (fun _ _ _ => rfl)
    (fun t => by rw [leaves2_2]; unfold Dat.blockOf blk2; rw [entry2]; try rfl) t d).trans
    (by unfold Dat.fetched Dat.blockOf blk2; rw [entry2]; try rfl)
theorem held2_3 (c : Dev nD) (t : Fin cfg2.N) (d) : (dat2 V c).before 3 t d = blk2 V c 3 t :=
  ((dat2 V c).before_in_eq_fetched 3 rfl (fun _ => rfl) (fun _ _ _ => rfl)
    (fun t => by rw [leaves2_3]; unfold Dat.blockOf blk2; rw [entry2]; try rfl) t d).trans
    (by unfold Dat.fetched Dat.blockOf blk2; rw [entry2]; try rfl)
theorem held2_4 (c : Dev nD) (t : Fin cfg2.N) (d) : (dat2 V c).before 4 t d = blk2 V c 4 t :=
  ((dat2 V c).before_in_eq_fetched 4 rfl (fun _ => rfl) (fun _ _ _ => rfl)
    (fun t => by rw [leaves2_4]; unfold Dat.blockOf blk2; rw [entry2]; try rfl) t d).trans
    (by unfold Dat.fetched Dat.blockOf blk2; rw [entry2]; try rfl)
theorem held2_5 (c : Dev nD) (t : Fin cfg2.N) (d) : (dat2 V c).before 5 t d = blk2 V c 5 t :=
  ((dat2 V c).before_in_eq_fetched 5 rfl (fun _ => rfl) (fun _ _ _ => rfl)
    (fun t => by rw [leaves2_5]; unfold Dat.blockOf blk2; rw [entry2]; try rfl) t d).trans
    (by unfold Dat.fetched Dat.blockOf blk2; rw [entry2]; try rfl)

/-- What the body is called with at a point, and what it gives back. -/
def pre2 (c : Dev nD) (t : Fin cfg2.N) : sProp 𝕄 :=
  iprop((dat2 V c).Φ t.castSucc ∗ (dat2 V c).owesAt () t.castSucc ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)) ∗ (∃ d, owns (c : Thread nD τ) (st2_3 t) fullShare ((dat2 V c).before 3 t d)) ∗ (∃ d, owns (c : Thread nD τ) (st2_4 t) fullShare ((dat2 V c).before 4 t d)) ∗ (∃ d, owns (c : Thread nD τ) (st2_5 t) fullShare ((dat2 V c).before 5 t d)) ∗ (∃ d, owns (c : Thread nD τ) (st2_6 t) fullShare ((dat2 V c).before 6 t d)) ∗ (∃ d, owns (c : Thread nD τ) (st2_7 t) fullShare ((dat2 V c).before 7 t d)) ∗ (∃ d, owns (c : Thread nD τ) (st2_8 t) fullShare ((dat2 V c).before 8 t d)))
def post2 (c : Dev nD) (t : Fin cfg2.N) : sProp 𝕄 :=
  iprop((dat2 V c).Φ t.succ ∗ (dat2 V c).owesAt () t.succ ∗ owns (c : Thread nD τ) (st2_0 t) fullShare ((dat2 V c).after 0 t) ∗ owns (c : Thread nD τ) (st2_1 t) fullShare ((dat2 V c).after 1 t) ∗ owns (c : Thread nD τ) (st2_2 t) fullShare ((dat2 V c).after 2 t) ∗ owns (c : Thread nD τ) (st2_3 t) fullShare ((dat2 V c).after 3 t) ∗ owns (c : Thread nD τ) (st2_4 t) fullShare ((dat2 V c).after 4 t) ∗ owns (c : Thread nD τ) (st2_5 t) fullShare ((dat2 V c).after 5 t) ∗ owns (c : Thread nD τ) (st2_6 t) fullShare ((dat2 V c).after 6 t) ∗ owns (c : Thread nD τ) (st2_7 t) fullShare ((dat2 V c).after 7 t) ∗ owns (c : Thread nD τ) (st2_8 t) fullShare ((dat2 V c).after 8 t))

theorem first2 : ∀ t : Fin cfg2.N, (Scalar.cmpi .ne (Scalar.extui (Scalar.cmpi .eq (BitVec.ofNat 32 ((grid2.coords t) 0).val) 0#32)) 0#32 = 1#1) ↔ t.val = 0 :=
  by decide +kernel

set_option maxHeartbeats 8000000 in
theorem step2 (c : Dev nD) (t : Fin cfg2.N) :
    pre2 V c t ⊢ wp frame (wpE (defs₀ (F := F)) Variants.none c none) Set.univ (bodyAt2 t) (fun _ => post2 V c t) := by
  unfold pre2 post2 bodyAt2
  simp only [held2_0, held2_1, held2_2, held2_3, held2_4, held2_5]
  rw [show (dat2 V c).owesAt () t.succ = (dat2 V c).owesAt () t.castSucc from rfl, leaves2_0, leaves2_1, leaves2_2, leaves2_3, leaves2_4, leaves2_5, leaves2_6, leaves2_7, leaves2_8]
  rw [show (dat2 V c).Φ t.succ = inv2 V c (t.val + 1) t.isLt from rfl, inv2_pos V c _ _ (Nat.succ_ne_zero _),
    show (dat2 V c).Φ t.castSucc = inv2 V c t.val (Nat.le_of_lt t.isLt) from by dsimp only [dat2]; exact Pipeline.Dat.Φ_castSucc (inv2 V c) t]
  by_cases hz : t.val = 0
  · obtain rfl : t = pt2 := Fin.ext hz
    rw [inv2_zero V c _ _ hz, any2]
    iintro ⟨⟨⟨G0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (triple2A c Set.univ (grid2.coords pt2) _ _ _ _ _ _ _ _ _ _ _ _ _ _ _ _ _ _ _ _ ((first2 pt2).mpr hz) (blk2 V c 0 pt2) (blk2 V c 1 pt2) (blk2 V c 2 pt2) (blk2 V c 3 pt2) (blk2 V c 4 pt2) (blk2 V c 5 pt2) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [G0]; · iexact G0
    iintro ⟨H0, H1, H2, H3, H4, H5, H6, H7, H8, G0⟩
    isplitl [G0 Hr Hg]
    · isplitl [G0]
      · iexact G0
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [inv2_pos V c _ _ hz]
    iintro ⟨⟨G0, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (triple2B c Set.univ (grid2.coords t) _ _ _ _ _ _ _ _ _ _ _ _ _ _ _ _ _ _ _ _ (fun h => hz ((first2 t).mp h)) (blk2 V c 0 t) (blk2 V c 1 t) (blk2 V c 2 t) (blk2 V c 3 t) (blk2 V c 4 t) (blk2 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [G0]; · iexact G0
    iintro ⟨H0, H1, H2, H3, H4, H5, H6, H7, H8, G0⟩
    isplitl [G0 Hr Hg]
    · isplitl [G0]
      · iexact G0
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem row2 (t : Fin cfg2.N) : defs₀ (F := F) .tc cfg2.body (cfg2.bodyArgs t (cfg2.slots t)) = bodyAt2 t := by
  unfold defs₀; rw [Defs.onTc_tc]
/-- The body's obligation at every point. -/
theorem body2 (c : Dev nD) : BodyObligation (dat2 (F := F) V c) (defs₀ (F := F)) Variants.none () Set.univ := fun t => by
  rw [bigSep_W2, bigSep_W2, row2]
  exact triple_restated (step2 V c t) rfl .rfl fun _ => .rfl

theorem in2 (c : Dev nD) : Pipeline.ΦA spec2 c ⊢ (dat2 V c).Φ 0 := by
  rw [show (dat2 V c).Φ 0 = inv2 V c 0 (Nat.zero_le _) from rfl, inv2_zero V c 0 _ rfl]
theorem away2 (c : Dev nD) : (dat2 V c).Φ (Fin.last cfg2.N) ⊢ Pipeline.ΦA spec2 c := by
  rw [show (dat2 V c).Φ (Fin.last cfg2.N) = inv2 V c cfg2.N le_rfl from rfl,
    inv2_pos V c _ _ (by rw [show cfg2.N = 25 from N_2]; decide), any2]
  iintro ⟨G0, Hr, Hg⟩
  isplitl [G0 Hr]
  · isplitl [G0]
    · iexists _; iexact G0
    iexact Hr
  iexact Hg

end Entry

end Cert.KernelIdeal.Calls

end

end
-- ==== Proof.KernelIdeal.Deg1.lean ====
/- The call that sums the columns of the first selection in each row: what one grid point does, and the proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Rects

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffers' contents when a call is entered
variable (V : (c : Dev nD) → (b : Ref sig .tc) → Buf (Elt F) ((c : Thread nD τ).loc b))

/-! ## The row sums over the first selection -/

/-- Window `w`'s block at grid point `t`, cut out of its array at the entry contents `V`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
/-- What the body leaves in output window 2. -/
def out3_2 (x0 : Vec F S400x10000 .bf16) (x1 : Vec F S10000x1 .bf16)  : Vec F S400x1 .f32 :=
  View.canon [⟨r400x1, k3_pay1 (View.ld x0 r400x10000) (View.ld x1 r10000x1)⟩]
theorem cov3_2 (p : Vec F S400x1 .f32) (y : S400x1.Idx) : ∃ pc ∈ ([⟨r400x1, p⟩] : List (View.Piece (Elt F) S400x1 .f32)), y ∈ pc.1.set :=
  View.cover_of_tiled [⟨r400x1, p⟩] S400x1.size (by rfl) y

set_option maxHeartbeats 4000000 in
/-- The body on whole staging buffers: the inputs come back as they were, each output at its function of them. -/
theorem triple3 (c : Dev nD) (E : Set ℕ) (i : grid3.Coords) (arg1 : Memref sig .tc .vmem S400x10000 .bf16) (harg1 : arg1.IsWhole) (arg2 : Memref sig .tc .vmem S10000x1 .bf16) (harg2 : arg2.IsWhole) (arg3 : Memref sig .tc .vmem S400x1 .f32) (harg3 : arg3.IsWhole)
    (x0 : Vec F S400x10000 .bf16) (x1 : Vec F S10000x1 .bf16)  (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__deg_body i arg1 harg1 arg2 harg2 arg3 harg3) K := by
  simp only [cc3__deg_body_eq_skeleton]; unfold cc3__deg_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists _; isplitr
    swap; · iexact H0
    ipureintro; rfl
  isplitl [H1]
  · iexists _; isplitr
    swap; · iexact H1
    ipureintro; rfl
  iexists _; isplitr
  swap; · iexact H2
  ipureintro
  refine (View.read_writes_eq_canon _ _ _ (cov3_2 _)).trans ?_
  unfold out3_2
  rfl

/-- The call's proof data at the entry contents `V`. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3_2 (blk3 V c 0 t) (blk3 V c 1 t)
  Φ _ := Pipeline.ΦA spec3 c
  q _ := fullShare
  owed _ := 0
theorem entry3 (c : Dev nD) (w : Fin cfg3.W) : (dat3 V c).A w = V c (Pipeline.arrRef spec3 w) := by dsimp only [dat3]
theorem leaves3_0 (c : Dev nD) (t : Fin cfg3.N) : (dat3 V c).after 0 t = blk3 V c 0 t := by dsimp only [dat3]
theorem leaves3_1 (c : Dev nD) (t : Fin cfg3.N) : (dat3 V c).after 1 t = blk3 V c 1 t := by dsimp only [dat3]
theorem leaves3_2 (c : Dev nD) (t : Fin cfg3.N) : (dat3 V c).after 2 t = out3_2 (blk3 V c 0 t) (blk3 V c 1 t) := by dsimp only [dat3]
theorem held3_0 (c : Dev nD) (t : Fin cfg3.N) (d) : (dat3 V c).before 0 t d = blk3 V c 0 t :=
  ((dat3 V c).before_in_eq_fetched 0 rfl (fun _ => rfl) (fun _ _ _ => rfl)
    (fun t => by rw [leaves3_0]; unfold Dat.blockOf blk3; rw [entry3]; try rfl) t d).trans
    (by unfold Dat.fetched Dat.blockOf blk3; rw [entry3]; try rfl)
theorem held3_1 (c : Dev nD) (t : Fin cfg3.N) (d) : (dat3 V c).before 1 t d = blk3 V c 1 t :=
  ((dat3 V c).before_in_eq_fetched 1 rfl (fun _ => rfl) (fun _ _ _ => rfl)
    (fun t => by rw [leaves3_1]; unfold Dat.blockOf blk3; rw [entry3]; try rfl) t d).trans
    (by unfold Dat.fetched Dat.blockOf blk3; rw [entry3]; try rfl)

/-- What the body is called with at a point, and what it gives back. -/
def pre3 (c : Dev nD) (t : Fin cfg3.N) : sProp 𝕄 :=
  iprop((dat3 V c).Φ t.castSucc ∗ (dat3 V c).owesAt () t.castSucc ∗ (∃ d, owns (c : Thread nD τ) (st3_0 t) fullShare ((dat3 V c).before 0 t d)) ∗ (∃ d, owns (c : Thread nD τ) (st3_1 t) fullShare ((dat3 V c).before 1 t d)) ∗ (∃ d, owns (c : Thread nD τ) (st3_2 t) fullShare ((dat3 V c).before 2 t d)))
def post3 (c : Dev nD) (t : Fin cfg3.N) : sProp 𝕄 :=
  iprop((dat3 V c).Φ t.succ ∗ (dat3 V c).owesAt () t.succ ∗ owns (c : Thread nD τ) (st3_0 t) fullShare ((dat3 V c).after 0 t) ∗ owns (c : Thread nD τ) (st3_1 t) fullShare ((dat3 V c).after 1 t) ∗ owns (c : Thread nD τ) (st3_2 t) fullShare ((dat3 V c).after 2 t))

set_option maxHeartbeats 1000000 in
theorem step3 (c : Dev nD) (t : Fin cfg3.N) :
    pre3 V c t ⊢ wp frame (wpE (defs₀ (F := F)) Variants.none c none) Set.univ (bodyAt3 t) (fun _ => post3 V c t) := by
  unfold pre3 post3 bodyAt3
  simp only [held3_0, held3_1]
  rw [show (dat3 V c).Φ t.succ = (dat3 V c).Φ t.castSucc from rfl,
    show (dat3 V c).owesAt () t.succ = (dat3 V c).owesAt () t.castSucc from rfl, leaves3_0, leaves3_1, leaves3_2]
  iintro ⟨HΦ, Ho, ⟨%d0, H0⟩, ⟨%d1, H1⟩, ⟨%d2, H2⟩⟩
  iapply (triple3 c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row3 (t : Fin cfg3.N) : defs₀ (F := F) .tc cfg3.body (cfg3.bodyArgs t (cfg3.slots t)) = bodyAt3 t := by
  unfold defs₀; rw [Defs.onTc_tc]
/-- The body's obligation at every point. -/
theorem body3 (c : Dev nD) : BodyObligation (dat3 (F := F) V c) (defs₀ (F := F)) Variants.none () Set.univ := fun t => by
  rw [bigSep_W3, bigSep_W3, row3]
  exact triple_restated (step3 V c t) rfl .rfl fun _ => .rfl

end Entry

end Cert.KernelIdeal.Calls

end

end
-- ==== Proof.KernelIdeal.Conv2.lean ====
/- The call of the second convolution. Its first grid point fills three scratch buffers that every point reads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Rects

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffers' contents when a call is entered
variable (V : (c : Dev nD) → (b : Ref sig .tc) → Buf (Elt F) ((c : Thread nD τ).loc b))

/-! ## The second convolution -/

/-- Window `w`'s block at grid point `t`, cut out of its array at the entry contents `V`. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
/-- Scratch buffer 0 once the first point has filled it. -/
def scr4_0 (x1 : Vec F S10000x1 .f32) (x3 : Vec F S10000x1 .f32) (x4 : Vec F S10000x1 .f32) (x6 : Vec F S10000x32 .f32) (x7 : Vec F S32x32 .f32) : Vec F S10000x32 .bf16 :=
  View.canon [⟨r10000x32, k4_pay4 (View.ld x3 r10000x1) (View.ld x4 r10000x1) (View.ld x6 r10000x32) (View.ld x7 r32x32) (View.ld x1 r10000x1)⟩]
theorem scov4_0 (p : Vec F S10000x32 .bf16) (y : S10000x32.Idx) : ∃ pc ∈ ([⟨r10000x32, p⟩] : List (View.Piece (Elt F) S10000x32 .bf16)), y ∈ pc.1.set :=
  View.cover_of_tiled [⟨r10000x32, p⟩] S10000x32.size (by rfl) y
/-- Scratch buffer 1 once the first point has filled it. -/
def scr4_1 (x1 : Vec F S10000x1 .f32) (x3 : Vec F S10000x1 .f32) (x4 : Vec F S10000x1 .f32) (x6 : Vec F S10000x32 .f32) (x7 : Vec F S32x32 .f32) : Vec F S10000x32 .bf16 :=
  View.canon [⟨r10000x32, k4_pay5 (View.ld x3 r10000x1) (View.ld x4 r10000x1) (View.ld x6 r10000x32) (View.ld x7 r32x32) (View.ld x1 r10000x1)⟩]
theorem scov4_1 (p : Vec F S10000x32 .bf16) (y : S10000x32.Idx) : ∃ pc ∈ ([⟨r10000x32, p⟩] : List (View.Piece (Elt F) S10000x32 .bf16)), y ∈ pc.1.set :=
  View.cover_of_tiled [⟨r10000x32, p⟩] S10000x32.size (by rfl) y
/-- Scratch buffer 2 once the first point has filled it. -/
def scr4_2 (x3 : Vec F S10000x1 .f32) (x4 : Vec F S10000x1 .f32) (x6 : Vec F S10000x32 .f32) (x8 : Vec F S32x32 .f32) (x9 : Vec F S1x32 .f32) : Vec F S10000x32 .f32 :=
  View.canon [⟨r10000x32, k4_pay7 (k4_pay6 (View.ld x3 r10000x1) (View.ld x4 r10000x1) (View.ld x6 r10000x32) (View.ld x8 r32x32) (View.ld x9 r1x32))⟩]
theorem scov4_2 (p : Vec F S10000x32 .f32) (y : S10000x32.Idx) : ∃ pc ∈ ([⟨r10000x32, p⟩] : List (View.Piece (Elt F) S10000x32 .f32)), y ∈ pc.1.set :=
  View.cover_of_tiled [⟨r10000x32, p⟩] S10000x32.size (by rfl) y
/-- What the body leaves in output window 11. -/
def out4_11 (i : grid4.Coords) (x0 : Vec F S400x10000 .bf16) (x2 : Vec F S400x1 .f32) (x5 : Vec F S400x1 .f32) (s0 : Vec F S10000x32 .bf16) (s2 : Vec F S10000x32 .f32) : Vec F S400x32 .f32 :=
  View.canon [⟨r400x32, k4_pay8 (View.ld x0 r400x10000) (View.ld s0 r10000x32) (View.ld x2 r400x1) (View.ld s2 (Rect.unit (s := S10000x32) (k4_off1 i) S400x32.size (k4_off1_inb i))) (View.ld x5 r400x1)⟩]
theorem cov4_11 (p : Vec F S400x32 .f32) (y : S400x32.Idx) : ∃ pc ∈ ([⟨r400x32, p⟩] : List (View.Piece (Elt F) S400x32 .f32)), y ∈ pc.1.set :=
  View.cover_of_tiled [⟨r400x32, p⟩] S400x32.size (by rfl) y
/-- What the body leaves in output window 12. -/
def out4_12 (i : grid4.Coords) (x0 : Vec F S400x10000 .bf16) (x2 : Vec F S400x1 .f32) (x5 : Vec F S400x1 .f32) (x10 : Vec F S32x1 .f32) (s0 : Vec F S10000x32 .bf16) (s2 : Vec F S10000x32 .f32) : Vec F S400x1 .f32 :=
  View.canon [⟨r400x1, k4_pay9 (View.ld x0 r400x10000) (View.ld s0 r10000x32) (View.ld x2 r400x1) (View.ld s2 (Rect.unit (s := S10000x32) (k4_off1 i) S400x32.size (k4_off1_inb i))) (View.ld x5 r400x1) (View.ld x10 r32x1)⟩]
theorem cov4_12 (p : Vec F S400x1 .f32) (y : S400x1.Idx) : ∃ pc ∈ ([⟨r400x1, p⟩] : List (View.Piece (Elt F) S400x1 .f32)), y ∈ pc.1.set :=
  View.cover_of_tiled [⟨r400x1, p⟩] S400x1.size (by rfl) y
/-- What the body leaves in output window 13. -/
def out4_13 (i : grid4.Coords) (x0 : Vec F S400x10000 .bf16) (x2 : Vec F S400x1 .f32) (x5 : Vec F S400x1 .f32) (s0 : Vec F S10000x32 .bf16) (s2 : Vec F S10000x32 .f32) : Vec F S1x1x32 .f32 :=
  View.canon [⟨r1x1x32, k4_pay10 (View.ld x0 r400x10000) (View.ld s0 r10000x32) (View.ld x2 r400x1) (View.ld s2 (Rect.unit (s := S10000x32) (k4_off1 i) S400x32.size (k4_off1_inb i))) (View.ld x5 r400x1)⟩]
theorem cov4_13 (p : Vec F S1x1x32 .f32) (y : S1x1x32.Idx) : ∃ pc ∈ ([⟨r1x1x32, p⟩] : List (View.Piece (Elt F) S1x1x32 .f32)), y ∈ pc.1.set :=
  View.cover_of_tiled [⟨r1x1x32, p⟩] S1x1x32.size (by rfl) y

set_option maxHeartbeats 4000000 in
/-- The body at the first point, where it fills the scratch buffers before it reads them. -/
theorem triple4A (c : Dev nD) (E : Set ℕ) (i : grid4.Coords) (arg1 : Memref sig .tc .vmem S400x10000 .bf16) (harg1 : arg1.IsWhole) (arg2 : Memref sig .tc .vmem S10000x1 .f32) (harg2 : arg2.IsWhole) (arg3 : Memref sig .tc .vmem S400x1 .f32) (harg3 : arg3.IsWhole) (arg4 : Memref sig .tc .vmem S10000x1 .f32) (harg4 : arg4.IsWhole) (arg5 : Memref sig .tc .vmem S10000x1 .f32) (harg5 : arg5.IsWhole) (arg6 : Memref sig .tc .vmem S400x1 .f32) (harg6 : arg6.IsWhole) (arg7 : Memref sig .tc .vmem S10000x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S32x1 .f32) (harg11 : arg11.IsWhole) (arg12 : Memref sig .tc .vmem S400x32 .f32) (harg12 : arg12.IsWhole) (arg13 : Memref sig .tc .vmem S400x1 .f32) (harg13 : arg13.IsWhole) (arg14 : Memref sig .tc .vmem S1x1x32 .f32) (harg14 : arg14.IsWhole) (arg15 : Memref sig .tc .vmem S10000x32 .bf16) (harg15 : arg15.IsWhole) (arg16 : Memref sig .tc .vmem S10000x32 .bf16) (harg16 : arg16.IsWhole) (arg17 : Memref sig .tc .vmem S10000x32 .f32) (harg17 : arg17.IsWhole) (hc : Scalar.cmpi .ne (Scalar.extui (Scalar.cmpi .eq (BitVec.ofNat 32 (i 0).val) 0#32)) 0#32 = 1#1)
    (x0 : Vec F S400x10000 .bf16) (x1 : Vec F S10000x1 .f32) (x2 : Vec F S400x1 .f32) (x3 : Vec F S10000x1 .f32) (x4 : Vec F S10000x1 .f32) (x5 : Vec F S400x1 .f32) (x6 : Vec F S10000x32 .f32) (x7 : Vec F S32x32 .f32) (x8 : Vec F S32x32 .f32) (x9 : Vec F S1x32 .f32) (x10 : Vec F S32x1 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out4_11 i x0 x2 x5 (scr4_0 x1 x3 x4 x6 x7) (scr4_2 x3 x4 x6 x8 x9)) ∗ owns (c : Thread nD τ) arg13 fullShare (out4_12 i x0 x2 x5 x10 (scr4_0 x1 x3 x4 x6 x7) (scr4_2 x3 x4 x6 x8 x9)) ∗ owns (c : Thread nD τ) arg14 fullShare (out4_13 i x0 x2 x5 (scr4_0 x1 x3 x4 x6 x7) (scr4_2 x3 x4 x6 x8 x9)) ∗ owns (c : Thread nD τ) arg15 fullShare (scr4_0 x1 x3 x4 x6 x7) ∗ owns (c : Thread nD τ) arg16 fullShare (scr4_1 x1 x3 x4 x6 x7) ∗ owns (c : Thread nD τ) arg17 fullShare (scr4_2 x3 x4 x6 x8 x9)) -∗ K ⟨⟩))
      ⊢ wp frame (wpE (defs₀ (F := F)) Variants.none c none) E (cc4__conv23_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4__conv23_body_eq_skeleton]; unfold cc4__conv23_body_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%e0, %g0, -, G0⟩, ⟨%e1, %g1, -, G1⟩, ⟨%e2, %g2, -, G2⟩, Hk⟩
  subst hf0; subst hf1; subst hf2; subst hf3; subst hf4; subst hf5; subst hf6; subst hf7; subst hf8; subst hf9; subst hf10
  sl_exec (disch := first | sl_exact hc)
  sl_step
  iapply Hk
  have hs0 := fun p => View.read_writes_eq_canon (Val := Elt F) arg15.view g0 _ (scov4_0 p)
  have hs1 := fun p => View.read_writes_eq_canon (Val := Elt F) arg16.view g1 _ (scov4_1 p)
  have hs2 := fun p => View.read_writes_eq_canon (Val := Elt F) arg17.view g2 _ (scov4_2 p)
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro
    refine (View.read_writes_eq_canon _ _ _ (cov4_11 _)).trans ?_
    unfold out4_11 scr4_0 scr4_2
    unfold triple4A.sl.v5 triple4A.sl.v13
    simp only [View.readCov_eq_canon', View.readAt_writes_junk_eq_canon]
    rfl
  isplitl [H12]
  · iexists _; isplitr
    swap; · iexact H12
    ipureintro
    refine (View.read_writes_eq_canon _ _ _ (cov4_12 _)).trans ?_
    unfold out4_12 scr4_0 scr4_2
    unfold triple4A.sl.v5 triple4A.sl.v13
    simp only [View.readCov_eq_canon', View.readAt_writes_junk_eq_canon]
    rfl
  isplitl [H13]
  · iexists _; isplitr
    swap; · iexact H13
    ipureintro
    refine (View.read_writes_eq_canon _ _ _ (cov4_13 _)).trans ?_
    unfold out4_13 scr4_0 scr4_2
    unfold triple4A.sl.v5 triple4A.sl.v13
    simp only [View.readCov_eq_canon', View.readAt_writes_junk_eq_canon]
    rfl
  isplitl [G0]
  · iexists _; isplitr
    swap; · iexact G0
    ipureintro
    try unfold triple4A.sl.G0_1
    refine (View.read_writes_eq_canon _ _ _ (scov4_0 _)).trans ?_
    unfold scr4_0
    rfl
  isplitl [G1]
  · iexists _; isplitr
    swap; · iexact G1
    ipureintro
    try unfold triple4A.sl.G1_1
    refine (View.read_writes_eq_canon _ _ _ (scov4_1 _)).trans ?_
    unfold scr4_1
    rfl
  iexists _; isplitr
  swap; · iexact G2
  ipureintro
  try unfold triple4A.sl.G2_1
  refine (View.read_writes_eq_canon _ _ _ (scov4_2 _)).trans ?_
  unfold scr4_2
  rfl

set_option maxHeartbeats 4000000 in
/-- The body at a later point, where it finds the scratch buffers filled. -/
theorem triple4B (c : Dev nD) (E : Set ℕ) (i : grid4.Coords) (arg1 : Memref sig .tc .vmem S400x10000 .bf16) (harg1 : arg1.IsWhole) (arg2 : Memref sig .tc .vmem S10000x1 .f32) (harg2 : arg2.IsWhole) (arg3 : Memref sig .tc .vmem S400x1 .f32) (harg3 : arg3.IsWhole) (arg4 : Memref sig .tc .vmem S10000x1 .f32) (harg4 : arg4.IsWhole) (arg5 : Memref sig .tc .vmem S10000x1 .f32) (harg5 : arg5.IsWhole) (arg6 : Memref sig .tc .vmem S400x1 .f32) (harg6 : arg6.IsWhole) (arg7 : Memref sig .tc .vmem S10000x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S32x1 .f32) (harg11 : arg11.IsWhole) (arg12 : Memref sig .tc .vmem S400x32 .f32) (harg12 : arg12.IsWhole) (arg13 : Memref sig .tc .vmem S400x1 .f32) (harg13 : arg13.IsWhole) (arg14 : Memref sig .tc .vmem S1x1x32 .f32) (harg14 : arg14.IsWhole) (arg15 : Memref sig .tc .vmem S10000x32 .bf16) (harg15 : arg15.IsWhole) (arg16 : Memref sig .tc .vmem S10000x32 .bf16) (harg16 : arg16.IsWhole) (arg17 : Memref sig .tc .vmem S10000x32 .f32) (harg17 : arg17.IsWhole) (hc : ¬ (Scalar.cmpi .ne (Scalar.extui (Scalar.cmpi .eq (BitVec.ofNat 32 (i 0).val) 0#32)) 0#32 = 1#1))
    (x0 : Vec F S400x10000 .bf16) (x1 : Vec F S10000x1 .f32) (x2 : Vec F S400x1 .f32) (x3 : Vec F S10000x1 .f32) (x4 : Vec F S10000x1 .f32) (x5 : Vec F S400x1 .f32) (x6 : Vec F S10000x32 .f32) (x7 : Vec F S32x32 .f32) (x8 : Vec F S32x32 .f32) (x9 : Vec F S1x32 .f32) (x10 : Vec F S32x1 .f32) (s0 : Vec F S10000x32 .bf16) (s1 : Vec F S10000x32 .bf16) (s2 : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s0 ∗ owns (c : Thread nD τ) arg16 fullShare s1 ∗ owns (c : Thread nD τ) arg17 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out4_11 i x0 x2 x5 s0 s2) ∗ owns (c : Thread nD τ) arg13 fullShare (out4_12 i x0 x2 x5 x10 s0 s2) ∗ owns (c : Thread nD τ) arg14 fullShare (out4_13 i x0 x2 x5 s0 s2) ∗ owns (c : Thread nD τ) arg15 fullShare s0 ∗ owns (c : Thread nD τ) arg16 fullShare s1 ∗ owns (c : Thread nD τ) arg17 fullShare s2) -∗ K ⟨⟩))
      ⊢ wp frame (wpE (defs₀ (F := F)) Variants.none c none) E (cc4__conv23_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc4__conv23_body_eq_skeleton]; unfold cc4__conv23_body_skel
  simp only [k4_part2_eq_skeleton, k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%g0, %hg0, G0⟩, ⟨%g1, %hg1, G1⟩, ⟨%g2, %hg2, G2⟩, Hk⟩
  subst hf0; subst hf1; subst hf2; subst hf3; subst hf4; subst hf5; subst hf6; subst hf7; subst hf8; subst hf9; subst hf10; subst hg0; subst hg1; subst hg2
  sl_exec (disch := first | sl_exact hc)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro
    refine (View.read_writes_eq_canon _ _ _ (cov4_11 _)).trans ?_
    unfold out4_11
    rfl
  isplitl [H12]
  · iexists _; isplitr
    swap; · iexact H12
    ipureintro
    refine (View.read_writes_eq_canon _ _ _ (cov4_12 _)).trans ?_
    unfold out4_12
    rfl
  isplitl [H13]
  · iexists _; isplitr
    swap; · iexact H13
    ipureintro
    refine (View.read_writes_eq_canon _ _ _ (cov4_13 _)).trans ?_
    unfold out4_13
    rfl
  isplitl [G0]
  · iexists _; isplitr
    swap; · iexact G0
    ipureintro; rfl
  isplitl [G1]
  · iexists _; isplitr
    swap; · iexact G1
    ipureintro; rfl
  iexists _; isplitr
  swap; · iexact G2
  ipureintro; rfl

/-- The first grid point. -/
def pt4 : Fin cfg4.N := ⟨0, by rw [show cfg4.N = 25 from N_4]; decide⟩
/-- Scratch buffer 0 from the first point on. -/
def held4s_0 (c : Dev nD) : Vec F S10000x32 .bf16 := scr4_0 (blk4 V c 1 pt4) (blk4 V c 3 pt4) (blk4 V c 4 pt4) (blk4 V c 6 pt4) (blk4 V c 7 pt4)
/-- Scratch buffer 1 from the first point on. -/
def held4s_1 (c : Dev nD) : Vec F S10000x32 .bf16 := scr4_1 (blk4 V c 1 pt4) (blk4 V c 3 pt4) (blk4 V c 4 pt4) (blk4 V c 6 pt4) (blk4 V c 7 pt4)
/-- Scratch buffer 2 from the first point on. -/
def held4s_2 (c : Dev nD) : Vec F S10000x32 .f32 := scr4_2 (blk4 V c 3 pt4) (blk4 V c 4 pt4) (blk4 V c 6 pt4) (blk4 V c 8 pt4) (blk4 V c 9 pt4)
/-- Between points: before the first nothing is known of the scratch buffers; afterwards each holds what the first point put in it. -/
def inv4 (c : Dev nD) : (n : ℕ) → n ≤ cfg4.N → sProp 𝕄
  | 0, _ => Pipeline.ΦA spec4 c
  | _ + 1, _ => iprop(iprop(owns (c : Thread nD τ) (Memref.whole cc4_scratch0) fullShare (held4s_0 V c) ∗ owns (c : Thread nD τ) (Memref.whole cc4_scratch1) fullShare (held4s_1 V c) ∗ owns (c : Thread nD τ) (Memref.whole cc4_scratch2) fullShare (held4s_2 V c)) ∗ Pipeline.scopedRestBut (Ix := Unit) (Name := ℕ) (U := UR sig nD τ) (Lvl := ℕ) (Val := Elt F) spec4 c [cc4_scratch0, cc4_scratch1, cc4_scratch2] ∗ ∃ r, prngReg c r)
theorem inv4_zero (c : Dev nD) (n : ℕ) (h : n ≤ cfg4.N) (hz : n = 0) : inv4 V c n h = Pipeline.ΦA spec4 c := by
  subst hz; rfl
theorem inv4_pos (c : Dev nD) (n : ℕ) (h : n ≤ cfg4.N) (hz : n ≠ 0) :
    inv4 V c n h = iprop(iprop(owns (c : Thread nD τ) (Memref.whole cc4_scratch0) fullShare (held4s_0 V c) ∗ owns (c : Thread nD τ) (Memref.whole cc4_scratch1) fullShare (held4s_1 V c) ∗ owns (c : Thread nD τ) (Memref.whole cc4_scratch2) fullShare (held4s_2 V c)) ∗ Pipeline.scopedRestBut (Ix := Unit) (Name := ℕ) (U := UR sig nD τ) (Lvl := ℕ) (Val := Elt F) spec4 c [cc4_scratch0, cc4_scratch1, cc4_scratch2] ∗ ∃ r, prngReg c r) := by
  cases n with
  | zero => exact absurd rfl hz
  | succ n => rfl
theorem any4 (c : Dev nD) : (Pipeline.ΦA spec4 c : sProp 𝕄) = iprop(iprop(iprop((∃ d, owns (c : Thread nD τ) (Memref.whole cc4_scratch0) fullShare d) ∗ (∃ d, owns (c : Thread nD τ) (Memref.whole cc4_scratch1) fullShare d) ∗ (∃ d, owns (c : Thread nD τ) (Memref.whole cc4_scratch2) fullShare d)) ∗ Pipeline.scopedRestBut (Ix := Unit) (Name := ℕ) (U := UR sig nD τ) (Lvl := ℕ) (Val := Elt F) spec4 c [cc4_scratch0, cc4_scratch1, cc4_scratch2]) ∗ ∃ r, prngReg c r) := by
  unfold Pipeline.ΦA; rw [scopedRest4_split]; simp only [owns_whole]

/-- The call's proof data at the entry contents `V`. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => blk4 V c 6 t
    | ⟨7, _⟩ => blk4 V c 7 t
    | ⟨8, _⟩ => blk4 V c 8 t
    | ⟨9, _⟩ => blk4 V c 9 t
    | ⟨10, _⟩ => blk4 V c 10 t
    | ⟨11, _⟩ => out4_11 (grid4.coords t) (blk4 V c 0 t) (blk4 V c 2 t) (blk4 V c 5 t) (held4s_0 V c) (held4s_2 V c)
    | ⟨12, _⟩ => out4_12 (grid4.coords t) (blk4 V c 0 t) (blk4 V c 2 t) (blk4 V c 5 t) (blk4 V c 10 t) (held4s_0 V c) (held4s_2 V c)
    | ⟨13, _⟩ => out4_13 (grid4.coords t) (blk4 V c 0 t) (blk4 V c 2 t) (blk4 V c 5 t) (held4s_0 V c) (held4s_2 V c)
  Φ t := inv4 V c t.val (Nat.le_of_lt_succ t.isLt)
  q w := Pipeline.shareOf spec4 w
  owed _ := 0
theorem entry4 (c : Dev nD) (w : Fin cfg4.W) : (dat4 V c).A w = V c (Pipeline.arrRef spec4 w) := by dsimp only [dat4]
theorem leaves4_0 (c : Dev nD) (t : Fin cfg4.N) : (dat4 V c).after 0 t = blk4 V c 0 t := by dsimp only [dat4]
theorem leaves4_1 (c : Dev nD) (t : Fin cfg4.N) : (dat4 V c).after 1 t = blk4 V c 1 t := by dsimp only [dat4]
theorem leaves4_2 (c : Dev nD) (t : Fin cfg4.N) : (dat4 V c).after 2 t = blk4 V c 2 t := by dsimp only [dat4]
theorem leaves4_3 (c : Dev nD) (t : Fin cfg4.N) : (dat4 V c).after 3 t = blk4 V c 3 t := by dsimp only [dat4]
theorem leaves4_4 (c : Dev nD) (t : Fin cfg4.N) : (dat4 V c).after 4 t = blk4 V c 4 t := by dsimp only [dat4]
theorem leaves4_5 (c : Dev nD) (t : Fin cfg4.N) : (dat4 V c).after 5 t = blk4 V c 5 t := by dsimp only [dat4]
theorem leaves4_6 (c : Dev nD) (t : Fin cfg4.N) : (dat4 V c).after 6 t = blk4 V c 6 t := by dsimp only [dat4]
theorem leaves4_7 (c : Dev nD) (t : Fin cfg4.N) : (dat4 V c).after 7 t = blk4 V c 7 t := by dsimp only [dat4]
theorem leaves4_8 (c : Dev nD) (t : Fin cfg4.N) : (dat4 V c).after 8 t = blk4 V c 8 t := by dsimp only [dat4]
theorem leaves4_9 (c : Dev nD) (t : Fin cfg4.N) : (dat4 V c).after 9 t = blk4 V c 9 t := by dsimp only [dat4]
theorem leaves4_10 (c : Dev nD) (t : Fin cfg4.N) : (dat4 V c).after 10 t = blk4 V c 10 t := by dsimp only [dat4]
theorem leaves4_11 (c : Dev nD) (t : Fin cfg4.N) : (dat4 V c).after 11 t = out4_11 (grid4.coords t) (blk4 V c 0 t) (blk4 V c 2 t) (blk4 V c 5 t) (held4s_0 V c) (held4s_2 V c) := by dsimp only [dat4]
theorem leaves4_12 (c : Dev nD) (t : Fin cfg4.N) : (dat4 V c).after 12 t = out4_12 (grid4.coords t) (blk4 V c 0 t) (blk4 V c 2 t) (blk4 V c 5 t) (blk4 V c 10 t) (held4s_0 V c) (held4s_2 V c) := by dsimp only [dat4]
theorem leaves4_13 (c : Dev nD) (t : Fin cfg4.N) : (dat4 V c).after 13 t = out4_13 (grid4.coords t) (blk4 V c 0 t) (blk4 V c 2 t) (blk4 V c 5 t) (held4s_0 V c) (held4s_2 V c) := by dsimp only [dat4]
theorem held4_0 (c : Dev nD) (t : Fin cfg4.N) (d) : (dat4 V c).before 0 t d = blk4 V c 0 t :=
  ((dat4 V c).before_in_eq_fetched 0 rfl (fun _ => rfl) (fun _ _ _ => rfl)
    (fun t => by rw [leaves4_0]; unfold Dat.blockOf blk4; rw [entry4]; try rfl) t d).trans
    (by unfold Dat.fetched Dat.blockOf blk4; rw [entry4]; try rfl)
theorem held4_1 (c : Dev nD) (t : Fin cfg4.N) (d) : (dat4 V c).before 1 t d = blk4 V c 1 t :=
  ((dat4 V c).before_in_eq_fetched 1 rfl (fun _ => rfl) (fun _ _ _ => rfl)
    (fun t => by rw [leaves4_1]; unfold Dat.blockOf blk4; rw [entry4]; try rfl) t d).trans
    (by unfold Dat.fetched Dat.blockOf blk4; rw [entry4]; try rfl)
theorem held4_2 (c : Dev nD) (t : Fin cfg4.N) (d) : (dat4 V c).before 2 t d = blk4 V c 2 t :=
  ((dat4 V c).before_in_eq_fetched 2 rfl (fun _ => rfl) (fun _ _ _ => rfl)
    (fun t => by rw [leaves4_2]; unfold Dat.blockOf blk4; rw [entry4]; try rfl) t d).trans
    (by unfold Dat.fetched Dat.blockOf blk4; rw [entry4]; try rfl)
theorem held4_3 (c : Dev nD) (t : Fin cfg4.N) (d) : (dat4 V c).before 3 t d = blk4 V c 3 t :=
  ((dat4 V c).before_in_eq_fetched 3 rfl (fun _ => rfl) (fun _ _ _ => rfl)
    (fun t => by rw [leaves4_3]; unfold Dat.blockOf blk4; rw [entry4]; try rfl) t d).trans
    (by unfold Dat.fetched Dat.blockOf blk4; rw [entry4]; try rfl)
theorem held4_4 (c : Dev nD) (t : Fin cfg4.N) (d) : (dat4 V c).before 4 t d = blk4 V c 4 t :=
  ((dat4 V c).before_in_eq_fetched 4 rfl (fun _ => rfl) (fun _ _ _ => rfl)
    (fun t => by rw [leaves4_4]; unfold Dat.blockOf blk4; rw [entry4]; try rfl) t d).trans
    (by unfold Dat.fetched Dat.blockOf blk4; rw [entry4]; try rfl)
theorem held4_5 (c : Dev nD) (t : Fin cfg4.N) (d) : (dat4 V c).before 5 t d = blk4 V c 5 t :=
  ((dat4 V c).before_in_eq_fetched 5 rfl (fun _ => rfl) (fun _ _ _ => rfl)
    (fun t => by rw [leaves4_5]; unfold Dat.blockOf blk4; rw [entry4]; try rfl) t d).trans
    (by unfold Dat.fetched Dat.blockOf blk4; rw [entry4]; try rfl)
theorem held4_6 (c : Dev nD) (t : Fin cfg4.N) (d) : (dat4 V c).before 6 t d = blk4 V c 6 t :=
  ((dat4 V c).before_in_eq_fetched 6 rfl (fun _ => rfl) (fun _ _ _ => rfl)
    (fun t => by rw [leaves4_6]; unfold Dat.blockOf blk4; rw [entry4]; try rfl) t d).trans
    (by unfold Dat.fetched Dat.blockOf blk4; rw [entry4]; try rfl)
theorem held4_7 (c : Dev nD) (t : Fin cfg4.N) (d) : (dat4 V c).before 7 t d = blk4 V c 7 t :=
  ((dat4 V c).before_in_eq_fetched 7 rfl (fun _ => rfl) (fun _ _ _ => rfl)
    (fun t => by rw [leaves4_7]; unfold Dat.blockOf blk4; rw [entry4]; try rfl) t d).trans
    (by unfold Dat.fetched Dat.blockOf blk4; rw [entry4]; try rfl)
theorem held4_8 (c : Dev nD) (t : Fin cfg4.N) (d) : (dat4 V c).before 8 t d = blk4 V c 8 t :=
  ((dat4 V c).before_in_eq_fetched 8 rfl (fun _ => rfl) (fun _ _ _ => rfl)
    (fun t => by rw [leaves4_8]; unfold Dat.blockOf blk4; rw [entry4]; try rfl) t d).trans
    (by unfold Dat.fetched Dat.blockOf blk4; rw [entry4]; try rfl)
theorem held4_9 (c : Dev nD) (t : Fin cfg4.N) (d) : (dat4 V c).before 9 t d = blk4 V c 9 t :=
  ((dat4 V c).before_in_eq_fetched 9 rfl (fun _ => rfl) (fun _ _ _ => rfl)
    (fun t => by rw [leaves4_9]; unfold Dat.blockOf blk4; rw [entry4]; try rfl) t d).trans
    (by unfold Dat.fetched Dat.blockOf blk4; rw [entry4]; try rfl)
theorem held4_10 (c : Dev nD) (t : Fin cfg4.N) (d) : (dat4 V c).before 10 t d = blk4 V c 10 t :=
  ((dat4 V c).before_in_eq_fetched 10 rfl (fun _ => rfl) (fun _ _ _ => rfl)
    (fun t => by rw [leaves4_10]; unfold Dat.blockOf blk4; rw [entry4]; try rfl) t d).trans
    (by unfold Dat.fetched Dat.blockOf blk4; rw [entry4]; try rfl)

/-- What the body is called with at a point, and what it gives back. -/
def pre4 (c : Dev nD) (t : Fin cfg4.N) : sProp 𝕄 :=
  iprop((dat4 V c).Φ t.castSucc ∗ (dat4 V c).owesAt () t.castSucc ∗ (∃ d, owns (c : Thread nD τ) (st4_0 t) fullShare ((dat4 V c).before 0 t d)) ∗ (∃ d, owns (c : Thread nD τ) (st4_1 t) fullShare ((dat4 V c).before 1 t d)) ∗ (∃ d, owns (c : Thread nD τ) (st4_2 t) fullShare ((dat4 V c).before 2 t d)) ∗ (∃ d, owns (c : Thread nD τ) (st4_3 t) fullShare ((dat4 V c).before 3 t d)) ∗ (∃ d, owns (c : Thread nD τ) (st4_4 t) fullShare ((dat4 V c).before 4 t d)) ∗ (∃ d, owns (c : Thread nD τ) (st4_5 t) fullShare ((dat4 V c).before 5 t d)) ∗ (∃ d, owns (c : Thread nD τ) (st4_6 t) fullShare ((dat4 V c).before 6 t d)) ∗ (∃ d, owns (c : Thread nD τ) (st4_7 t) fullShare ((dat4 V c).before 7 t d)) ∗ (∃ d, owns (c : Thread nD τ) (st4_8 t) fullShare ((dat4 V c).before 8 t d)) ∗ (∃ d, owns (c : Thread nD τ) (st4_9 t) fullShare ((dat4 V c).before 9 t d)) ∗ (∃ d, owns (c : Thread nD τ) (st4_10 t) fullShare ((dat4 V c).before 10 t d)) ∗ (∃ d, owns (c : Thread nD τ) (st4_11 t) fullShare ((dat4 V c).before 11 t d)) ∗ (∃ d, owns (c : Thread nD τ) (st4_12 t) fullShare ((dat4 V c).before 12 t d)) ∗ (∃ d, owns (c : Thread nD τ) (st4_13 t) fullShare ((dat4 V c).before 13 t d)))
def post4 (c : Dev nD) (t : Fin cfg4.N) : sProp 𝕄 :=
  iprop((dat4 V c).Φ t.succ ∗ (dat4 V c).owesAt () t.succ ∗ owns (c : Thread nD τ) (st4_0 t) fullShare ((dat4 V c).after 0 t) ∗ owns (c : Thread nD τ) (st4_1 t) fullShare ((dat4 V c).after 1 t) ∗ owns (c : Thread nD τ) (st4_2 t) fullShare ((dat4 V c).after 2 t) ∗ owns (c : Thread nD τ) (st4_3 t) fullShare ((dat4 V c).after 3 t) ∗ owns (c : Thread nD τ) (st4_4 t) fullShare ((dat4 V c).after 4 t) ∗ owns (c : Thread nD τ) (st4_5 t) fullShare ((dat4 V c).after 5 t) ∗ owns (c : Thread nD τ) (st4_6 t) fullShare ((dat4 V c).after 6 t) ∗ owns (c : Thread nD τ) (st4_7 t) fullShare ((dat4 V c).after 7 t) ∗ owns (c : Thread nD τ) (st4_8 t) fullShare ((dat4 V c).after 8 t) ∗ owns (c : Thread nD τ) (st4_9 t) fullShare ((dat4 V c).after 9 t) ∗ owns (c : Thread nD τ) (st4_10 t) fullShare ((dat4 V c).after 10 t) ∗ owns (c : Thread nD τ) (st4_11 t) fullShare ((dat4 V c).after 11 t) ∗ owns (c : Thread nD τ) (st4_12 t) fullShare ((dat4 V c).after 12 t) ∗ owns (c : Thread nD τ) (st4_13 t) fullShare ((dat4 V c).after 13 t))

theorem first4 : ∀ t : Fin cfg4.N, (Scalar.cmpi .ne (Scalar.extui (Scalar.cmpi .eq (BitVec.ofNat 32 ((grid4.coords t) 0).val) 0#32)) 0#32 = 1#1) ↔ t.val = 0 :=
  by decide +kernel

set_option maxHeartbeats 8000000 in
theorem step4 (c : Dev nD) (t : Fin cfg4.N) :
    pre4 V c t ⊢ wp frame (wpE (defs₀ (F := F)) Variants.none c none) Set.univ (bodyAt4 t) (fun _ => post4 V c t) := by
  unfold pre4 post4 bodyAt4
  simp only [held4_0, held4_1, held4_2, held4_3, held4_4, held4_5, held4_6, held4_7, held4_8, held4_9, held4_10]
  rw [show (dat4 V c).owesAt () t.succ = (dat4 V c).owesAt () t.castSucc from rfl, leaves4_0, leaves4_1, leaves4_2, leaves4_3, leaves4_4, leaves4_5, leaves4_6, leaves4_7, leaves4_8, leaves4_9, leaves4_10, leaves4_11, leaves4_12, leaves4_13]
  rw [show (dat4 V c).Φ t.succ = inv4 V c (t.val + 1) t.isLt from rfl, inv4_pos V c _ _ (Nat.succ_ne_zero _),
    show (dat4 V c).Φ t.castSucc = inv4 V c t.val (Nat.le_of_lt t.isLt) from by dsimp only [dat4]; exact Pipeline.Dat.Φ_castSucc (inv4 V c) t]
  by_cases hz : t.val = 0
  · obtain rfl : t = pt4 := Fin.ext hz
    rw [inv4_zero V c _ _ hz, any4]
    iintro ⟨⟨⟨⟨G0, G1, G2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (triple4A c Set.univ (grid4.coords pt4) _ _ _ _ _ _ _ _ _ _ _ _ _ _ _ _ _ _ _ _ _ _ _ _ _ _ _ _ _ _ _ _ _ _ ((first4 pt4).mpr hz) (blk4 V c 0 pt4) (blk4 V c 1 pt4) (blk4 V c 2 pt4) (blk4 V c 3 pt4) (blk4 V c 4 pt4) (blk4 V c 5 pt4) (blk4 V c 6 pt4) (blk4 V c 7 pt4) (blk4 V c 8 pt4) (blk4 V c 9 pt4) (blk4 V c 10 pt4) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [G0]; · iexact G0
    isplitl [G1]; · iexact G1
    isplitl [G2]; · iexact G2
    iintro ⟨H0, H1, H2, H3, H4, H5, H6, H7, H8, H9, H10, H11, H12, H13, G0, G1, G2⟩
    isplitl [G0 G1 G2 Hr Hg]
    · isplitl [G0 G1 G2]
      · isplitl [G0]; · iexact G0
        isplitl [G1]; · iexact G1
        iexact G2
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [inv4_pos V c _ _ hz]
    iintro ⟨⟨⟨G0, G1, G2⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (triple4B c Set.univ (grid4.coords t) _ _ _ _ _ _ _ _ _ _ _ _ _ _ _ _ _ _ _ _ _ _ _ _ _ _ _ _ _ _ _ _ _ _ (fun h => hz ((first4 t).mp h)) (blk4 V c 0 t) (blk4 V c 1 t) (blk4 V c 2 t) (blk4 V c 3 t) (blk4 V c 4 t) (blk4 V c 5 t) (blk4 V c 6 t) (blk4 V c 7 t) (blk4 V c 8 t) (blk4 V c 9 t) (blk4 V c 10 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [G0]; · iexact G0
    isplitl [G1]; · iexact G1
    isplitl [G2]; · iexact G2
    iintro ⟨H0, H1, H2, H3, H4, H5, H6, H7, H8, H9, H10, H11, H12, H13, G0, G1, G2⟩
    isplitl [G0 G1 G2 Hr Hg]
    · isplitl [G0 G1 G2]
      · isplitl [G0]; · iexact G0
        isplitl [G1]; · iexact G1
        iexact G2
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem row4 (t : Fin cfg4.N) : defs₀ (F := F) .tc cfg4.body (cfg4.bodyArgs t (cfg4.slots t)) = bodyAt4 t := by
  unfold defs₀; rw [Defs.onTc_tc]
/-- The body's obligation at every point. -/
theorem body4 (c : Dev nD) : BodyObligation (dat4 (F := F) V c) (defs₀ (F := F)) Variants.none () Set.univ := fun t => by
  rw [bigSep_W4, bigSep_W4, row4]
  exact triple_restated (step4 V c t) rfl .rfl fun _ => .rfl

theorem in4 (c : Dev nD) : Pipeline.ΦA spec4 c ⊢ (dat4 V c).Φ 0 := by
  rw [show (dat4 V c).Φ 0 = inv4 V c 0 (Nat.zero_le _) from rfl, inv4_zero V c 0 _ rfl]
theorem away4 (c : Dev nD) : (dat4 V c).Φ (Fin.last cfg4.N) ⊢ Pipeline.ΦA spec4 c := by
  rw [show (dat4 V c).Φ (Fin.last cfg4.N) = inv4 V c cfg4.N le_rfl from rfl,
    inv4_pos V c _ _ (by rw [show cfg4.N = 25 from N_4]; decide), any4]
  iintro ⟨⟨G0, G1, G2⟩, Hr, Hg⟩
  isplitl [G0 G1 G2 Hr]
  · isplitl [G0 G1 G2]
    · isplitl [G0]; · iexists _; iexact G0
      isplitl [G1]; · iexists _; iexact G1
      iexists _; iexact G2
    iexact Hr
  iexact Hg

end Entry

end Cert.KernelIdeal.Calls

end

end
-- ==== Proof.KernelIdeal.Deg2.lean ====
/- The call that sums the columns of the second selection in each row: what one grid point does, and the proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Rects

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffers' contents when a call is entered
variable (V : (c : Dev nD) → (b : Ref sig .tc) → Buf (Elt F) ((c : Thread nD τ).loc b))

/-! ## The row sums over the second selection -/

/-- Window `w`'s block at grid point `t`, cut out of its array at the entry contents `V`. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
/-- What the body leaves in output window 2. -/
def out5_2 (x0 : Vec F S400x10000 .bf16) (x1 : Vec F S10000x1 .bf16)  : Vec F S400x1 .f32 :=
  View.canon [⟨r400x1, k5_pay1 (View.ld x0 r400x10000) (View.ld x1 r10000x1)⟩]
theorem cov5_2 (p : Vec F S400x1 .f32) (y : S400x1.Idx) : ∃ pc ∈ ([⟨r400x1, p⟩] : List (View.Piece (Elt F) S400x1 .f32)), y ∈ pc.1.set :=
  View.cover_of_tiled [⟨r400x1, p⟩] S400x1.size (by rfl) y

set_option maxHeartbeats 4000000 in
/-- The body on whole staging buffers: the inputs come back as they were, each output at its function of them. -/
theorem triple5 (c : Dev nD) (E : Set ℕ) (i : grid5.Coords) (arg1 : Memref sig .tc .vmem S400x10000 .bf16) (harg1 : arg1.IsWhole) (arg2 : Memref sig .tc .vmem S10000x1 .bf16) (harg2 : arg2.IsWhole) (arg3 : Memref sig .tc .vmem S400x1 .f32) (harg3 : arg3.IsWhole)
    (x0 : Vec F S400x10000 .bf16) (x1 : Vec F S10000x1 .bf16)  (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__deg_body i arg1 harg1 arg2 harg2 arg3 harg3) K := by
  simp only [cc5__deg_body_eq_skeleton]; unfold cc5__deg_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists _; isplitr
    swap; · iexact H0
    ipureintro; rfl
  isplitl [H1]
  · iexists _; isplitr
    swap; · iexact H1
    ipureintro; rfl
  iexists _; isplitr
  swap; · iexact H2
  ipureintro
  refine (View.read_writes_eq_canon _ _ _ (cov5_2 _)).trans ?_
  unfold out5_2
  rfl

/-- The call's proof data at the entry contents `V`. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => out5_2 (blk5 V c 0 t) (blk5 V c 1 t)
  Φ _ := Pipeline.ΦA spec5 c
  q _ := fullShare
  owed _ := 0
theorem entry5 (c : Dev nD) (w : Fin cfg5.W) : (dat5 V c).A w = V c (Pipeline.arrRef spec5 w) := by dsimp only [dat5]
theorem leaves5_0 (c : Dev nD) (t : Fin cfg5.N) : (dat5 V c).after 0 t = blk5 V c 0 t := by dsimp only [dat5]
theorem leaves5_1 (c : Dev nD) (t : Fin cfg5.N) : (dat5 V c).after 1 t = blk5 V c 1 t := by dsimp only [dat5]
theorem leaves5_2 (c : Dev nD) (t : Fin cfg5.N) : (dat5 V c).after 2 t = out5_2 (blk5 V c 0 t) (blk5 V c 1 t) := by dsimp only [dat5]
theorem held5_0 (c : Dev nD) (t : Fin cfg5.N) (d) : (dat5 V c).before 0 t d = blk5 V c 0 t :=
  ((dat5 V c).before_in_eq_fetched 0 rfl (fun _ => rfl) (fun _ _ _ => rfl)
    (fun t => by rw [leaves5_0]; unfold Dat.blockOf blk5; rw [entry5]; try rfl) t d).trans
    (by unfold Dat.fetched Dat.blockOf blk5; rw [entry5]; try rfl)
theorem held5_1 (c : Dev nD) (t : Fin cfg5.N) (d) : (dat5 V c).before 1 t d = blk5 V c 1 t :=
  ((dat5 V c).before_in_eq_fetched 1 rfl (fun _ => rfl) (fun _ _ _ => rfl)
    (fun t => by rw [leaves5_1]; unfold Dat.blockOf blk5; rw [entry5]; try rfl) t d).trans
    (by unfold Dat.fetched Dat.blockOf blk5; rw [entry5]; try rfl)

/-- What the body is called with at a point, and what it gives back. -/
def pre5 (c : Dev nD) (t : Fin cfg5.N) : sProp 𝕄 :=
  iprop((dat5 V c).Φ t.castSucc ∗ (dat5 V c).owesAt () t.castSucc ∗ (∃ d, owns (c : Thread nD τ) (st5_0 t) fullShare ((dat5 V c).before 0 t d)) ∗ (∃ d, owns (c : Thread nD τ) (st5_1 t) fullShare ((dat5 V c).before 1 t d)) ∗ (∃ d, owns (c : Thread nD τ) (st5_2 t) fullShare ((dat5 V c).before 2 t d)))
def post5 (c : Dev nD) (t : Fin cfg5.N) : sProp 𝕄 :=
  iprop((dat5 V c).Φ t.succ ∗ (dat5 V c).owesAt () t.succ ∗ owns (c : Thread nD τ) (st5_0 t) fullShare ((dat5 V c).after 0 t) ∗ owns (c : Thread nD τ) (st5_1 t) fullShare ((dat5 V c).after 1 t) ∗ owns (c : Thread nD τ) (st5_2 t) fullShare ((dat5 V c).after 2 t))

set_option maxHeartbeats 1000000 in
theorem step5 (c : Dev nD) (t : Fin cfg5.N) :
    pre5 V c t ⊢ wp frame (wpE (defs₀ (F := F)) Variants.none c none) Set.univ (bodyAt5 t) (fun _ => post5 V c t) := by
  unfold pre5 post5 bodyAt5
  simp only [held5_0, held5_1]
  rw [show (dat5 V c).Φ t.succ = (dat5 V c).Φ t.castSucc from rfl,
    show (dat5 V c).owesAt () t.succ = (dat5 V c).owesAt () t.castSucc from rfl, leaves5_0, leaves5_1, leaves5_2]
  iintro ⟨HΦ, Ho, ⟨%d0, H0⟩, ⟨%d1, H1⟩, ⟨%d2, H2⟩⟩
  iapply (triple5 c Set.univ (grid5.coords t) _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row5 (t : Fin cfg5.N) : defs₀ (F := F) .tc cfg5.body (cfg5.bodyArgs t (cfg5.slots t)) = bodyAt5 t := by
  unfold defs₀; rw [Defs.onTc_tc]
/-- The body's obligation at every point. -/
theorem body5 (c : Dev nD) : BodyObligation (dat5 (F := F) V c) (defs₀ (F := F)) Variants.none () Set.univ := fun t => by
  rw [bigSep_W5, bigSep_W5, row5]
  exact triple_restated (step5 V c t) rfl .rfl fun _ => .rfl

end Entry

end Cert.KernelIdeal.Calls

end

end
-- ==== Proof.KernelIdeal.Conv3.lean ====
/- The call of the third convolution. Its first grid point fills three scratch buffers that every point reads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Rects

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the buffers' contents when a call is entered
variable (V : (c : Dev nD) → (b : Ref sig .tc) → Buf (Elt F) ((c : Thread nD τ).loc b))

/-! ## The third convolution -/

/-- Window `w`'s block at grid point `t`, cut out of its array at the entry contents `V`. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
/-- Scratch buffer 0 once the first point has filled it. -/
def scr6_0 (x1 : Vec F S10000x1 .f32) (x3 : Vec F S10000x1 .f32) (x4 : Vec F S10000x1 .f32) (x6 : Vec F S10000x32 .f32) (x7 : Vec F S32x32 .f32) : Vec F S10000x32 .bf16 :=
  View.canon [⟨r10000x32, k6_pay5 (View.ld x3 r10000x1) (View.ld x4 r10000x1) (View.ld x6 r10000x32) (View.ld x7 r32x32) (View.ld x1 r10000x1)⟩]
theorem scov6_0 (p : Vec F S10000x32 .bf16) (y : S10000x32.Idx) : ∃ pc ∈ ([⟨r10000x32, p⟩] : List (View.Piece (Elt F) S10000x32 .bf16)), y ∈ pc.1.set :=
  View.cover_of_tiled [⟨r10000x32, p⟩] S10000x32.size (by rfl) y
/-- Scratch buffer 1 once the first point has filled it. -/
def scr6_1 (x1 : Vec F S10000x1 .f32) (x3 : Vec F S10000x1 .f32) (x4 : Vec F S10000x1 .f32) (x6 : Vec F S10000x32 .f32) (x7 : Vec F S32x32 .f32) : Vec F S10000x32 .bf16 :=
  View.canon [⟨r10000x32, k6_pay6 (View.ld x3 r10000x1) (View.ld x4 r10000x1) (View.ld x6 r10000x32) (View.ld x7 r32x32) (View.ld x1 r10000x1)⟩]
theorem scov6_1 (p : Vec F S10000x32 .bf16) (y : S10000x32.Idx) : ∃ pc ∈ ([⟨r10000x32, p⟩] : List (View.Piece (Elt F) S10000x32 .bf16)), y ∈ pc.1.set :=
  View.cover_of_tiled [⟨r10000x32, p⟩] S10000x32.size (by rfl) y
/-- Scratch buffer 2 once the first point has filled it. -/
def scr6_2 (x3 : Vec F S10000x1 .f32) (x4 : Vec F S10000x1 .f32) (x6 : Vec F S10000x32 .f32) (x8 : Vec F S32x32 .f32) (x9 : Vec F S1x32 .f32) : Vec F S10000x32 .f32 :=
  View.canon [⟨r10000x32, k6_pay8 (k6_pay7 (View.ld x3 r10000x1) (View.ld x4 r10000x1) (View.ld x6 r10000x32) (View.ld x8 r32x32) (View.ld x9 r1x32))⟩]
theorem scov6_2 (p : Vec F S10000x32 .f32) (y : S10000x32.Idx) : ∃ pc ∈ ([⟨r10000x32, p⟩] : List (View.Piece (Elt F) S10000x32 .f32)), y ∈ pc.1.set :=
  View.cover_of_tiled [⟨r10000x32, p⟩] S10000x32.size (by rfl) y
/-- What the body leaves in output window 11. -/
def out6_11 (i : grid6.Coords) (x0 : Vec F S400x10000 .bf16) (x2 : Vec F S400x1 .f32) (x5 : Vec F S400x1 .f32) (s0 : Vec F S10000x32 .bf16) (s1 : Vec F S10000x32 .bf16) (s2 : Vec F S10000x32 .f32) : Vec F S400x32 .f32 :=
  View.canon [⟨r400x32, k6_pay9 (View.ld x0 r400x10000) (View.ld s0 r10000x32) (View.ld x0 r400x10000) (View.ld s1 r10000x32) (View.ld x2 r400x1) (View.ld s2 (Rect.unit (s := S10000x32) (k6_off1 i) S400x32.size (k6_off1_inb i))) (View.ld x5 r400x1)⟩]
theorem cov6_11 (p : Vec F S400x32 .f32) (y : S400x32.Idx) : ∃ pc ∈ ([⟨r400x32, p⟩] : List (View.Piece (Elt F) S400x32 .f32)), y ∈ pc.1.set :=
  View.cover_of_tiled [⟨r400x32, p⟩] S400x32.size (by rfl) y
/-- What the body leaves in output window 12. -/
def out6_12 (i : grid6.Coords) (x0 : Vec F S400x10000 .bf16) (x2 : Vec F S400x1 .f32) (x5 : Vec F S400x1 .f32) (x10 : Vec F S32x1 .f32) (s0 : Vec F S10000x32 .bf16) (s1 : Vec F S10000x32 .bf16) (s2 : Vec F S10000x32 .f32) : Vec F S400x1 .f32 :=
  View.canon [⟨r400x1, k6_pay10 (View.ld x0 r400x10000) (View.ld s0 r10000x32) (View.ld x0 r400x10000) (View.ld s1 r10000x32) (View.ld x2 r400x1) (View.ld s2 (Rect.unit (s := S10000x32) (k6_off1 i) S400x32.size (k6_off1_inb i))) (View.ld x5 r400x1) (View.ld x10 r32x1)⟩]
theorem cov6_12 (p : Vec F S400x1 .f32) (y : S400x1.Idx) : ∃ pc ∈ ([⟨r400x1, p⟩] : List (View.Piece (Elt F) S400x1 .f32)), y ∈ pc.1.set :=
  View.cover_of_tiled [⟨r400x1, p⟩] S400x1.size (by rfl) y
/-- What the body leaves in output window 13. -/
def out6_13 (i : grid6.Coords) (x0 : Vec F S400x10000 .bf16) (x2 : Vec F S400x1 .f32) (x5 : Vec F S400x1 .f32) (s0 : Vec F S10000x32 .bf16) (s1 : Vec F S10000x32 .bf16) (s2 : Vec F S10000x32 .f32) : Vec F S1x1x32 .f32 :=
  View.canon [⟨r1x1x32, k6_pay1 (k6_pay9 (View.ld x0 r400x10000) (View.ld s0 r10000x32) (View.ld x0 r400x10000) (View.ld s1 r10000x32) (View.ld x2 r400x1) (View.ld s2 (Rect.unit (s := S10000x32) (k6_off1 i) S400x32.size (k6_off1_inb i))) (View.ld x5 r400x1))⟩]
theorem cov6_13 (p : Vec F S1x1x32 .f32) (y : S1x1x32.Idx) : ∃ pc ∈ ([⟨r1x1x32, p⟩] : List (View.Piece (Elt F) S1x1x32 .f32)), y ∈ pc.1.set :=
  View.cover_of_tiled [⟨r1x1x32, p⟩] S1x1x32.size (by rfl) y

set_option maxHeartbeats 4000000 in
/-- The body at the first point, where it fills the scratch buffers before it reads them. -/
theorem triple6A (c : Dev nD) (E : Set ℕ) (i : grid6.Coords) (arg1 : Memref sig .tc .vmem S400x10000 .bf16) (harg1 : arg1.IsWhole) (arg2 : Memref sig .tc .vmem S10000x1 .f32) (harg2 : arg2.IsWhole) (arg3 : Memref sig .tc .vmem S400x1 .f32) (harg3 : arg3.IsWhole) (arg4 : Memref sig .tc .vmem S10000x1 .f32) (harg4 : arg4.IsWhole) (arg5 : Memref sig .tc .vmem S10000x1 .f32) (harg5 : arg5.IsWhole) (arg6 : Memref sig .tc .vmem S400x1 .f32) (harg6 : arg6.IsWhole) (arg7 : Memref sig .tc .vmem S10000x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S32x1 .f32) (harg11 : arg11.IsWhole) (arg12 : Memref sig .tc .vmem S400x32 .f32) (harg12 : arg12.IsWhole) (arg13 : Memref sig .tc .vmem S400x1 .f32) (harg13 : arg13.IsWhole) (arg14 : Memref sig .tc .vmem S1x1x32 .f32) (harg14 : arg14.IsWhole) (arg15 : Memref sig .tc .vmem S10000x32 .bf16) (harg15 : arg15.IsWhole) (arg16 : Memref sig .tc .vmem S10000x32 .bf16) (harg16 : arg16.IsWhole) (arg17 : Memref sig .tc .vmem S10000x32 .f32) (harg17 : arg17.IsWhole) (hc : Scalar.cmpi .ne (Scalar.extui (Scalar.cmpi .eq (BitVec.ofNat 32 (i 0).val) 0#32)) 0#32 = 1#1)
    (x0 : Vec F S400x10000 .bf16) (x1 : Vec F S10000x1 .f32) (x2 : Vec F S400x1 .f32) (x3 : Vec F S10000x1 .f32) (x4 : Vec F S10000x1 .f32) (x5 : Vec F S400x1 .f32) (x6 : Vec F S10000x32 .f32) (x7 : Vec F S32x32 .f32) (x8 : Vec F S32x32 .f32) (x9 : Vec F S1x32 .f32) (x10 : Vec F S32x1 .f32)  (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out6_11 i x0 x2 x5 (scr6_0 x1 x3 x4 x6 x7) (scr6_1 x1 x3 x4 x6 x7) (scr6_2 x3 x4 x6 x8 x9)) ∗ owns (c : Thread nD τ) arg13 fullShare (out6_12 i x0 x2 x5 x10 (scr6_0 x1 x3 x4 x6 x7) (scr6_1 x1 x3 x4 x6 x7) (scr6_2 x3 x4 x6 x8 x9)) ∗ owns (c : Thread nD τ) arg14 fullShare (out6_13 i x0 x2 x5 (scr6_0 x1 x3 x4 x6 x7) (scr6_1 x1 x3 x4 x6 x7) (scr6_2 x3 x4 x6 x8 x9)) ∗ owns (c : Thread nD τ) arg15 fullShare (scr6_0 x1 x3 x4 x6 x7) ∗ owns (c : Thread nD τ) arg16 fullShare (scr6_1 x1 x3 x4 x6 x7) ∗ owns (c : Thread nD τ) arg17 fullShare (scr6_2 x3 x4 x6 x8 x9)) -∗ K ⟨⟩))
      ⊢ wp frame (wpE (defs₀ (F := F)) Variants.none c none) E (cc6__conv23_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc6__conv23_body_eq_skeleton]; unfold cc6__conv23_body_skel
  simp only [k6_part2_eq_skeleton, k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%e0, %g0, -, G0⟩, ⟨%e1, %g1, -, G1⟩, ⟨%e2, %g2, -, G2⟩, Hk⟩
  subst hf0; subst hf1; subst hf2; subst hf3; subst hf4; subst hf5; subst hf6; subst hf7; subst hf8; subst hf9; subst hf10
  sl_exec (disch := first | sl_exact hc)
  sl_step
  iapply Hk
  have hs0 := fun p => View.read_writes_eq_canon (Val := Elt F) arg15.view g0 _ (scov6_0 p)
  have hs1 := fun p => View.read_writes_eq_canon (Val := Elt F) arg16.view g1 _ (scov6_1 p)
  have hs2 := fun p => View.read_writes_eq_canon (Val := Elt F) arg17.view g2 _ (scov6_2 p)
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro
    refine (View.read_writes_eq_canon _ _ _ (cov6_11 _)).trans ?_
    unfold out6_11 scr6_0 scr6_1 scr6_2
    unfold triple6A.sl.v5 triple6A.sl.v9 triple6A.sl.v18
    simp only [View.readCov_eq_canon', View.readAt_writes_junk_eq_canon]
    rfl
  isplitl [H12]
  · iexists _; isplitr
    swap; · iexact H12
    ipureintro
    refine (View.read_writes_eq_canon _ _ _ (cov6_12 _)).trans ?_
    unfold out6_12 scr6_0 scr6_1 scr6_2
    try unfold triple6A.sl.r_2
    try unfold triple6A.sl.r_1
    unfold triple6A.sl.v5 triple6A.sl.v9 triple6A.sl.v18
    simp only [View.readCov_eq_canon', View.readAt_writes_junk_eq_canon]
    rfl
  isplitl [H13]
  · iexists _; isplitr
    swap; · iexact H13
    ipureintro
    refine (View.read_writes_eq_canon _ _ _ (cov6_13 _)).trans ?_
    unfold out6_13 scr6_0 scr6_1 scr6_2
    try unfold triple6A.sl.r_3
    try unfold triple6A.sl.r_1
    unfold triple6A.sl.v5 triple6A.sl.v9 triple6A.sl.v18
    simp only [View.readCov_eq_canon', View.readAt_writes_junk_eq_canon]
    rfl
  isplitl [G0]
  · iexists _; isplitr
    swap; · iexact G0
    ipureintro
    try unfold triple6A.sl.G0_1
    refine (View.read_writes_eq_canon _ _ _ (scov6_0 _)).trans ?_
    unfold scr6_0
    rfl
  isplitl [G1]
  · iexists _; isplitr
    swap; · iexact G1
    ipureintro
    try unfold triple6A.sl.G1_1
    refine (View.read_writes_eq_canon _ _ _ (scov6_1 _)).trans ?_
    unfold scr6_1
    rfl
  iexists _; isplitr
  swap; · iexact G2
  ipureintro
  try unfold triple6A.sl.G2_1
  refine (View.read_writes_eq_canon _ _ _ (scov6_2 _)).trans ?_
  unfold scr6_2
  rfl

set_option maxHeartbeats 4000000 in
/-- The body at a later point, where it finds the scratch buffers filled. -/
theorem triple6B (c : Dev nD) (E : Set ℕ) (i : grid6.Coords) (arg1 : Memref sig .tc .vmem S400x10000 .bf16) (harg1 : arg1.IsWhole) (arg2 : Memref sig .tc .vmem S10000x1 .f32) (harg2 : arg2.IsWhole) (arg3 : Memref sig .tc .vmem S400x1 .f32) (harg3 : arg3.IsWhole) (arg4 : Memref sig .tc .vmem S10000x1 .f32) (harg4 : arg4.IsWhole) (arg5 : Memref sig .tc .vmem S10000x1 .f32) (harg5 : arg5.IsWhole) (arg6 : Memref sig .tc .vmem S400x1 .f32) (harg6 : arg6.IsWhole) (arg7 : Memref sig .tc .vmem S10000x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S1x32 .f32) (harg10 : arg10.IsWhole) (arg11 : Memref sig .tc .vmem S32x1 .f32) (harg11 : arg11.IsWhole) (arg12 : Memref sig .tc .vmem S400x32 .f32) (harg12 : arg12.IsWhole) (arg13 : Memref sig .tc .vmem S400x1 .f32) (harg13 : arg13.IsWhole) (arg14 : Memref sig .tc .vmem S1x1x32 .f32) (harg14 : arg14.IsWhole) (arg15 : Memref sig .tc .vmem S10000x32 .bf16) (harg15 : arg15.IsWhole) (arg16 : Memref sig .tc .vmem S10000x32 .bf16) (harg16 : arg16.IsWhole) (arg17 : Memref sig .tc .vmem S10000x32 .f32) (harg17 : arg17.IsWhole) (hc : ¬ (Scalar.cmpi .ne (Scalar.extui (Scalar.cmpi .eq (BitVec.ofNat 32 (i 0).val) 0#32)) 0#32 = 1#1))
    (x0 : Vec F S400x10000 .bf16) (x1 : Vec F S10000x1 .f32) (x2 : Vec F S400x1 .f32) (x3 : Vec F S10000x1 .f32) (x4 : Vec F S10000x1 .f32) (x5 : Vec F S400x1 .f32) (x6 : Vec F S10000x32 .f32) (x7 : Vec F S32x32 .f32) (x8 : Vec F S32x32 .f32) (x9 : Vec F S1x32 .f32) (x10 : Vec F S32x1 .f32) (s0 : Vec F S10000x32 .bf16) (s1 : Vec F S10000x32 .bf16) (s2 : Vec F S10000x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s0 ∗ owns (c : Thread nD τ) arg16 fullShare s1 ∗ owns (c : Thread nD τ) arg17 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out6_11 i x0 x2 x5 s0 s1 s2) ∗ owns (c : Thread nD τ) arg13 fullShare (out6_12 i x0 x2 x5 x10 s0 s1 s2) ∗ owns (c : Thread nD τ) arg14 fullShare (out6_13 i x0 x2 x5 s0 s1 s2) ∗ owns (c : Thread nD τ) arg15 fullShare s0 ∗ owns (c : Thread nD τ) arg16 fullShare s1 ∗ owns (c : Thread nD τ) arg17 fullShare s2) -∗ K ⟨⟩))
      ⊢ wp frame (wpE (defs₀ (F := F)) Variants.none c none) E (cc6__conv23_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc6__conv23_body_eq_skeleton]; unfold cc6__conv23_body_skel
  simp only [k6_part2_eq_skeleton, k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%g0, %hg0, G0⟩, ⟨%g1, %hg1, G1⟩, ⟨%g2, %hg2, G2⟩, Hk⟩
  subst hf0; subst hf1; subst hf2; subst hf3; subst hf4; subst hf5; subst hf6; subst hf7; subst hf8; subst hf9; subst hf10; subst hg0; subst hg1; subst hg2
  sl_exec (disch := first | sl_exact hc)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro
    refine (View.read_writes_eq_canon _ _ _ (cov6_11 _)).trans ?_
    unfold out6_11
    rfl
  isplitl [H12]
  · iexists _; isplitr
    swap; · iexact H12
    ipureintro
    refine (View.read_writes_eq_canon _ _ _ (cov6_12 _)).trans ?_
    unfold out6_12
    rfl
  isplitl [H13]
  · iexists _; isplitr
    swap; · iexact H13
    ipureintro
    refine (View.read_writes_eq_canon _ _ _ (cov6_13 _)).trans ?_
    unfold out6_13
    rfl
  isplitl [G0]
  · iexists _; isplitr
    swap; · iexact G0
    ipureintro; rfl
  isplitl [G1]
  · iexists _; isplitr
    swap; · iexact G1
    ipureintro; rfl
  iexists _; isplitr
  swap; · iexact G2
  ipureintro; rfl

/-- The first grid point. -/
def pt6 : Fin cfg6.N := ⟨0, by rw [show cfg6.N = 25 from N_6]; decide⟩
/-- Scratch buffer 0 from the first point on. -/
def held6s_0 (c : Dev nD) : Vec F S10000x32 .bf16 := scr6_0 (blk6 V c 1 pt6) (blk6 V c 3 pt6) (blk6 V c 4 pt6) (blk6 V c 6 pt6) (blk6 V c 7 pt6)
/-- Scratch buffer 1 from the first point on. -/
def held6s_1 (c : Dev nD) : Vec F S10000x32 .bf16 := scr6_1 (blk6 V c 1 pt6) (blk6 V c 3 pt6) (blk6 V c 4 pt6) (blk6 V c 6 pt6) (blk6 V c 7 pt6)
/-- Scratch buffer 2 from the first point on. -/
def held6s_2 (c : Dev nD) : Vec F S10000x32 .f32 := scr6_2 (blk6 V c 3 pt6) (blk6 V c 4 pt6) (blk6 V c 6 pt6) (blk6 V c 8 pt6) (blk6 V c 9 pt6)
/-- Between points: before the first nothing is known of the scratch buffers; afterwards each holds what the first point put in it. -/
def inv6 (c : Dev nD) : (n : ℕ) → n ≤ cfg6.N → sProp 𝕄
  | 0, _ => Pipeline.ΦA spec6 c
  | _ + 1, _ => iprop(iprop(owns (c : Thread nD τ) (Memref.whole cc6_scratch0) fullShare (held6s_0 V c) ∗ owns (c : Thread nD τ) (Memref.whole cc6_scratch1) fullShare (held6s_1 V c) ∗ owns (c : Thread nD τ) (Memref.whole cc6_scratch2) fullShare (held6s_2 V c)) ∗ Pipeline.scopedRestBut (Ix := Unit) (Name := ℕ) (U := UR sig nD τ) (Lvl := ℕ) (Val := Elt F) spec6 c [cc6_scratch0, cc6_scratch1, cc6_scratch2] ∗ ∃ r, prngReg c r)
theorem inv6_zero (c : Dev nD) (n : ℕ) (h : n ≤ cfg6.N) (hz : n = 0) : inv6 V c n h = Pipeline.ΦA spec6 c := by
  subst hz; rfl
theorem inv6_pos (c : Dev nD) (n : ℕ) (h : n ≤ cfg6.N) (hz : n ≠ 0) :
    inv6 V c n h = iprop(iprop(owns (c : Thread nD τ) (Memref.whole cc6_scratch0) fullShare (held6s_0 V c) ∗ owns (c : Thread nD τ) (Memref.whole cc6_scratch1) fullShare (held6s_1 V c) ∗ owns (c : Thread nD τ) (Memref.whole cc6_scratch2) fullShare (held6s_2 V c)) ∗ Pipeline.scopedRestBut (Ix := Unit) (Name := ℕ) (U := UR sig nD τ) (Lvl := ℕ) (Val := Elt F) spec6 c [cc6_scratch0, cc6_scratch1, cc6_scratch2] ∗ ∃ r, prngReg c r) := by
  cases n with
  | zero => exact absurd rfl hz
  | succ n => rfl
theorem any6 (c : Dev nD) : (Pipeline.ΦA spec6 c : sProp 𝕄) = iprop(iprop(iprop((∃ d, owns (c : Thread nD τ) (Memref.whole cc6_scratch0) fullShare d) ∗ (∃ d, owns (c : Thread nD τ) (Memref.whole cc6_scratch1) fullShare d) ∗ (∃ d, owns (c : Thread nD τ) (Memref.whole cc6_scratch2) fullShare d)) ∗ Pipeline.scopedRestBut (Ix := Unit) (Name := ℕ) (U := UR sig nD τ) (Lvl := ℕ) (Val := Elt F) spec6 c [cc6_scratch0, cc6_scratch1, cc6_scratch2]) ∗ ∃ r, prngReg c r) := by
  unfold Pipeline.ΦA; rw [scopedRest6_split]; simp only [owns_whole]

/-- The call's proof data at the entry contents `V`. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => blk6 V c 5 t
    | ⟨6, _⟩ => blk6 V c 6 t
    | ⟨7, _⟩ => blk6 V c 7 t
    | ⟨8, _⟩ => blk6 V c 8 t
    | ⟨9, _⟩ => blk6 V c 9 t
    | ⟨10, _⟩ => blk6 V c 10 t
    | ⟨11, _⟩ => out6_11 (grid6.coords t) (blk6 V c 0 t) (blk6 V c 2 t) (blk6 V c 5 t) (held6s_0 V c) (held6s_1 V c) (held6s_2 V c)
    | ⟨12, _⟩ => out6_12 (grid6.coords t) (blk6 V c 0 t) (blk6 V c 2 t) (blk6 V c 5 t) (blk6 V c 10 t) (held6s_0 V c) (held6s_1 V c) (held6s_2 V c)
    | ⟨13, _⟩ => out6_13 (grid6.coords t) (blk6 V c 0 t) (blk6 V c 2 t) (blk6 V c 5 t) (held6s_0 V c) (held6s_1 V c) (held6s_2 V c)
  Φ t := inv6 V c t.val (Nat.le_of_lt_succ t.isLt)
  q w := Pipeline.shareOf spec6 w
  owed _ := 0
theorem entry6 (c : Dev nD) (w : Fin cfg6.W) : (dat6 V c).A w = V c (Pipeline.arrRef spec6 w) := by dsimp only [dat6]
theorem leaves6_0 (c : Dev nD) (t : Fin cfg6.N) : (dat6 V c).after 0 t = blk6 V c 0 t := by dsimp only [dat6]
theorem leaves6_1 (c : Dev nD) (t : Fin cfg6.N) : (dat6 V c).after 1 t = blk6 V c 1 t := by dsimp only [dat6]
theorem leaves6_2 (c : Dev nD) (t : Fin cfg6.N) : (dat6 V c).after 2 t = blk6 V c 2 t := by dsimp only [dat6]
theorem leaves6_3 (c : Dev nD) (t : Fin cfg6.N) : (dat6 V c).after 3 t = blk6 V c 3 t := by dsimp only [dat6]
theorem leaves6_4 (c : Dev nD) (t : Fin cfg6.N) : (dat6 V c).after 4 t = blk6 V c 4 t := by dsimp only [dat6]
theorem leaves6_5 (c : Dev nD) (t : Fin cfg6.N) : (dat6 V c).after 5 t = blk6 V c 5 t := by dsimp only [dat6]
theorem leaves6_6 (c : Dev nD) (t : Fin cfg6.N) : (dat6 V c).after 6 t = blk6 V c 6 t := by dsimp only [dat6]
theorem leaves6_7 (c : Dev nD) (t : Fin cfg6.N) : (dat6 V c).after 7 t = blk6 V c 7 t := by dsimp only [dat6]
theorem leaves6_8 (c : Dev nD) (t : Fin cfg6.N) : (dat6 V c).after 8 t = blk6 V c 8 t := by dsimp only [dat6]
theorem leaves6_9 (c : Dev nD) (t : Fin cfg6.N) : (dat6 V c).after 9 t = blk6 V c 9 t := by dsimp only [dat6]
theorem leaves6_10 (c : Dev nD) (t : Fin cfg6.N) : (dat6 V c).after 10 t = blk6 V c 10 t := by dsimp only [dat6]
theorem leaves6_11 (c : Dev nD) (t : Fin cfg6.N) : (dat6 V c).after 11 t = out6_11 (grid6.coords t) (blk6 V c 0 t) (blk6 V c 2 t) (blk6 V c 5 t) (held6s_0 V c) (held6s_1 V c) (held6s_2 V c) := by dsimp only [dat6]
theorem leaves6_12 (c : Dev nD) (t : Fin cfg6.N) : (dat6 V c).after 12 t = out6_12 (grid6.coords t) (blk6 V c 0 t) (blk6 V c 2 t) (blk6 V c 5 t) (blk6 V c 10 t) (held6s_0 V c) (held6s_1 V c) (held6s_2 V c) := by dsimp only [dat6]
theorem leaves6_13 (c : Dev nD) (t : Fin cfg6.N) : (dat6 V c).after 13 t = out6_13 (grid6.coords t) (blk6 V c 0 t) (blk6 V c 2 t) (blk6 V c 5 t) (held6s_0 V c) (held6s_1 V c) (held6s_2 V c) := by dsimp only [dat6]
theorem held6_0 (c : Dev nD) (t : Fin cfg6.N) (d) : (dat6 V c).before 0 t d = blk6 V c 0 t :=
  ((dat6 V c).before_in_eq_fetched 0 rfl (fun _ => rfl) (fun _ _ _ => rfl)
    (fun t => by rw [leaves6_0]; unfold Dat.blockOf blk6; rw [entry6]; try rfl) t d).trans
    (by unfold Dat.fetched Dat.blockOf blk6; rw [entry6]; try rfl)
theorem held6_1 (c : Dev nD) (t : Fin cfg6.N) (d) : (dat6 V c).before 1 t d = blk6 V c 1 t :=
  ((dat6 V c).before_in_eq_fetched 1 rfl (fun _ => rfl) (fun _ _ _ => rfl)
    (fun t => by rw [leaves6_1]; unfold Dat.blockOf blk6; rw [entry6]; try rfl) t d).trans
    (by unfold Dat.fetched Dat.blockOf blk6; rw [entry6]; try rfl)
theorem held6_2 (c : Dev nD) (t : Fin cfg6.N) (d) : (dat6 V c).before 2 t d = blk6 V c 2 t :=
  ((dat6 V c).before_in_eq_fetched 2 rfl (fun _ => rfl) (fun _ _ _ => rfl)
    (fun t => by rw [leaves6_2]; unfold Dat.blockOf blk6; rw [entry6]; try rfl) t d).trans
    (by unfold Dat.fetched Dat.blockOf blk6; rw [entry6]; try rfl)
theorem held6_3 (c : Dev nD) (t : Fin cfg6.N) (d) : (dat6 V c).before 3 t d = blk6 V c 3 t :=
  ((dat6 V c).before_in_eq_fetched 3 rfl (fun _ => rfl) (fun _ _ _ => rfl)
    (fun t => by rw [leaves6_3]; unfold Dat.blockOf blk6; rw [entry6]; try rfl) t d).trans
    (by unfold Dat.fetched Dat.blockOf blk6; rw [entry6]; try rfl)
theorem held6_4 (c : Dev nD) (t : Fin cfg6.N) (d) : (dat6 V c).before 4 t d = blk6 V c 4 t :=
  ((dat6 V c).before_in_eq_fetched 4 rfl (fun _ => rfl) (fun _ _ _ => rfl)
    (fun t => by rw [leaves6_4]; unfold Dat.blockOf blk6; rw [entry6]; try rfl) t d).trans
    (by unfold Dat.fetched Dat.blockOf blk6; rw [entry6]; try rfl)
theorem held6_5 (c : Dev nD) (t : Fin cfg6.N) (d) : (dat6 V c).before 5 t d = blk6 V c 5 t :=
  ((dat6 V c).before_in_eq_fetched 5 rfl (fun _ => rfl) (fun _ _ _ => rfl)
    (fun t => by rw [leaves6_5]; unfold Dat.blockOf blk6; rw [entry6]; try rfl) t d).trans
    (by unfold Dat.fetched Dat.blockOf blk6; rw [entry6]; try rfl)
theorem held6_6 (c : Dev nD) (t : Fin cfg6.N) (d) : (dat6 V c).before 6 t d = blk6 V c 6 t :=
  ((dat6 V c).before_in_eq_fetched 6 rfl (fun _ => rfl) (fun _ _ _ => rfl)
    (fun t => by rw [leaves6_6]; unfold Dat.blockOf blk6; rw [entry6]; try rfl) t d).trans
    (by unfold Dat.fetched Dat.blockOf blk6; rw [entry6]; try rfl)
theorem held6_7 (c : Dev nD) (t : Fin cfg6.N) (d) : (dat6 V c).before 7 t d = blk6 V c 7 t :=
  ((dat6 V c).before_in_eq_fetched 7 rfl (fun _ => rfl) (fun _ _ _ => rfl)
    (fun t => by rw [leaves6_7]; unfold Dat.blockOf blk6; rw [entry6]; try rfl) t d).trans
    (by unfold Dat.fetched Dat.blockOf blk6; rw [entry6]; try rfl)
theorem held6_8 (c : Dev nD) (t : Fin cfg6.N) (d) : (dat6 V c).before 8 t d = blk6 V c 8 t :=
  ((dat6 V c).before_in_eq_fetched 8 rfl (fun _ => rfl) (fun _ _ _ => rfl)
    (fun t => by rw [leaves6_8]; unfold Dat.blockOf blk6; rw [entry6]; try rfl) t d).trans
    (by unfold Dat.fetched Dat.blockOf blk6; rw [entry6]; try rfl)
theorem held6_9 (c : Dev nD) (t : Fin cfg6.N) (d) : (dat6 V c).before 9 t d = blk6 V c 9 t :=
  ((dat6 V c).before_in_eq_fetched 9 rfl (fun _ => rfl) (fun _ _ _ => rfl)
    (fun t => by rw [leaves6_9]; unfold Dat.blockOf blk6; rw [entry6]; try rfl) t d).trans
    (by unfold Dat.fetched Dat.blockOf blk6; rw [entry6]; try rfl)
theorem held6_10 (c : Dev nD) (t : Fin cfg6.N) (d) : (dat6 V c).before 10 t d = blk6 V c 10 t :=
  ((dat6 V c).before_in_eq_fetched 10 rfl (fun _ => rfl) (fun _ _ _ => rfl)
    (fun t => by rw [leaves6_10]; unfold Dat.blockOf blk6; rw [entry6]; try rfl) t d).trans
    (by unfold Dat.fetched Dat.blockOf blk6; rw [entry6]; try rfl)

/-- What the body is called with at a point, and what it gives back. -/
def pre6 (c : Dev nD) (t : Fin cfg6.N) : sProp 𝕄 :=
  iprop((dat6 V c).Φ t.castSucc ∗ (dat6 V c).owesAt () t.castSucc ∗ (∃ d, owns (c : Thread nD τ) (st6_0 t) fullShare ((dat6 V c).before 0 t d)) ∗ (∃ d, owns (c : Thread nD τ) (st6_1 t) fullShare ((dat6 V c).before 1 t d)) ∗ (∃ d, owns (c : Thread nD τ) (st6_2 t) fullShare ((dat6 V c).before 2 t d)) ∗ (∃ d, owns (c : Thread nD τ) (st6_3 t) fullShare ((dat6 V c).before 3 t d)) ∗ (∃ d, owns (c : Thread nD τ) (st6_4 t) fullShare ((dat6 V c).before 4 t d)) ∗ (∃ d, owns (c : Thread nD τ) (st6_5 t) fullShare ((dat6 V c).before 5 t d)) ∗ (∃ d, owns (c : Thread nD τ) (st6_6 t) fullShare ((dat6 V c).before 6 t d)) ∗ (∃ d, owns (c : Thread nD τ) (st6_7 t) fullShare ((dat6 V c).before 7 t d)) ∗ (∃ d, owns (c : Thread nD τ) (st6_8 t) fullShare ((dat6 V c).before 8 t d)) ∗ (∃ d, owns (c : Thread nD τ) (st6_9 t) fullShare ((dat6 V c).before 9 t d)) ∗ (∃ d, owns (c : Thread nD τ) (st6_10 t) fullShare ((dat6 V c).before 10 t d)) ∗ (∃ d, owns (c : Thread nD τ) (st6_11 t) fullShare ((dat6 V c).before 11 t d)) ∗ (∃ d, owns (c : Thread nD τ) (st6_12 t) fullShare ((dat6 V c).before 12 t d)) ∗ (∃ d, owns (c : Thread nD τ) (st6_13 t) fullShare ((dat6 V c).before 13 t d)))
def post6 (c : Dev nD) (t : Fin cfg6.N) : sProp 𝕄 :=
  iprop((dat6 V c).Φ t.succ ∗ (dat6 V c).owesAt () t.succ ∗ owns (c : Thread nD τ) (st6_0 t) fullShare ((dat6 V c).after 0 t) ∗ owns (c : Thread nD τ) (st6_1 t) fullShare ((dat6 V c).after 1 t) ∗ owns (c : Thread nD τ) (st6_2 t) fullShare ((dat6 V c).after 2 t) ∗ owns (c : Thread nD τ) (st6_3 t) fullShare ((dat6 V c).after 3 t) ∗ owns (c : Thread nD τ) (st6_4 t) fullShare ((dat6 V c).after 4 t) ∗ owns (c : Thread nD τ) (st6_5 t) fullShare ((dat6 V c).after 5 t) ∗ owns (c : Thread nD τ) (st6_6 t) fullShare ((dat6 V c).after 6 t) ∗ owns (c : Thread nD τ) (st6_7 t) fullShare ((dat6 V c).after 7 t) ∗ owns (c : Thread nD τ) (st6_8 t) fullShare ((dat6 V c).after 8 t) ∗ owns (c : Thread nD τ) (st6_9 t) fullShare ((dat6 V c).after 9 t) ∗ owns (c : Thread nD τ) (st6_10 t) fullShare ((dat6 V c).after 10 t) ∗ owns (c : Thread nD τ) (st6_11 t) fullShare ((dat6 V c).after 11 t) ∗ owns (c : Thread nD τ) (st6_12 t) fullShare ((dat6 V c).after 12 t) ∗ owns (c : Thread nD τ) (st6_13 t) fullShare ((dat6 V c).after 13 t))

theorem first6 : ∀ t : Fin cfg6.N, (Scalar.cmpi .ne (Scalar.extui (Scalar.cmpi .eq (BitVec.ofNat 32 ((grid6.coords t) 0).val) 0#32)) 0#32 = 1#1) ↔ t.val = 0 :=
  by decide +kernel

set_option maxHeartbeats 8000000 in
theorem step6 (c : Dev nD) (t : Fin cfg6.N) :
    pre6 V c t ⊢ wp frame (wpE (defs₀ (F := F)) Variants.none c none) Set.univ (bodyAt6 t) (fun _ => post6 V c t) := by
  unfold pre6 post6 bodyAt6
  simp only [held6_0, held6_1, held6_2, held6_3, held6_4, held6_5, held6_6, held6_7, held6_8, held6_9, held6_10]
  rw [show (dat6 V c).owesAt () t.succ = (dat6 V c).owesAt () t.castSucc from rfl, leaves6_0, leaves6_1, leaves6_2, leaves6_3, leaves6_4, leaves6_5, leaves6_6, leaves6_7, leaves6_8, leaves6_9, leaves6_10, leaves6_11, leaves6_12, leaves6_13]
  rw [show (dat6 V c).Φ t.succ = inv6 V c (t.val + 1) t.isLt from rfl, inv6_pos V c _ _ (Nat.succ_ne_zero _),
    show (dat6 V c).Φ t.castSucc = inv6 V c t.val (Nat.le_of_lt t.isLt) from by dsimp only [dat6]; exact Pipeline.Dat.Φ_castSucc (inv6 V c) t]
  by_cases hz : t.val = 0
  · obtain rfl : t = pt6 := Fin.ext hz
    rw [inv6_zero V c _ _ hz, any6]
    iintro ⟨⟨⟨⟨G0, G1, G2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (triple6A c Set.univ (grid6.coords pt6) _ _ _ _ _ _ _ _ _ _ _ _ _ _ _ _ _ _ _ _ _ _ _ _ _ _ _ _ _ _ _ _ _ _ ((first6 pt6).mpr hz) (blk6 V c 0 pt6) (blk6 V c 1 pt6) (blk6 V c 2 pt6) (blk6 V c 3 pt6) (blk6 V c 4 pt6) (blk6 V c 5 pt6) (blk6 V c 6 pt6) (blk6 V c 7 pt6) (blk6 V c 8 pt6) (blk6 V c 9 pt6) (blk6 V c 10 pt6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [G0]; · iexact G0
    isplitl [G1]; · iexact G1
    isplitl [G2]; · iexact G2
    iintro ⟨H0, H1, H2, H3, H4, H5, H6, H7, H8, H9, H10, H11, H12, H13, G0, G1, G2⟩
    isplitl [G0 G1 G2 Hr Hg]
    · isplitl [G0 G1 G2]
      · isplitl [G0]; · iexact G0
        isplitl [G1]; · iexact G1
        iexact G2
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [inv6_pos V c _ _ hz]
    iintro ⟨⟨⟨G0, G1, G2⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (triple6B c Set.univ (grid6.coords t) _ _ _ _ _ _ _ _ _ _ _ _ _ _ _ _ _ _ _ _ _ _ _ _ _ _ _ _ _ _ _ _ _ _ (fun h => hz ((first6 t).mp h)) (blk6 V c 0 t) (blk6 V c 1 t) (blk6 V c 2 t) (blk6 V c 3 t) (blk6 V c 4 t) (blk6 V c 5 t) (blk6 V c 6 t) (blk6 V c 7 t) (blk6 V c 8 t) (blk6 V c 9 t) (blk6 V c 10 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [G0]; · iexact G0
    isplitl [G1]; · iexact G1
    isplitl [G2]; · iexact G2
    iintro ⟨H0, H1, H2, H3, H4, H5, H6, H7, H8, H9, H10, H11, H12, H13, G0, G1, G2⟩
    isplitl [G0 G1 G2 Hr Hg]
    · isplitl [G0 G1 G2]
      · isplitl [G0]; · iexact G0
        isplitl [G1]; · iexact G1
        iexact G2
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem row6 (t : Fin cfg6.N) : defs₀ (F := F) .tc cfg6.body (cfg6.bodyArgs t (cfg6.slots t)) = bodyAt6 t := by
  unfold defs₀; rw [Defs.onTc_tc]
/-- The body's obligation at every point. -/
theorem body6 (c : Dev nD) : BodyObligation (dat6 (F := F) V c) (defs₀ (F := F)) Variants.none () Set.univ := fun t => by
  rw [bigSep_W6, bigSep_W6, row6]
  exact triple_restated (step6 V c t) rfl .rfl fun _ => .rfl

theorem in6 (c : Dev nD) : Pipeline.ΦA spec6 c ⊢ (dat6 V c).Φ 0 := by
  rw [show (dat6 V c).Φ 0 = inv6 V c 0 (Nat.zero_le _) from rfl, inv6_zero V c 0 _ rfl]
theorem away6 (c : Dev nD) : (dat6 V c).Φ (Fin.last cfg6.N) ⊢ Pipeline.ΦA spec6 c := by
  rw [show (dat6 V c).Φ (Fin.last cfg6.N) = inv6 V c cfg6.N le_rfl from rfl,
    inv6_pos V c _ _ (by rw [show cfg6.N = 25 from N_6]; decide), any6]
  iintro ⟨⟨G0, G1, G2⟩, Hr, Hg⟩
  isplitl [G0 G1 G2 Hr]
  · isplitl [G0 G1 G2]
    · isplitl [G0]; · iexists _; iexact G0
      isplitl [G1]; · iexists _; iexact G1
      iexists _; iexact G2
    iexact Hr
  iexact Hg

end Entry

end Cert.KernelIdeal.Calls

end

end
-- ==== Proof.KernelIdeal.Run.lean ====
/- The whole program: the buffers between its calls and host stretches, the calls as segments, and the run. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Regions
public import proofs.«01_k».proof.Proof.KernelIdeal.Cast
public import proofs.«01_k».proof.Proof.KernelIdeal.Proj
public import proofs.«01_k».proof.Proof.KernelIdeal.Conv1
public import proofs.«01_k».proof.Proof.KernelIdeal.Deg1
public import proofs.«01_k».proof.Proof.KernelIdeal.Conv2
public import proofs.«01_k».proof.Proof.KernelIdeal.Deg2
public import proofs.«01_k».proof.Proof.KernelIdeal.Conv3

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-! ## The buffers' contents between the items of the program -/

/-- At launch. -/
abbrev W0 (c : Dev nD) : Valuation τ sig (Elt F) := fun b => m (c, b)
/-- After host stretch 0. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem safe1 : ∀ a ∈ argRefs, a ∉ hostOps0_W := ListAll.forall_mem_of_all_decide (by decide +kernel)
abbrev E1 : (c : Dev nD) → (b : Ref sig .tc) → Buf (Elt F) ((c : Thread nD τ).loc b) := fun c b => W1 m c b
/-- After call 0: its arrays at what its grid leaves in them. -/
def W2 (c : Dev nD) : Valuation τ sig (Elt F) :=
  Pipeline.withArrays spec0 c (W1 m c) fun w => (dat0 (E1 m) c).arrAt w cfg0.N
theorem W2_arr (c : Dev nD) (w : Fin cfg0.W) : W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (E1 m) c).arrAt_in w (h w rfl) _).trans (entry0 (E1 m) c w))
  · exact W2_of_ne m c r fun w e => hw ⟨w, e⟩
theorem safe2 : ∀ a ∈ argRefs, ∀ w : Fin cfg0.W, Pipeline.arrRef spec0 w = a → (cfg0.win w).isOut = false :=
  ListAll.forall_mem_of_all_decide (by decide +kernel)
abbrev X2 : (c : Dev nD) → (b : Ref sig .tc) → Buf (Elt F) ((c : Thread nD τ).loc b) := fun c b => W2 m c b
theorem rest2 (c : Dev nD) : ∀ b, b ∉ Finset.univ.image (Pipeline.arrRef spec0) → X2 m c b = E1 m c b :=
  fun b hb => W2_of_ne m c b fun w e => hb (Finset.mem_image.mpr ⟨w, Finset.mem_univ _, e⟩)
/-- After host stretch 1. -/
abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h
theorem safe3 : ∀ a ∈ argRefs, a ∉ hostOps1_W := ListAll.forall_mem_of_all_decide (by decide +kernel)
abbrev E3 : (c : Dev nD) → (b : Ref sig .tc) → Buf (Elt F) ((c : Thread nD τ).loc b) := fun c b => W3 m c b
/-- After call 1: its arrays at what its grid leaves in them. -/
def W4 (c : Dev nD) : Valuation τ sig (Elt F) :=
  Pipeline.withArrays spec1 c (W3 m c) fun w => (dat1 (E3 m) c).arrAt w cfg1.N
theorem W4_arr (c : Dev nD) (w : Fin cfg1.W) : W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (E3 m) c).arrAt_in w (h w rfl) _).trans (entry1 (E3 m) c w))
  · exact W4_of_ne m c r fun w e => hw ⟨w, e⟩
theorem safe4 : ∀ a ∈ argRefs, ∀ w : Fin cfg1.W, Pipeline.arrRef spec1 w = a → (cfg1.win w).isOut = false :=
  ListAll.forall_mem_of_all_decide (by decide +kernel)
abbrev X4 : (c : Dev nD) → (b : Ref sig .tc) → Buf (Elt F) ((c : Thread nD τ).loc b) := fun c b => W4 m c b
theorem rest4 (c : Dev nD) : ∀ b, b ∉ Finset.univ.image (Pipeline.arrRef spec1) → X4 m c b = E3 m c b :=
  fun b hb => W4_of_ne m c b fun w e => hb (Finset.mem_image.mpr ⟨w, Finset.mem_univ _, e⟩)
abbrev E4 : (c : Dev nD) → (b : Ref sig .tc) → Buf (Elt F) ((c : Thread nD τ).loc b) := fun c b => W4 m c b
/-- After call 2: its arrays at what its grid leaves in them. -/
def W5 (c : Dev nD) : Valuation τ sig (Elt F) :=
  Pipeline.withArrays spec2 c (W4 m c) fun w => (dat2 (E4 m) c).arrAt w cfg2.N
theorem W5_arr (c : Dev nD) (w : Fin cfg2.W) : W5 m c (Proc.devRef .tc (Pipeline.arrRef spec2 w)) = (dat2 (E4 m) c).arrAt w cfg2.N := by
  unfold W5; exact (dat2 (E4 m) c).withArrays_arrAt sharedIn2 _ (entry2 (E4 m) c) w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((dat2 (E4 m) c).arrAt_in w (h w rfl) _).trans (entry2 (E4 m) c w))
  · exact W5_of_ne m c r fun w e => hw ⟨w, e⟩
theorem safe5 : ∀ a ∈ argRefs, ∀ w : Fin cfg2.W, Pipeline.arrRef spec2 w = a → (cfg2.win w).isOut = false :=
  ListAll.forall_mem_of_all_decide (by decide +kernel)
abbrev X5 : (c : Dev nD) → (b : Ref sig .tc) → Buf (Elt F) ((c : Thread nD τ).loc b) := fun c b => W5 m c b
theorem rest5 (c : Dev nD) : ∀ b, b ∉ Finset.univ.image (Pipeline.arrRef spec2) → X5 m c b = E4 m c b :=
  fun b hb => W5_of_ne m c b fun w e => hb (Finset.mem_image.mpr ⟨w, Finset.mem_univ _, e⟩)
/-- After host stretch 3. -/
abbrev W6 : Dev nD → Valuation τ sig (Elt F) := fun c => StableHlo.after hostOps3 (W5 m c)
theorem W6_of (c : Dev nD) (r : Ref sig .tc) (h : r ∉ hostOps3_W) : W6 m c (Proc.devRef .tc r) = W5 m c (Proc.devRef .tc r) :=
  StableHlo.after_of_writes_sub hostOps3 _ hostOps3_writes h
theorem safe6 : ∀ a ∈ argRefs, a ∉ hostOps3_W := ListAll.forall_mem_of_all_decide (by decide +kernel)
abbrev E6 : (c : Dev nD) → (b : Ref sig .tc) → Buf (Elt F) ((c : Thread nD τ).loc b) := fun c b => W6 m c b
/-- After call 3: its arrays at what its grid leaves in them. -/
def W7 (c : Dev nD) : Valuation τ sig (Elt F) :=
  Pipeline.withArrays spec3 c (W6 m c) fun w => (dat3 (E6 m) c).arrAt w cfg3.N
theorem W7_arr (c : Dev nD) (w : Fin cfg3.W) : W7 m c (Proc.devRef .tc (Pipeline.arrRef spec3 w)) = (dat3 (E6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
theorem W7_of (c : Dev nD) (r : Ref sig .tc) (h : ∀ w : Fin cfg3.W, Pipeline.arrRef spec3 w = r → (cfg3.win w).isOut = false) :
    W7 m c (Proc.devRef .tc r) = W6 m c (Proc.devRef .tc r) := by
  by_cases hw : ∃ w : Fin cfg3.W, Pipeline.arrRef spec3 w = r
  · obtain ⟨w, rfl⟩ := hw
    exact (W7_arr m c w).trans (((dat3 (E6 m) c).arrAt_in w (h w rfl) _).trans (entry3 (E6 m) c w))
  · exact W7_of_ne m c r fun w e => hw ⟨w, e⟩
theorem safe7 : ∀ a ∈ argRefs, ∀ w : Fin cfg3.W, Pipeline.arrRef spec3 w = a → (cfg3.win w).isOut = false :=
  ListAll.forall_mem_of_all_decide (by decide +kernel)
abbrev X7 : (c : Dev nD) → (b : Ref sig .tc) → Buf (Elt F) ((c : Thread nD τ).loc b) := fun c b => W7 m c b
theorem rest7 (c : Dev nD) : ∀ b, b ∉ Finset.univ.image (Pipeline.arrRef spec3) → X7 m c b = E6 m c b :=
  fun b hb => W7_of_ne m c b fun w e => hb (Finset.mem_image.mpr ⟨w, Finset.mem_univ _, e⟩)
/-- After host stretch 4. -/
abbrev W8 : Dev nD → Valuation τ sig (Elt F) := fun c => StableHlo.after hostOps4 (W7 m c)
theorem W8_of (c : Dev nD) (r : Ref sig .tc) (h : r ∉ hostOps4_W) : W8 m c (Proc.devRef .tc r) = W7 m c (Proc.devRef .tc r) :=
  StableHlo.after_of_writes_sub hostOps4 _ hostOps4_writes h
theorem safe8 : ∀ a ∈ argRefs, a ∉ hostOps4_W := ListAll.forall_mem_of_all_decide (by decide +kernel)
abbrev E8 : (c : Dev nD) → (b : Ref sig .tc) → Buf (Elt F) ((c : Thread nD τ).loc b) := fun c b => W8 m c b
/-- After call 4: its arrays at what its grid leaves in them. -/
def W9 (c : Dev nD) : Valuation τ sig (Elt F) :=
  Pipeline.withArrays spec4 c (W8 m c) fun w => (dat4 (E8 m) c).arrAt w cfg4.N
theorem W9_arr (c : Dev nD) (w : Fin cfg4.W) : W9 m c (Proc.devRef .tc (Pipeline.arrRef spec4 w)) = (dat4 (E8 m) c).arrAt w cfg4.N := by
  unfold W9; exact (dat4 (E8 m) c).withArrays_arrAt sharedIn4 _ (entry4 (E8 m) c) w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
theorem W9_of (c : Dev nD) (r : Ref sig .tc) (h : ∀ w : Fin cfg4.W, Pipeline.arrRef spec4 w = r → (cfg4.win w).isOut = false) :
    W9 m c (Proc.devRef .tc r) = W8 m c (Proc.devRef .tc r) := by
  by_cases hw : ∃ w : Fin cfg4.W, Pipeline.arrRef spec4 w = r
  · obtain ⟨w, rfl⟩ := hw
    exact (W9_arr m c w).trans (((dat4 (E8 m) c).arrAt_in w (h w rfl) _).trans (entry4 (E8 m) c w))
  · exact W9_of_ne m c r fun w e => hw ⟨w, e⟩
theorem safe9 : ∀ a ∈ argRefs, ∀ w : Fin cfg4.W, Pipeline.arrRef spec4 w = a → (cfg4.win w).isOut = false :=
  ListAll.forall_mem_of_all_decide (by decide +kernel)
abbrev X9 : (c : Dev nD) → (b : Ref sig .tc) → Buf (Elt F) ((c : Thread nD τ).loc b) := fun c b => W9 m c b
theorem rest9 (c : Dev nD) : ∀ b, b ∉ Finset.univ.image (Pipeline.arrRef spec4) → X9 m c b = E8 m c b :=
  fun b hb => W9_of_ne m c b fun w e => hb (Finset.mem_image.mpr ⟨w, Finset.mem_univ _, e⟩)
/-- After host stretch 5. -/
abbrev W10 : Dev nD → Valuation τ sig (Elt F) := fun c => StableHlo.after hostOps5 (W9 m c)
theorem W10_of (c : Dev nD) (r : Ref sig .tc) (h : r ∉ hostOps5_W) : W10 m c (Proc.devRef .tc r) = W9 m c (Proc.devRef .tc r) :=
  StableHlo.after_of_writes_sub hostOps5 _ hostOps5_writes h
theorem safe10 : ∀ a ∈ argRefs, a ∉ hostOps5_W := ListAll.forall_mem_of_all_decide (by decide +kernel)
abbrev E10 : (c : Dev nD) → (b : Ref sig .tc) → Buf (Elt F) ((c : Thread nD τ).loc b) := fun c b => W10 m c b
/-- After call 5: its arrays at what its grid leaves in them. -/
def W11 (c : Dev nD) : Valuation τ sig (Elt F) :=
  Pipeline.withArrays spec5 c (W10 m c) fun w => (dat5 (E10 m) c).arrAt w cfg5.N
theorem W11_arr (c : Dev nD) (w : Fin cfg5.W) : W11 m c (Proc.devRef .tc (Pipeline.arrRef spec5 w)) = (dat5 (E10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
theorem W11_of (c : Dev nD) (r : Ref sig .tc) (h : ∀ w : Fin cfg5.W, Pipeline.arrRef spec5 w = r → (cfg5.win w).isOut = false) :
    W11 m c (Proc.devRef .tc r) = W10 m c (Proc.devRef .tc r) := by
  by_cases hw : ∃ w : Fin cfg5.W, Pipeline.arrRef spec5 w = r
  · obtain ⟨w, rfl⟩ := hw
    exact (W11_arr m c w).trans (((dat5 (E10 m) c).arrAt_in w (h w rfl) _).trans (entry5 (E10 m) c w))
  · exact W11_of_ne m c r fun w e => hw ⟨w, e⟩
theorem safe11 : ∀ a ∈ argRefs, ∀ w : Fin cfg5.W, Pipeline.arrRef spec5 w = a → (cfg5.win w).isOut = false :=
  ListAll.forall_mem_of_all_decide (by decide +kernel)
abbrev X11 : (c : Dev nD) → (b : Ref sig .tc) → Buf (Elt F) ((c : Thread nD τ).loc b) := fun c b => W11 m c b
theorem rest11 (c : Dev nD) : ∀ b, b ∉ Finset.univ.image (Pipeline.arrRef spec5) → X11 m c b = E10 m c b :=
  fun b hb => W11_of_ne m c b fun w e => hb (Finset.mem_image.mpr ⟨w, Finset.mem_univ _, e⟩)
/-- After host stretch 6. -/
abbrev W12 : Dev nD → Valuation τ sig (Elt F) := fun c => StableHlo.after hostOps6 (W11 m c)
theorem W12_of (c : Dev nD) (r : Ref sig .tc) (h : r ∉ hostOps6_W) : W12 m c (Proc.devRef .tc r) = W11 m c (Proc.devRef .tc r) :=
  StableHlo.after_of_writes_sub hostOps6 _ hostOps6_writes h
theorem safe12 : ∀ a ∈ argRefs, a ∉ hostOps6_W := ListAll.forall_mem_of_all_decide (by decide +kernel)
abbrev E12 : (c : Dev nD) → (b : Ref sig .tc) → Buf (Elt F) ((c : Thread nD τ).loc b) := fun c b => W12 m c b
/-- After call 6: its arrays at what its grid leaves in them. -/
def W13 (c : Dev nD) : Valuation τ sig (Elt F) :=
  Pipeline.withArrays spec6 c (W12 m c) fun w => (dat6 (E12 m) c).arrAt w cfg6.N
theorem W13_arr (c : Dev nD) (w : Fin cfg6.W) : W13 m c (Proc.devRef .tc (Pipeline.arrRef spec6 w)) = (dat6 (E12 m) c).arrAt w cfg6.N := by
  unfold W13; exact (dat6 (E12 m) c).withArrays_arrAt sharedIn6 _ (entry6 (E12 m) c) w
theorem W13_of_ne (c : Dev nD) (b : Ref sig .tc) (hb : ∀ w, Pipeline.arrRef spec6 w ≠ b) :
    W13 m c (Proc.devRef .tc b) = W12 m c (Proc.devRef .tc b) := by
  unfold W13; exact Pipeline.withArrays_of_ne spec6 c _ _ b hb
theorem W13_of (c : Dev nD) (r : Ref sig .tc) (h : ∀ w : Fin cfg6.W, Pipeline.arrRef spec6 w = r → (cfg6.win w).isOut = false) :
    W13 m c (Proc.devRef .tc r) = W12 m c (Proc.devRef .tc r) := by
  by_cases hw : ∃ w : Fin cfg6.W, Pipeline.arrRef spec6 w = r
  · obtain ⟨w, rfl⟩ := hw
    exact (W13_arr m c w).trans (((dat6 (E12 m) c).arrAt_in w (h w rfl) _).trans (entry6 (E12 m) c w))
  · exact W13_of_ne m c r fun w e => hw ⟨w, e⟩
theorem safe13 : ∀ a ∈ argRefs, ∀ w : Fin cfg6.W, Pipeline.arrRef spec6 w = a → (cfg6.win w).isOut = false :=
  ListAll.forall_mem_of_all_decide (by decide +kernel)
abbrev X13 : (c : Dev nD) → (b : Ref sig .tc) → Buf (Elt F) ((c : Thread nD τ).loc b) := fun c b => W13 m c b
theorem rest13 (c : Dev nD) : ∀ b, b ∉ Finset.univ.image (Pipeline.arrRef spec6) → X13 m c b = E12 m c b :=
  fun b hb => W13_of_ne m c b fun w e => hb (Finset.mem_image.mpr ⟨w, Finset.mem_univ _, e⟩)
/-- After host stretch 7. -/
abbrev W14 : Dev nD → Valuation τ sig (Elt F) := fun c => StableHlo.after hostOps7 (W13 m c)
theorem W14_of (c : Dev nD) (r : Ref sig .tc) (h : r ∉ hostOps7_W) : W14 m c (Proc.devRef .tc r) = W13 m c (Proc.devRef .tc r) :=
  StableHlo.after_of_writes_sub hostOps7 _ hostOps7_writes h
theorem safe14 : ∀ a ∈ argRefs, a ∉ hostOps7_W := ListAll.forall_mem_of_all_decide (by decide +kernel)

/-- Every argument array ends as launched: no host stretch writes one, and no call has one as an output. -/
theorem W14_arg (c : Dev nD) (a : Ref sig .tc) (h : a ∈ argRefs) : W14 m c (Proc.devRef .tc a) = m ((c : Thread nD τ).loc a) :=
  (W14_of m c a (safe14 a h)).trans <| (W13_of m c a (safe13 a h)).trans <| (W12_of m c a (safe12 a h)).trans <| (W11_of m c a (safe11 a h)).trans <| (W10_of m c a (safe10 a h)).trans <| (W9_of m c a (safe9 a h)).trans <| (W8_of m c a (safe8 a h)).trans <| (W7_of m c a (safe7 a h)).trans <| (W6_of m c a (safe6 a h)).trans <| (W5_of m c a (safe5 a h)).trans <| (W4_of m c a (safe4 a h)).trans <| (W3_of m c a (safe3 a h)).trans <| (W2_of m c a (safe2 a h)).trans <| (W1_of m c a (safe1 a h)).trans <| rfl

/-! ## The calls and the host stretches as segments of the program -/

/-- Every call's proof data, at its entry contents. -/
def pdats : (p : Fin 7) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
  | ⟨3, _⟩ => fun c => dat3 (E6 m) c
  | ⟨4, _⟩ => fun c => dat4 (E8 m) c
  | ⟨5, _⟩ => fun c => dat5 (E10 m) c
  | ⟨6, _⟩ => fun c => dat6 (E12 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m c) ∗ ∃ r, prngReg c r)

set_option backward.isDefEq.respectTransparency.types false in
/-- Call 0. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) (entry0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (fun w => (W2_arr m c w).symm) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) (entry1 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (fun w => (W4_arr m c w).symm) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2. -/
def reg2 : Pipeline.RegionSeg (pcfgs (F := F)) adm (pdats m) () defs₀ 𝒱₀ L lv 2 where
  win := launch₀2.win
  block_pos := launch₀2.block_pos
  stage_whole := launch₀2.stage_whole
  K := PEmpty
  osem k := k.elim
  ho := Pipeline.OwnSemFacts.none _
  hbody c := (body2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs_shared (p := 2) (pcfgs (F := F)) adm (pdats m) launch₀2.win launch₀2.sharedIn launch₀2.arr_whole c
      (fun _ _ => rfl) (E4 m c) (entry2 (E4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec2 c ⊢ (pdats m 2 c).Φ 0 from in2 (E4 m) c)
    unfold Pipeline.ΦA
    isplitl [Hr]; · iexact Hr
    iexact Hp
  hout c := by
    rw [Pipeline.ownSems0_none]
    have h : (pdats m 2 c).Φ (Fin.last _) ⊢ Pipeline.ΦA spec2 c := away2 (E4 m) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m) (fun _ _ => rfl)
      (E4 m c) (X5 m c) ((pdats m 2 c).arrAt · cfg2.N) (fun w => (W5_arr m c w).symm) (rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body3 (E6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (E6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E6 m c) (entry3 (E6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E6 m c) (X7 m c) ((pdats m 3 c).arrAt · cfg3.N) (fun w => (W7_arr m c w).symm) (rest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4. -/
def reg4 : Pipeline.RegionSeg (pcfgs (F := F)) adm (pdats m) () defs₀ 𝒱₀ L lv 4 where
  win := launch₀4.win
  block_pos := launch₀4.block_pos
  stage_whole := launch₀4.stage_whole
  K := PEmpty
  osem k := k.elim
  ho := Pipeline.OwnSemFacts.none _
  hbody c := (body4 (E8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (E8 m c)
  hentry c := by
    rw [Pipeline.ownSems0_none]
    have hsplit := Pipeline.arrays_of_unscopedBufs_shared (p := 4) (pcfgs (F := F)) adm (pdats m) launch₀4.win launch₀4.sharedIn launch₀4.arr_whole c
      (fun _ _ => rfl) (E8 m c) (entry4 (E8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec4 c ⊢ (pdats m 4 c).Φ 0 from in4 (E8 m) c)
    unfold Pipeline.ΦA
    isplitl [Hr]; · iexact Hr
    iexact Hp
  hout c := by
    rw [Pipeline.ownSems0_none]
    have h : (pdats m 4 c).Φ (Fin.last _) ⊢ Pipeline.ΦA spec4 c := away4 (E8 m) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays_shared (p := 4) (pcfgs (F := F)) adm (Ix := Unit) (Name := ℕ) (U := UR sig nD τ) (Lvl := ℕ)
      launch₀4.win launch₀4.sharedIn launch₀4.arr_whole c (pdats m) (fun _ _ => rfl)
      (E8 m c) (X9 m c) ((pdats m 4 c).arrAt · cfg4.N) (fun w => (W9_arr m c w).symm) (rest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body5 (E10 m) c).loose
  hwaits := Pipeline.hwaits_of_owed_zero _ _ _ _ L lv 5 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec5 c (E10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E10 m c) (entry5 (E10 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E10 m c) (X11 m c) ((pdats m 5 c).arrAt · cfg5.N) (fun w => (W11_arr m c w).symm) (rest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6. -/
def reg6 : Pipeline.RegionSeg (pcfgs (F := F)) adm (pdats m) () defs₀ 𝒱₀ L lv 6 where
  win := launch₀6.win
  block_pos := launch₀6.block_pos
  stage_whole := launch₀6.stage_whole
  K := PEmpty
  osem k := k.elim
  ho := Pipeline.OwnSemFacts.none _
  hbody c := (body6 (E12 m) c).loose
  hwaits := Pipeline.hwaits_of_owed_zero _ _ _ _ L lv 6 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec6 c (E12 m c)
  hentry c := by
    rw [Pipeline.ownSems0_none]
    have hsplit := Pipeline.arrays_of_unscopedBufs_shared (p := 6) (pcfgs (F := F)) adm (pdats m) launch₀6.win launch₀6.sharedIn launch₀6.arr_whole c
      (fun _ _ => rfl) (E12 m c) (entry6 (E12 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show Pipeline.ΦA spec6 c ⊢ (pdats m 6 c).Φ 0 from in6 (E12 m) c)
    unfold Pipeline.ΦA
    isplitl [Hr]; · iexact Hr
    iexact Hp
  hout c := by
    rw [Pipeline.ownSems0_none]
    have h : (pdats m 6 c).Φ (Fin.last _) ⊢ Pipeline.ΦA spec6 c := away6 (E12 m) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays_shared (p := 6) (pcfgs (F := F)) adm (Ix := Unit) (Name := ℕ) (U := UR sig nD τ) (Lvl := ℕ)
      launch₀6.win launch₀6.sharedIn launch₀6.arr_whole c (pdats m) (fun _ _ => rfl)
      (E12 m c) (X13 m c) ((pdats m 6 c).arrAt · cfg6.N) (fun w => (W13_arr m c w).symm) (rest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)),
    .region (reg5 m),
    .host (hseg hostOps6 hostOps6_sub hostOps6_fresh (W11 m)),
    .region (reg6 m),
    .host (hseg hostOps7 hostOps7_sub hostOps7_fresh (W13 m)) ]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- Every execution of the program ends with each buffer at the last contents of the chain and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W14 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      change iprop(StableHlo.held (c : Thread nD τ) (Pipeline.ucRefs τ sig) (W14 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h hz => ⟨h, funext fun g => hz g (.inr (no_unscoped g.2))⟩)

/-- An argument array in a final state. -/
theorem kept {r : PUnit × MemSt nD τ sig (Elt F)} (h : ∀ c : Dev nD, ∀ b ∈ Pipeline.ucRefs τ sig, r.2.mem (((c : Thread nD τ)).1, b) = W14 m c b)
    (c : Dev nD) (a : Ref sig .tc) (ha : a ∈ argRefs) (hs : ¬ (Proc.devRef .tc a : DevRef τ sig).isScoped) :
    r.2.mem ((c.tc : Thread nD τ).loc a) = m ((c.tc : Thread nD τ).loc a) :=
  (h c _ (mem_uc a hs)).trans (W14_arg m c a ha)

/-- The program ends, faults nowhere, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => ⟨kept m h.1 c main_arg0 (by decide) (by decide),
    kept m h.1 c main_arg1 (by decide) (by decide),
    kept m h.1 c main_arg2 (by decide) (by decide),
    kept m h.1 c main_arg3 (by decide) (by decide),
    kept m h.1 c main_arg4 (by decide) (by decide),
    kept m h.1 c main_arg5 (by decide) (by decide),
    kept m h.1 c main_arg6 (by decide) (by decide),
    kept m h.1 c main_arg7 (by decide) (by decide),
    kept m h.1 c main_arg8 (by decide) (by decide),
    kept m h.1 c main_arg9 (by decide) (by decide),
    kept m h.1 c main_arg10 (by decide) (by decide),
    kept m h.1 c main_arg11 (by decide) (by decide),
    kept m h.1 c main_arg12 (by decide) (by decide),
    kept m h.1 c main_arg13 (by decide) (by decide),
    kept m h.1 c main_arg14 (by decide) (by decide),
    kept m h.1 c main_arg15 (by decide) (by decide),
    kept m h.1 c main_arg16 (by decide) (by decide)⟩, h.2⟩) (run m ρ)

end Cert.KernelIdeal.Calls

end

end
-- ==== Proof.Frames.lean ====
/- The frames: of the kernel at the float words, from the frame of its idealized print at the same words (the two programs are one
   text); of the idealized kernel; and of the reference. -/
module

public import proofs.«01_k».proof.Defs
public import proofs.«01_k».proof.Proof.Gen.Kernel
public import proofs.«01_k».proof.Proof.KernelIdeal.Run
public import proofs.«01_k».proof.Proof.Gen.ReferenceIdeal.Run

@[expose] public section

noncomputable section

namespace Cert.Frames

open Idealize.ShloMosaic Idealize.ShloMosaic.Tactic Idealize.SL.Sem

/-- The kernel's frame, said of the idealized print read at the float words. -/
def atWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

set_option maxHeartbeats 0 in
set_option maxRecDepth 100000 in
theorem words_eq : Cert.quiescent_Kernel = atWords := by chain_rfl

theorem kernel : Cert.quiescent_Kernel :=
  words_eq ▸ (show atWords from fun m g _ => Cert.KernelIdeal.Calls.frame (F := Bits) m g)

theorem kernelIdeal : Cert.quiescent_KernelIdeal := fun m g _ => Cert.KernelIdeal.Calls.frame (F := Ideal) m g

/-- The reference's frame: its run, with no semaphore to speak of. -/
theorem reference : Cert.quiescent_ReferenceIdeal := fun m g _ =>
  (θ_run _ _ _).mono (fun r h => ⟨fun c => (h c).2, sem_eq_zero_of_no_sems (by decide) r.2⟩) (Cert.ReferenceIdeal.Value.run (F := Ideal) m g)

end Cert.Frames

end
-- ==== Proof.Math.lean ====
/- The mathematics of the equality, over the extended reals: a graph convolution with the degree factors inside the sum against one
   with them outside, a pooled graph against masks over the whole graph, and the residual that a difference of reals leaves: none. -/
module

public import Idealize.ShloMosaic.PureOps.Ideal

@[expose] public section

noncomputable section

namespace Cert.Math

open Idealize.ShloMosaic

/-! ## Real values -/

/-- An extended real that is a real. -/
def IsReal (x : EReal) : Prop := ∃ r : ℝ, x = (r : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type*} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))
theorem isReal_iff {x : EReal} : IsReal x ↔ x ≠ ⊤ ∧ x ≠ ⊥ := by
  refine ⟨fun ⟨r, h⟩ => h ▸ ⟨EReal.coe_ne_top r, EReal.coe_ne_bot r⟩, fun ⟨h, h'⟩ => ⟨x.toReal, (EReal.coe_toReal h h').symm⟩⟩
/-- What lies below `⊤` in absolute value is real. -/
theorem isReal_of_abs {x : EReal} (h : max x (-x) < ⊤) : IsReal x := by
  refine isReal_iff.mpr ⟨fun e => ?_, fun e => ?_⟩ <;> subst e <;> simp at h
/-- A real sum has real terms: one `⊥` makes it `⊥`, and without one a `⊤` makes it `⊤`. -/
theorem isReal_of_add {x y : EReal} (h : IsReal (x + y)) : IsReal x ∧ IsReal y := by
  rw [isReal_iff] at h
  obtain ⟨ht, hb⟩ := h
  have hx : x ≠ ⊥ := fun e => hb (by rw [e, EReal.bot_add])
  have hy : y ≠ ⊥ := fun e => hb (by rw [e, EReal.add_bot])
  exact ⟨isReal_iff.mpr ⟨fun e => ht (by rw [e, EReal.top_add_of_ne_bot hy]), hx⟩,
    isReal_iff.mpr ⟨fun e => ht (by rw [e, EReal.add_top_of_ne_bot hx]), hy⟩⟩
theorem isReal_of_sum {ι : Type*} (s : Finset ι) {f : ι → EReal} (h : IsReal (∑ i ∈ s, f i)) : ∀ i ∈ s, IsReal (f i) := by
  classical
  induction s using Finset.induction_on with
  | empty => intro i hi; simp at hi
  | insert a s ha ih =>
    rw [Finset.sum_insert ha] at h
    obtain ⟨h1, h2⟩ := isReal_of_add h
    intro i hi
    rcases Finset.mem_insert.mp hi with rfl | hi
    · exact h1
    · exact ih h2 i hi
theorem sub_self_of_isReal {x : EReal} (h : IsReal x) : x - x = 0 := by
  obtain ⟨r, rfl⟩ := h
  rw [← EReal.coe_sub, sub_self]; rfl

/-- A nonnegative real factor goes into a sum. -/
theorem mul_sum_of_real {ι : Type*} (s : Finset ι) (f : ι → EReal) {d : EReal} (h0 : 0 ≤ d) (ht : d ≠ ⊤) :
    d * ∑ i ∈ s, f i = ∑ i ∈ s, d * f i := by
  classical
  induction s using Finset.induction_on with
  | empty => simp
  | insert a s ha ih => rw [Finset.sum_insert ha, Finset.sum_insert ha, EReal.left_distrib_of_nonneg_of_ne_top h0 ht, ih]

/-! ## The degree factor -/

/-- `1/√s` of a positive degree, else 0. -/
def dinv (s : EReal) : EReal := if 0 < s then Ideal.div 1 (Ideal.sqrt s) else 0

theorem rsqrt_eq_dinv (s : EReal) : (if 0 < s then Ideal.rsqrt s else 0) = dinv s := by
  unfold dinv
  split
  case isFalse => rfl
  case isTrue h =>
    induction s with
    | bot => simp at h
    | top => simp [Ideal.div]
    | coe r =>
      have hr : 0 < r := by exact_mod_cast h
      have hs : Real.sqrt r ≠ 0 := (Real.sqrt_pos.mpr hr).ne'
      rw [Ideal.rsqrt_coe, Ideal.sqrt_coe, if_neg (not_lt.mpr hr.le), if_neg hr.ne', if_neg (not_lt.mpr hr.le), Ideal.div_coe hs, one_mul, one_div]

theorem dinv_real (s : EReal) : ∃ r : ℝ, 0 ≤ r ∧ dinv s = (r : EReal) := by
  rw [← rsqrt_eq_dinv]
  split
  case isFalse => exact ⟨0, le_rfl, rfl⟩
  case isTrue h =>
    induction s with
    | bot => simp at h
    | top => exact ⟨0, le_rfl, rfl⟩
    | coe r =>
      have hr : 0 < r := by exact_mod_cast h
      refine ⟨(Real.sqrt r)⁻¹, inv_nonneg.mpr (Real.sqrt_nonneg r), ?_⟩
      rw [Ideal.rsqrt_coe, if_neg (not_lt.mpr hr.le), if_neg hr.ne']
theorem dinv_nonneg (s : EReal) : 0 ≤ dinv s := by
  obtain ⟨r, h, e⟩ := dinv_real s; rw [e]; exact_mod_cast h
theorem dinv_ne_top (s : EReal) : dinv s ≠ ⊤ := by
  obtain ⟨r, -, e⟩ := dinv_real s; rw [e]; exact EReal.coe_ne_top r
theorem dinv_isReal (s : EReal) : IsReal (dinv s) := by
  obtain ⟨r, -, e⟩ := dinv_real s; exact ⟨r, e⟩
theorem dinv_of_not_real {s : EReal} (h : ¬ IsReal s) : dinv s = 0 := by
  rw [← rsqrt_eq_dinv]
  induction s with
  | bot => simp
  | top => simp
  | coe r => exact absurd ⟨r, rfl⟩ h

/-! ## The gate -/

/-- The logistic gate. -/
def gate (y : EReal) : EReal := Ideal.div 1 (1 + Ideal.exp (-y))

theorem gate_isReal (y : EReal) : IsReal (gate y) := by
  show IsReal (Ideal.logistic y)
  induction y with
  | bot => rw [Ideal.logistic_bot]; exact IsReal.zero
  | top => rw [Ideal.logistic_top]; exact IsReal.one
  | coe r => rw [Ideal.logistic_coe]; exact ⟨_, rfl⟩
theorem exp_nonneg (y : EReal) : 0 ≤ Ideal.exp y := by
  induction y with
  | bot => exact le_rfl
  | top => exact le_top
  | coe r => rw [Ideal.exp_coe]; exact_mod_cast (Real.exp_pos r).le
theorem zero_gate (y : EReal) : Ideal.div 0 (1 + Ideal.exp (-y)) = 0 := by
  have h : (1 : EReal) + Ideal.exp (-y) ≠ 0 := by
    have h1 : (1 : EReal) ≤ 1 + Ideal.exp (-y) := le_add_of_nonneg_right (exp_nonneg _)
    exact (lt_of_lt_of_le zero_lt_one h1).ne'
  rw [Ideal.div, if_neg h, zero_mul]

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- The score divided by the norm of `p` gates as the score along the normalised `p` does. They are equal but where `p` is zero and the row is
    zero, and there the gate meets a zero. -/
theorem gate_eq {η : Type*} [Fintype η] (f p : η → EReal) (hf : ∀ q, 0 ≤ f q) (h : η) :
    f h * gate (∑ q, f q * Ideal.div (p q) (Ideal.sqrt (∑ q, p q * p q)))
      = f h * gate (Ideal.div (∑ q, f q * p q) (Ideal.sqrt (∑ q, p q * p q))) := by
  set S := ∑ q, p q * p q with hS
  have hS0 : 0 ≤ S := Finset.sum_nonneg fun q _ => mul_self_nonneg' (p q)
  have key : ∀ {s : EReal}, s ≠ 0 → 0 ≤ s → s⁻¹ ≠ ⊤ →
      ∑ q, f q * Ideal.div (p q) s = Ideal.div (∑ q, f q * p q) s := by
    intro s hs hs0 hst
    have hi : 0 ≤ s⁻¹ := EReal.inv_nonneg_of_nonneg hs0
    simp only [Ideal.div, if_neg hs]
    rw [mul_comm (∑ q, f q * p q), mul_sum_of_real _ _ hi hst]
    exact Finset.sum_congr rfl fun q _ => by rw [← mul_assoc, mul_comm]
  by_cases hz : S = 0
  · -- every entry of `p` is zero
    have hp : ∀ q, p q = 0 := by
      intro q
      have := (Finset.sum_eq_zero_iff_of_nonneg (fun q _ => mul_self_nonneg' (p q))).mp (hS ▸ hz) q (Finset.mem_univ q)
      exact mul_self_eq_zero.mp this
    have hs : Ideal.sqrt S = 0 := by
      rw [hz, show (0 : EReal) = ((0 : ℝ) : EReal) from rfl, Ideal.sqrt_coe]; simp
    have hd : Ideal.div 0 0 = ⊥ := by simp [Ideal.div]
    by_cases hr : ∀ q, f q = 0
    · rw [hr h, zero_mul, zero_mul]
    · obtain ⟨q, hq⟩ := not_forall.mp hr
      have e1 : ∑ q, f q * Ideal.div (p q) (Ideal.sqrt S) = ⊥ := by
        by_contra hne
        classical
        rw [← Finset.add_sum_erase _ _ (Finset.mem_univ q), hp q, hs, hd,
          EReal.mul_bot_of_pos (lt_of_le_of_ne (hf q) (Ne.symm hq)), EReal.bot_add] at hne
        exact hne rfl
      have e2 : Ideal.div (∑ q, f q * p q) (Ideal.sqrt S) = ⊥ := by
        rw [Finset.sum_eq_zero fun q _ => by rw [hp q, mul_zero], hs, hd]
      rw [e1, e2]
  · have hpos : 0 < S := lt_of_le_of_ne hS0 (Ne.symm hz)
    have hs : Ideal.sqrt S ≠ 0 ∧ 0 ≤ Ideal.sqrt S ∧ (Ideal.sqrt S)⁻¹ ≠ ⊤ := by
      clear_value S
      induction S with
      | bot => simp at hpos
      | top => simp
      | coe r =>
        have hr : 0 < r := by exact_mod_cast hpos
        rw [Ideal.sqrt_coe, if_neg (not_lt.mpr hr.le)]
        refine ⟨by exact_mod_cast (Real.sqrt_pos.mpr hr).ne', by exact_mod_cast Real.sqrt_nonneg r, ?_⟩
        rw [← EReal.coe_inv]; exact EReal.coe_ne_top _
    rw [key hs.1 hs.2.1 hs.2.2]

/-! ## Convolutions -/

section Conv

variable {ι κ η : Type*} [Fintype ι] [Fintype κ] [Fintype η]

/-- The graph convolution of the reference: the normalised adjacency applied to one projection, the other projection and the bias
    added, and the positive part taken. -/
def conv (a : ι → ι → EReal) (u v : ι → η → EReal) (b : η → EReal) (i : ι) (h : η) : EReal :=
  max ((∑ j, ((a i j * dinv (∑ l, a i l)) * dinv (∑ l, a j l)) * u j h) + v i h + b h) 0

/-- The degree factors taken out of the sum. -/
theorem conv_eq (a : ι → ι → EReal) (u v : ι → η → EReal) (b : η → EReal) (i : ι) (h : η) :
    max (dinv (∑ l, a i l) * (∑ j, a i j * (dinv (∑ l, a j l) * u j h)) + (v i h + b h)) 0 = conv a u v b i h := by
  unfold conv
  rw [mul_sum_of_real _ _ (dinv_nonneg _) (dinv_ne_top _), add_assoc]
  congr 2
  refine Finset.sum_congr rfl fun j _ => ?_
  generalize dinv (∑ l, a i l) = d, dinv (∑ l, a j l) = e
  rw [mul_left_comm d, mul_assoc (a i j), mul_assoc (a i j), mul_assoc d]

theorem conv_nonneg (a : ι → ι → EReal) (u v : ι → η → EReal) (b : η → EReal) (i : ι) (h : η) : 0 ≤ conv a u v b i h := le_max_right _ _

/-- A convolution of real projections has real values: where the degree is not real its factor is zero, and where it is real so is each
    entry of the row. -/
theorem conv_isReal (a : ι → ι → EReal) (u v : ι → η → EReal) (b : η → EReal) (i : ι) (h : η)
    (hu : ∀ j, IsReal (u j h)) (hv : IsReal (v i h)) (hb : IsReal (b h)) : IsReal (conv a u v b i h) := by
  rw [← conv_eq]
  refine IsReal.max (IsReal.add ?_ (hv.add hb)) IsReal.zero
  by_cases hs : IsReal (∑ l, a i l)
  · exact (dinv_isReal _).mul (IsReal.sum _ fun j hj => (isReal_of_sum _ hs j hj).mul ((dinv_isReal _).mul (hu j)))
  · rw [dinv_of_not_real hs, zero_mul]; exact IsReal.zero

/-- What is selected: one at the picked nodes, zero elsewhere. -/
structure Picks (σ : κ → ι) (m : ι → EReal) : Prop where
  inj : Function.Injective σ
  on : ∀ k, m (σ k) = 1
  off : ∀ i, i ∉ Set.range σ → m i = 0

/-- A sum over all nodes of what vanishes off the picked ones. -/
theorem Picks.sum {σ : κ → ι} {m : ι → EReal} (P : Picks σ m) (f : ι → EReal) (hf : ∀ i, i ∉ Set.range σ → f i = 0) :
    ∑ i, f i = ∑ k, f (σ k) :=
  (Fintype.sum_of_injective σ P.inj (fun k => f (σ k)) f hf fun _ => rfl).symm

/-- The kernel's masked layer over all nodes: gated features `x·m·gate`, projected, convolved with the masked degrees, and masked. -/
def layer (a : ι → ι → EReal) (m y : ι → EReal) (x : ι → η → EReal) (w0 w1 : η → η → EReal) (b : η → EReal) (i : ι) (h : η) : EReal :=
  max (dinv (∑ l, a i l * m l) *
      (∑ j, a i j * (dinv (∑ l, a j l * m l) * ∑ q, (x j q * Ideal.div (m j) (1 + Ideal.exp (-(y j)))) * w0 q h))
    + ((∑ q, (x i q * Ideal.div (m i) (1 + Ideal.exp (-(y i)))) * w1 q h) + b h)) 0 * m i

/-- The pooled layer over the picked nodes alone. -/
def pooled (a : ι → ι → EReal) (y : κ → EReal) (x : κ → η → EReal) (σ : κ → ι) (w0 w1 : η → η → EReal) (b : η → EReal) : κ → η → EReal :=
  conv (fun k l => a (σ k) (σ l)) (fun k h => ∑ q, (x k q * gate (y k)) * w0 q h) (fun k h => ∑ q, (x k q * gate (y k)) * w1 q h) b

/-- Off the picked nodes the layer is zero. -/
theorem layer_off {σ : κ → ι} {m : ι → EReal} (P : Picks σ m) (a : ι → ι → EReal) (y : ι → EReal) (x : ι → η → EReal) (w0 w1 : η → η → EReal)
    (b : η → EReal) (i : ι) (hi : i ∉ Set.range σ) (h : η) : layer a m y x w0 w1 b i h = 0 := by
  unfold layer; rw [P.off i hi, mul_zero]

/-- On them it is the pooled layer. -/
theorem layer_on {σ : κ → ι} {m : ι → EReal} (P : Picks σ m) (a : ι → ι → EReal) (y : ι → EReal) (x : ι → η → EReal) (w0 w1 : η → η → EReal)
    (b : η → EReal) (k : κ) (h : η) :
    layer a m y x w0 w1 b (σ k) h = pooled a (fun k => y (σ k)) (fun k => x (σ k)) σ w0 w1 b k h := by
  unfold pooled
  rw [← conv_eq]
  unfold layer
  have hd : ∀ i, ∑ l, a i l * m l = ∑ l, a i (σ l) := fun i => by
    rw [P.sum _ fun l hl => by rw [P.off l hl, mul_zero]]
    exact Finset.sum_congr rfl fun l _ => by rw [P.on, mul_one]
  have hg : ∀ l, Ideal.div (m (σ l)) (1 + Ideal.exp (-(y (σ l)))) = gate (y (σ l)) := fun l => by rw [P.on]; rfl
  simp only [hd]
  have hz : ∀ j, j ∉ Set.range σ → a (σ k) j * (dinv (∑ l, a j (σ l)) * ∑ q, (x j q * Ideal.div (m j) (1 + Ideal.exp (-(y j)))) * w0 q h) = 0 := by
    intro j hj
    have e : ∑ q, (x j q * Ideal.div (m j) (1 + Ideal.exp (-(y j)))) * w0 q h = 0 :=
      Finset.sum_eq_zero fun q _ => by rw [P.off j hj, zero_gate, mul_zero, zero_mul]
    rw [e, mul_zero, mul_zero]
  rw [P.sum _ hz]
  simp only [hg]
  rw [P.on, mul_one]

/-- The gated projection of real features is real. -/
theorem proj_isReal {σ : κ → ι} {m : ι → EReal} (P : Picks σ m) (y : ι → EReal) (x : ι → η → EReal) (w0 : η → η → EReal) (j : ι) (h : η)
    (hx : ∀ j q, IsReal (x j q)) (hw : ∀ q h, IsReal (w0 q h)) :
    IsReal (∑ q, (x j q * Ideal.div (m j) (1 + Ideal.exp (-(y j)))) * w0 q h) := by
  refine IsReal.sum _ fun q _ => ((hx j q).mul ?_).mul (hw q h)
  by_cases hj : j ∈ Set.range σ
  · obtain ⟨k, rfl⟩ := hj; rw [P.on]; exact gate_isReal _
  · rw [P.off j hj, zero_gate]; exact IsReal.zero

/-- The layer of real features is real. -/
theorem layer_isReal {σ : κ → ι} {m : ι → EReal} (P : Picks σ m) (a : ι → ι → EReal) (y : ι → EReal) (x : ι → η → EReal) (w0 w1 : η → η → EReal)
    (b : η → EReal) (hx : ∀ j q, IsReal (x j q)) (h0 : ∀ q h, IsReal (w0 q h)) (h1 : ∀ q h, IsReal (w1 q h)) (hb : ∀ h, IsReal (b h))
    (i : ι) (h : η) : IsReal (layer a m y x w0 w1 b i h) := by
  by_cases hi : i ∈ Set.range σ
  · obtain ⟨k, rfl⟩ := hi
    rw [layer_on P]
    refine conv_isReal _ _ _ _ _ _ (fun l => ?_) ?_ (hb h)
    · exact IsReal.sum _ fun q _ => ((hx _ q).mul (gate_isReal _)).mul (h0 q h)
    · exact IsReal.sum _ fun q _ => ((hx _ q).mul (gate_isReal _)).mul (h1 q h)
  · rw [layer_off P _ _ _ _ _ _ i hi]; exact IsReal.zero

/-- The layer with the low part of its operand added: `v - v` of the exact values. -/
def layerR (a : ι → ι → EReal) (m y : ι → EReal) (x : ι → η → EReal) (w0 w1 : η → η → EReal) (b : η → EReal) (i : ι) (h : η) : EReal :=
  max (dinv (∑ l, a i l * m l) *
      ((∑ j, a i j * (dinv (∑ l, a j l * m l) * ∑ q, (x j q * Ideal.div (m j) (1 + Ideal.exp (-(y j)))) * w0 q h))
        + ∑ j, a i j * ((dinv (∑ l, a j l * m l) * ∑ q, (x j q * Ideal.div (m j) (1 + Ideal.exp (-(y j)))) * w0 q h)
          - (dinv (∑ l, a j l * m l) * ∑ q, (x j q * Ideal.div (m j) (1 + Ideal.exp (-(y j)))) * w0 q h)))
    + ((∑ q, (x i q * Ideal.div (m i) (1 + Ideal.exp (-(y i)))) * w1 q h) + b h)) 0 * m i

/-- For real features the low part is zero. -/
theorem layerR_eq {σ : κ → ι} {m : ι → EReal} (P : Picks σ m) (a : ι → ι → EReal) (y : ι → EReal) (x : ι → η → EReal) (w0 w1 : η → η → EReal)
    (b : η → EReal) (hx : ∀ j q, IsReal (x j q)) (h0 : ∀ q h, IsReal (w0 q h)) (i : ι) (h : η) :
    layerR a m y x w0 w1 b i h = layer a m y x w0 w1 b i h := by
  unfold layerR layer
  have e : ∑ j, a i j * ((dinv (∑ l, a j l * m l) * ∑ q, (x j q * Ideal.div (m j) (1 + Ideal.exp (-(y j)))) * w0 q h)
      - (dinv (∑ l, a j l * m l) * ∑ q, (x j q * Ideal.div (m j) (1 + Ideal.exp (-(y j)))) * w0 q h)) = 0 :=
    Finset.sum_eq_zero fun j _ => by
      rw [sub_self_of_isReal ((dinv_isReal _).mul (proj_isReal P y x w0 j h hx h0)), mul_zero]
  rw [e, add_zero]

end Conv

/-! ## The two networks -/

section Net

variable {ι κ μ φ η : Type*} [Fintype ι] [Fintype κ] [Fintype μ] [Fintype φ] [Fintype η]

/-- The score along the normalised `p`, as the kernel takes it. -/
def scoreK (f : ι → η → EReal) (p : η → EReal) (i : ι) : EReal := ∑ q, f i q * Ideal.div (p q) (Ideal.sqrt (∑ q, p q * p q))
/-- The score divided by the norm of `p`, as the reference takes it. -/
def scoreR (f : ι → η → EReal) (p : η → EReal) (i : ι) : EReal := Ideal.div (∑ q, f i q * p q) (Ideal.sqrt (∑ q, p q * p q))

/-- A pooled layer is the same under either score. -/
theorem pooled_score (a : ι → ι → EReal) (f : κ → η → EReal) (p : η → EReal) (hf : ∀ k q, 0 ≤ f k q) (σ : κ → ι) (w0 w1 : η → η → EReal) (b : η → EReal) :
    pooled a (scoreK f p) f σ w0 w1 b = pooled a (scoreR f p) f σ w0 w1 b := by
  unfold pooled
  have e : ∀ k q, f k q * gate (scoreK f p k) = f k q * gate (scoreR f p k) := fun k q => gate_eq (f k) p (hf k) q
  simp only [e]

/-- The features of the last layer, summed over the nodes: the kernel's masked network is the reference's pooled one. -/
theorem net_eq (a : ι → ι → EReal) (x : ι → φ → EReal) (w01 w11 : φ → η → EReal) (b1 p : η → EReal) (w02 w12 : η → η → EReal) (b2 : η → EReal)
    (w03 w13 : η → η → EReal) (b3 : η → EReal) (σ : κ → ι) (ρ : μ → κ) (m1 m2 : ι → EReal) (P1 : Picks σ m1) (P2 : Picks (fun l => σ (ρ l)) m2)
    (hx : ∀ i q, IsReal (x i q)) (h01 : ∀ q h, IsReal (w01 q h)) (h11 : ∀ q h, IsReal (w11 q h)) (hb1 : ∀ h, IsReal (b1 h))
    (h02 : ∀ q h, IsReal (w02 q h)) (h12 : ∀ q h, IsReal (w12 q h)) (hb2 : ∀ h, IsReal (b2 h)) (h03 : ∀ q h, IsReal (w03 q h))
    (F1 F2 F3 : ι → η → EReal) (G1 : ι → η → EReal) (G2 : κ → η → EReal) (G3 : μ → η → EReal)
    (eF1 : ∀ i h, F1 i h = max (dinv (∑ l, a i l) * (∑ j, a i j * (dinv (∑ l, a j l) * ∑ q, x j q * w01 q h)) + ((∑ q, x i q * w11 q h) + b1 h)) 0)
    (eF2 : ∀ i h, F2 i h = layer a m1 (scoreK F1 p) F1 w02 w12 b2 i h)
    (eF3 : ∀ i h, F3 i h = layerR a m2 (scoreK F2 p) F2 w03 w13 b3 i h)
    (eG1 : ∀ i h, G1 i h = conv a (fun j h => ∑ q, x j q * w01 q h) (fun j h => ∑ q, x j q * w11 q h) b1 i h)
    (eG2 : ∀ k h, G2 k h = pooled a (fun k => scoreR G1 p (σ k)) (fun k => G1 (σ k)) σ w02 w12 b2 k h)
    (eG3 : ∀ l h, G3 l h = pooled (fun k l => a (σ k) (σ l)) (fun l => scoreR G2 p (ρ l)) (fun l => G2 (ρ l)) ρ w03 w13 b3 l h) (h : η) :
    ∑ i, F3 i h = ∑ l, G3 l h := by
  have e1 : F1 = G1 := funext fun i => funext fun h => by rw [eF1, eG1, ← conv_eq]
  have r1 : ∀ i h, IsReal (F1 i h) := fun i h => by
    rw [e1, eG1]
    exact conv_isReal _ _ _ _ _ _ (fun j => IsReal.sum _ fun q _ => (hx j q).mul (h01 q h)) (IsReal.sum _ fun q _ => (hx i q).mul (h11 q h)) (hb1 h)
  have n1 : ∀ i h, 0 ≤ G1 i h := fun i h => by rw [eG1]; exact conv_nonneg _ _ _ _ _ _
  have e2 : ∀ k, F2 (σ k) = G2 k := fun k => funext fun h => by
    rw [eF2, eG2, layer_on P1, e1]
    exact congrFun (congrFun (pooled_score a (fun k => G1 (σ k)) p (fun k => n1 _) σ w02 w12 b2) k) h
  have r2 : ∀ i h, IsReal (F2 i h) := fun i h => by rw [eF2]; exact layer_isReal P1 a _ F1 w02 w12 b2 r1 h02 h12 hb2 i h
  have n2 : ∀ k h, 0 ≤ G2 k h := fun k h => by rw [eG2]; exact conv_nonneg _ _ _ _ _ _
  have e3 : ∀ l h, F3 (σ (ρ l)) h = G3 l h := fun l h => by
    rw [eF3, layerR_eq P2 a _ F2 w03 w13 b3 r2 h03, eG3, layer_on P2]
    have ef : (fun l => F2 (σ (ρ l))) = fun l => G2 (ρ l) := funext fun l => e2 (ρ l)
    have es : (fun l => scoreK F2 p (σ (ρ l))) = scoreK (fun l => G2 (ρ l)) p := funext fun l => by unfold scoreK; rw [e2]
    rw [ef, es]
    exact congrFun (congrFun (pooled_score (fun k l => a (σ k) (σ l)) (fun l => G2 (ρ l)) p (fun l => n2 _) ρ w03 w13 b3) l) h
  rw [P2.sum (fun i => F3 i h) fun i hi => by rw [eF3, layerR_eq P2 a _ F2 w03 w13 b3 r2 h03, layer_off P2 _ _ _ _ _ _ i hi]]
  exact Finset.sum_congr rfl fun l _ => e3 l h

end Net

end Cert.Math

end
-- ==== Proof.Pre.lean ====
/-
  What the precondition says: the two lists of chosen nodes are injective maps into the nodes they choose from, every node belongs to
  segment 0, and the features and weights it names are real.
-/
module

public import proofs.«01_k».proof.Proof.Frames
public import proofs.«01_k».proof.Proof.Math
public import Idealize.ShloMosaic.Lib.IdealHost
public import Idealize.ShloMosaic.Lib.Pointwise

@[expose] public section

set_option maxRecDepth 16384

noncomputable section

namespace Cert.Pre_selections.Reading

open Cert.Pre_selections Cert.Math
open Idealize.ShloMosaic Idealize.ShloMosaic.Pointwise

/-- A word between zero and a bound, both as signed numbers, is below it as an unsigned one. -/
theorem in_range (w n : BitVec 32) (hn : n.toNat < 2147483648)
    (h : IntOp.andi (IntOp.cmpi CmpIPredicate.sge w 0#32) (IntOp.cmpi CmpIPredicate.slt w n) = 1#1) : w.toNat < n.toNat := by
  simp only [IntOp.andi, IntOp.cmpi] at h
  have h1 : (0#32).sle w = true := by
    cases e : (0#32).sle w
    · rw [e] at h; revert h; cases w.slt n <;> decide
    · rfl
  have h2 : w.slt n = true := by
    cases e : w.slt n
    · rw [e, h1] at h; revert h; decide
    · rfl
  rw [BitVec.sle_iff_toInt_le] at h1
  rw [BitVec.slt_iff_toInt_lt] at h2
  rw [BitVec.toInt_eq_toNat_cond] at h1 h2
  rw [BitVec.toInt_eq_toNat_cond] at h1 h2
  have hw := w.isLt
  simp only [BitVec.toNat_ofNat] at h1
  split_ifs at h1 h2 <;> omega

/-- Words in range and pairwise distinct are an injective map. -/
theorem chosen {n N : ℕ} (idx : Fin n → BitVec 32) (hn : n ≤ 2147483648) (hN : N < 2147483648)
    (hr : ∀ k, IntOp.andi (IntOp.cmpi CmpIPredicate.sge (idx k) 0#32) (IntOp.cmpi CmpIPredicate.slt (idx k) (BitVec.ofNat 32 N)) = 1#1)
    (hp : ∀ k l : Fin n, IntOp.ori (IntOp.cmpi CmpIPredicate.ne (idx k) (idx l))
      (IntOp.cmpi CmpIPredicate.eq (BitVec.ofNat 32 k.val) (BitVec.ofNat 32 l.val)) = 1#1) :
    ∃ σ : Fin n → Fin N, Function.Injective σ ∧ ∀ k, idx k = BitVec.ofNat 32 (σ k).val := by
  have eN : (BitVec.ofNat 32 N).toNat = N := by rw [BitVec.toNat_ofNat]; omega
  have hlt : ∀ k, (idx k).toNat < N := fun k => by
    have := in_range (idx k) (BitVec.ofNat 32 N) (by rw [eN]; exact hN) (hr k)
    rwa [eN] at this
  refine ⟨fun k => ⟨(idx k).toNat, hlt k⟩, fun k l e => ?_, fun k => (BitVec.ofNat_toNat _ _).symm ▸ by simp⟩
  have e' : idx k = idx l := BitVec.eq_of_toNat_eq (congrArg (fun a : Fin N => a.val) e)
  have h := hp k l
  simp only [IntOp.ori, IntOp.cmpi, e', bne_self_eq_false] at h
  have h' : (BitVec.ofNat 32 k.val == BitVec.ofNat 32 l.val) = true := by
    cases c : (BitVec.ofNat 32 k.val == BitVec.ofNat 32 l.val)
    · rw [c] at h; revert h; decide
    · rfl
  have h2 := congrArg BitVec.toNat (eq_of_beq h')
  simp only [BitVec.toNat_ofNat] at h2
  have hk := k.isLt
  have hl := l.isLt
  exact Fin.ext (by omega)

/-- An equality of words that tests one holds. -/
theorem eq_of_test (x y : BitVec 32) (h : IntOp.cmpi CmpIPredicate.eq x y = 1#1) : x = y := by
  simp only [IntOp.cmpi] at h
  cases c : (x == y)
  · rw [c] at h; exact absurd h (by decide)
  · exact eq_of_beq c

/-- A number whose absolute value tests below infinity is real. -/
theorem real_of_test (x : EReal) (h : BitVec.ofBool (decide (FloatOps.absf (F := Ideal) (φ := .f32) x < Ideal.ofBits FTy.f32 0x7F800000#32)) = 1#1) : IsReal x := by
  have htop : Ideal.ofBits .f32 0x7F800000#32 = ⊤ := by simp [Ideal.ofBits, Ideal.ieee]
  rw [htop] at h
  refine isReal_of_abs ?_
  by_contra hx
  have e : decide (FloatOps.absf (F := Ideal) (φ := .f32) x < (⊤ : EReal)) = false := decide_eq_false hx
  rw [e] at h
  revert h; decide

variable [Facts] (x0 : FVec Ideal S10000x128 .f32) (x1 : FVec Ideal S10000x10000 .f32) (x2 : IVec S10000 32) (x3 : IVec S5000 32)
  (x4 : IVec S2500 32) (x5 x6 : FVec Ideal S128x32 .f32) (x7 x8 : FVec Ideal S32 .f32) (x9 x10 : FVec Ideal S32x32 .f32)
  (x11 : FVec Ideal S32 .f32) (x12 x13 : FVec Ideal S32x32 .f32) (x14 : FVec Ideal S32 .f32) (x15 : FVec Ideal S32x1 .f32) (x16 : FVec Ideal S1 .f32)

theorem range1 (k : Fin 5000) : (fn (F := Ideal) x0 x1 x2 x3 x4 x5 x6 x7 x8 x9 x10 x11 x12 x13 x14 x15 x16).1 (ix1 k)
    = IntOp.andi (IntOp.cmpi CmpIPredicate.sge (x3 (ix1 k)) 0#32) (IntOp.cmpi CmpIPredicate.slt (x3 (ix1 k)) 10000#32) := by
  unfold fn fn_part1 fn_part2 fn_part3
  pointwise

theorem pair1 (k l : Fin 5000) : (fn (F := Ideal) x0 x1 x2 x3 x4 x5 x6 x7 x8 x9 x10 x11 x12 x13 x14 x15 x16).2.1 (ix2 k l)
    = IntOp.ori (IntOp.cmpi CmpIPredicate.ne (x3 (ix1 k)) (x3 (ix1 l))) (IntOp.cmpi CmpIPredicate.eq (BitVec.ofNat 32 k.val) (BitVec.ofNat 32 l.val)) := by
  unfold fn fn_part1 fn_part2 fn_part3
  pointwise

theorem range2 (k : Fin 2500) : (fn (F := Ideal) x0 x1 x2 x3 x4 x5 x6 x7 x8 x9 x10 x11 x12 x13 x14 x15 x16).2.2.1 (ix1 k)
    = IntOp.andi (IntOp.cmpi CmpIPredicate.sge (x4 (ix1 k)) 0#32) (IntOp.cmpi CmpIPredicate.slt (x4 (ix1 k)) 5000#32) := by
  unfold fn fn_part1 fn_part2 fn_part3
  pointwise

theorem pair2 (k l : Fin 2500) : (fn (F := Ideal) x0 x1 x2 x3 x4 x5 x6 x7 x8 x9 x10 x11 x12 x13 x14 x15 x16).2.2.2.1 (ix2 k l)
    = IntOp.ori (IntOp.cmpi CmpIPredicate.ne (x4 (ix1 k)) (x4 (ix1 l))) (IntOp.cmpi CmpIPredicate.eq (BitVec.ofNat 32 k.val) (BitVec.ofNat 32 l.val)) := by
  unfold fn fn_part1 fn_part2 fn_part3
  pointwise

theorem segments (i : Fin 10000) : (fn (F := Ideal) x0 x1 x2 x3 x4 x5 x6 x7 x8 x9 x10 x11 x12 x13 x14 x15 x16).2.2.2.2.1 (ix1 i)
    = IntOp.cmpi CmpIPredicate.eq (x2 (ix1 i)) 0#32 := by
  unfold fn fn_part1 fn_part2 fn_part3
  pointwise

theorem test_x0 (i : Fin 10000) (q : Fin 128) : (fn (F := Ideal) x0 x1 x2 x3 x4 x5 x6 x7 x8 x9 x10 x11 x12 x13 x14 x15 x16).2.2.2.2.2.1 (ix2 i q)
    = BitVec.ofBool (decide (FloatOps.absf (F := Ideal) (φ := .f32) (x0 (ix2 i q) : EReal) < Ideal.ofBits FTy.f32 0x7F800000#32)) := by
  unfold fn fn_part1 fn_part2 fn_part3
  pointwise

theorem test_x5 (i : Fin 128) (q : Fin 32) : (fn (F := Ideal) x0 x1 x2 x3 x4 x5 x6 x7 x8 x9 x10 x11 x12 x13 x14 x15 x16).2.2.2.2.2.2.1 (ix2 i q)
    = BitVec.ofBool (decide (FloatOps.absf (F := Ideal) (φ := .f32) (x5 (ix2 i q) : EReal) < Ideal.ofBits FTy.f32 0x7F800000#32)) := by
  unfold fn fn_part1 fn_part2 fn_part3
  pointwise

theorem test_x6 (i : Fin 128) (q : Fin 32) : (fn (F := Ideal) x0 x1 x2 x3 x4 x5 x6 x7 x8 x9 x10 x11 x12 x13 x14 x15 x16).2.2.2.2.2.2.2.1 (ix2 i q)
    = BitVec.ofBool (decide (FloatOps.absf (F := Ideal) (φ := .f32) (x6 (ix2 i q) : EReal) < Ideal.ofBits FTy.f32 0x7F800000#32)) := by
  unfold fn fn_part1 fn_part2 fn_part3
  pointwise

theorem test_x7 (i : Fin 32) : (fn (F := Ideal) x0 x1 x2 x3 x4 x5 x6 x7 x8 x9 x10 x11 x12 x13 x14 x15 x16).2.2.2.2.2.2.2.2.1 (ix1 i)
    = BitVec.ofBool (decide (FloatOps.absf (F := Ideal) (φ := .f32) (x7 (ix1 i) : EReal) < Ideal.ofBits FTy.f32 0x7F800000#32)) := by
  unfold fn fn_part1 fn_part2 fn_part3
  pointwise

theorem test_x9 (i : Fin 32) (q : Fin 32) : (fn (F := Ideal) x0 x1 x2 x3 x4 x5 x6 x7 x8 x9 x10 x11 x12 x13 x14 x15 x16).2.2.2.2.2.2.2.2.2.1 (ix2 i q)
    = BitVec.ofBool (decide (FloatOps.absf (F := Ideal) (φ := .f32) (x9 (ix2 i q) : EReal) < Ideal.ofBits FTy.f32 0x7F800000#32)) := by
  unfold fn fn_part1 fn_part2 fn_part3
  pointwise

theorem test_x10 (i : Fin 32) (q : Fin 32) : (fn (F := Ideal) x0 x1 x2 x3 x4 x5 x6 x7 x8 x9 x10 x11 x12 x13 x14 x15 x16).2.2.2.2.2.2.2.2.2.2.1 (ix2 i q)
    = BitVec.ofBool (decide (FloatOps.absf (F := Ideal) (φ := .f32) (x10 (ix2 i q) : EReal) < Ideal.ofBits FTy.f32 0x7F800000#32)) := by
  unfold fn fn_part1 fn_part2 fn_part3
  pointwise

theorem test_x11 (i : Fin 32) : (fn (F := Ideal) x0 x1 x2 x3 x4 x5 x6 x7 x8 x9 x10 x11 x12 x13 x14 x15 x16).2.2.2.2.2.2.2.2.2.2.2.1 (ix1 i)
    = BitVec.ofBool (decide (FloatOps.absf (F := Ideal) (φ := .f32) (x11 (ix1 i) : EReal) < Ideal.ofBits FTy.f32 0x7F800000#32)) := by
  unfold fn fn_part1 fn_part2 fn_part3
  pointwise

theorem test_x12 (i : Fin 32) (q : Fin 32) : (fn (F := Ideal) x0 x1 x2 x3 x4 x5 x6 x7 x8 x9 x10 x11 x12 x13 x14 x15 x16).2.2.2.2.2.2.2.2.2.2.2.2 (ix2 i q)
    = BitVec.ofBool (decide (FloatOps.absf (F := Ideal) (φ := .f32) (x12 (ix2 i q) : EReal) < Ideal.ofBits FTy.f32 0x7F800000#32)) := by
  unfold fn fn_part1 fn_part2 fn_part3
  pointwise

end Cert.Pre_selections.Reading

namespace Cert.Frames

open Idealize.ShloMosaic Idealize.ShloMosaic.Pointwise Cert.Math Cert.Pre_selections.Reading

/-- The side conditions the precondition states. -/
instance preFacts : Cert.Pre_selections.Facts where
  bcast_S_S5000 := by decide
  bcast_S5000_S5000x1_0 := by decide
  bcast_S5000_S1x5000_1 := by decide
  bcast_S5000x1_S5000x5000_0_1 := by decide
  bcast_S1x5000_S5000x5000_0_1 := by decide
  bcast_S_S2500 := by decide
  bcast_S2500_S2500x1_0 := by decide
  bcast_S2500_S1x2500_1 := by decide
  bcast_S2500x1_S2500x2500_0_1 := by decide
  bcast_S1x2500_S2500x2500_0_1 := by decide
  bcast_S_S10000 := by decide
  bcast_S_S10000x128 := by decide
  bcast_S_S128x32 := by decide
  bcast_S_S32 := by decide
  bcast_S_S32x32 := by decide

/-- The frames again, where the precondition is assumed. -/
theorem kernelIdeal_pre : Cert.quiescent_KernelIdeal_pre_selections := fun m g _ => Cert.KernelIdeal.Calls.frame (F := Ideal) m g

theorem reference_pre : Cert.quiescent_ReferenceIdeal_pre_selections := fun m g _ => reference m g trivial

/-- What the precondition gives on a device. -/
structure Given (m : (ℓ : Loc Cert.KernelIdeal.nD Cert.KernelIdeal.τ Cert.KernelIdeal.sig) → Buf (Elt Ideal) ℓ) (c : Dev Cert.KernelIdeal.nD) : Prop where
  first : ∃ σ : Fin 5000 → Fin 10000, Function.Injective σ ∧ ∀ k : Fin 5000, (m ((c.tc : Thread Cert.KernelIdeal.nD Cert.KernelIdeal.τ).loc Cert.KernelIdeal.main_arg3) : IVec Cert.KernelIdeal.S5000 32) (ix1 k) = BitVec.ofNat 32 (σ k).val
  second : ∃ ρ : Fin 2500 → Fin 5000, Function.Injective ρ ∧ ∀ k : Fin 2500, (m ((c.tc : Thread Cert.KernelIdeal.nD Cert.KernelIdeal.τ).loc Cert.KernelIdeal.main_arg4) : IVec Cert.KernelIdeal.S2500 32) (ix1 k) = BitVec.ofNat 32 (ρ k).val
  segment : ∀ i : Fin 10000, (m ((c.tc : Thread Cert.KernelIdeal.nD Cert.KernelIdeal.τ).loc Cert.KernelIdeal.main_arg2) : IVec Cert.KernelIdeal.S10000 32) (ix1 i) = 0#32
  real0 : ∀ (i : Fin 10000) (q : Fin 128), IsReal ((m ((c.tc : Thread Cert.KernelIdeal.nD Cert.KernelIdeal.τ).loc Cert.KernelIdeal.main_arg0) : Vec Ideal Cert.KernelIdeal.S10000x128 .f32) (ix2 i q))
  real5 : ∀ (i : Fin 128) (q : Fin 32), IsReal ((m ((c.tc : Thread Cert.KernelIdeal.nD Cert.KernelIdeal.τ).loc Cert.KernelIdeal.main_arg5) : Vec Ideal Cert.KernelIdeal.S128x32 .f32) (ix2 i q))
  real6 : ∀ (i : Fin 128) (q : Fin 32), IsReal ((m ((c.tc : Thread Cert.KernelIdeal.nD Cert.KernelIdeal.τ).loc Cert.KernelIdeal.main_arg6) : Vec Ideal Cert.KernelIdeal.S128x32 .f32) (ix2 i q))
  real7 : ∀ (i : Fin 32), IsReal ((m ((c.tc : Thread Cert.KernelIdeal.nD Cert.KernelIdeal.τ).loc Cert.KernelIdeal.main_arg7) : Vec Ideal Cert.KernelIdeal.S32 .f32) (ix1 i))
  real9 : ∀ (i : Fin 32) (q : Fin 32), IsReal ((m ((c.tc : Thread Cert.KernelIdeal.nD Cert.KernelIdeal.τ).loc Cert.KernelIdeal.main_arg9) : Vec Ideal Cert.KernelIdeal.S32x32 .f32) (ix2 i q))
  real10 : ∀ (i : Fin 32) (q : Fin 32), IsReal ((m ((c.tc : Thread Cert.KernelIdeal.nD Cert.KernelIdeal.τ).loc Cert.KernelIdeal.main_arg10) : Vec Ideal Cert.KernelIdeal.S32x32 .f32) (ix2 i q))
  real11 : ∀ (i : Fin 32), IsReal ((m ((c.tc : Thread Cert.KernelIdeal.nD Cert.KernelIdeal.τ).loc Cert.KernelIdeal.main_arg11) : Vec Ideal Cert.KernelIdeal.S32 .f32) (ix1 i))
  real12 : ∀ (i : Fin 32) (q : Fin 32), IsReal ((m ((c.tc : Thread Cert.KernelIdeal.nD Cert.KernelIdeal.τ).loc Cert.KernelIdeal.main_arg12) : Vec Ideal Cert.KernelIdeal.S32x32 .f32) (ix2 i q))

theorem given (m : (ℓ : Loc Cert.KernelIdeal.nD Cert.KernelIdeal.τ Cert.KernelIdeal.sig) → Buf (Elt Ideal) ℓ) (h : Cert.Pre_KernelIdeal_selections m) (c : Dev Cert.KernelIdeal.nD) : Given m c := by
  obtain ⟨h0, h1, h2, h3, h4, h5, h6, h7, h8, h9, h10, h11, h12⟩ := h c
  exact {
    first := chosen (fun k => (m ((c.tc : Thread Cert.KernelIdeal.nD Cert.KernelIdeal.τ).loc Cert.KernelIdeal.main_arg3) : IVec Cert.KernelIdeal.S5000 32) (ix1 k)) (by norm_num) (by norm_num)
      (fun k => (range1 _ _ _ _ _ _ _ _ _ _ _ _ _ _ _ _ _ k).symm.trans (congrFun h0 (ix1 k))) (fun k l => (pair1 _ _ _ _ _ _ _ _ _ _ _ _ _ _ _ _ _ k l).symm.trans (congrFun h1 (ix2 k l)))
    second := chosen (fun k => (m ((c.tc : Thread Cert.KernelIdeal.nD Cert.KernelIdeal.τ).loc Cert.KernelIdeal.main_arg4) : IVec Cert.KernelIdeal.S2500 32) (ix1 k)) (by norm_num) (by norm_num)
      (fun k => (range2 _ _ _ _ _ _ _ _ _ _ _ _ _ _ _ _ _ k).symm.trans (congrFun h2 (ix1 k))) (fun k l => (pair2 _ _ _ _ _ _ _ _ _ _ _ _ _ _ _ _ _ k l).symm.trans (congrFun h3 (ix2 k l)))
    segment := fun i => eq_of_test _ _ ((segments _ _ _ _ _ _ _ _ _ _ _ _ _ _ _ _ _ i).symm.trans (congrFun h4 (ix1 i)))
    real0 := fun i q => real_of_test _ ((test_x0 _ _ _ _ _ _ _ _ _ _ _ _ _ _ _ _ _ i q).symm.trans (congrFun h5 (ix2 i q)))
    real5 := fun i q => real_of_test _ ((test_x5 _ _ _ _ _ _ _ _ _ _ _ _ _ _ _ _ _ i q).symm.trans (congrFun h6 (ix2 i q)))
    real6 := fun i q => real_of_test _ ((test_x6 _ _ _ _ _ _ _ _ _ _ _ _ _ _ _ _ _ i q).symm.trans (congrFun h7 (ix2 i q)))
    real7 := fun i => real_of_test _ ((test_x7 _ _ _ _ _ _ _ _ _ _ _ _ _ _ _ _ _ i).symm.trans (congrFun h8 (ix1 i)))
    real9 := fun i q => real_of_test _ ((test_x9 _ _ _ _ _ _ _ _ _ _ _ _ _ _ _ _ _ i q).symm.trans (congrFun h9 (ix2 i q)))
    real10 := fun i q => real_of_test _ ((test_x10 _ _ _ _ _ _ _ _ _ _ _ _ _ _ _ _ _ i q).symm.trans (congrFun h10 (ix2 i q)))
    real11 := fun i => real_of_test _ ((test_x11 _ _ _ _ _ _ _ _ _ _ _ _ _ _ _ _ _ i).symm.trans (congrFun h11 (ix1 i)))
    real12 := fun i q => real_of_test _ ((test_x12 _ _ _ _ _ _ _ _ _ _ _ _ _ _ _ _ _ i q).symm.trans (congrFun h12 (ix2 i q)))
  }

end Cert.Frames

end
-- ==== Proof.Select.lean ====
/-
  Reading through index words: the rows and columns a gather takes, the entries a setting scatter marks, and the sums an adding scatter leaves.
-/
module

public import Idealize.ShloMosaic.PureOps.Ideal
public import Idealize.ShloMosaic.Lib.Pointwise
public import Idealize.ShloMosaic.Lib.Routing.Ops
public import Idealize.ShloMosaic.Lib.Routing.OpsSet
public import Idealize.ShloMosaic.Lib.Routing.OpsPair
public import proofs.«01_k».proof.Proof.Math

@[expose] public section

set_option maxRecDepth 16384

noncomputable section

namespace Cert.Select

open Idealize.ShloMosaic Idealize.ShloMosaic.Pointwise

/-- A non-negative word is not moved by the wrap of negative indices. -/
theorem not_neg {n : Nat} (h : n < 10000) : ¬ (BitVec.ofNat 32 n).slt 0#32 = true := by
  rw [BitVec.slt_iff_toInt_lt, StableHlo.Predicate.toInt_ofNat_small _ (by omega)]
  simp

/-- The wrap of negative indices, read at a non-negative word. -/
theorem wrap_word {n : Nat} (h : n < 10000) (b : BitVec 32) :
    Scalar.select (IntOp.cmpi CmpIPredicate.slt (BitVec.ofNat 32 n) 0#32) b (BitVec.ofNat 32 n) = BitVec.ofNat 32 n := by
  have hf : (BitVec.ofNat 32 n).slt 0#32 = false := by
    cases e : (BitVec.ofNat 32 n).slt 0#32
    · rfl
    · exact absurd e (not_neg h)
  show (if BitVec.ofBool ((BitVec.ofNat 32 n).slt 0#32) = 1 then b else BitVec.ofNat 32 n) = BitVec.ofNat 32 n
  rw [hf]
  rfl

section Columns
variable {α : Type}

/-- The dimension numbers of `table[:, idx]`. -/
abbrev colDims (R C n : Nat)
    (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- `table[:, idx]` at `(r, k)` is the table at row `r` and the column that `idx` names at `k`. -/
theorem gather_col {R C n : Nat} (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ 32) (r : Fin R) (k : Fin n) (b : Fin C)
    (hb : idx (ix2 k (0 : Fin 1)) = BitVec.ofNat 32 b.val) (hC : C < 2 ^ 31) :
    Host.gather (colDims R C n wf) x idx (ix2 r k) = x (ix2 r b) := by
  unfold Host.gather
  refine congrArg x (funext fun a => Fin.ext ?_)
  show (colDims R C n wf).start (ix2 r k) idx a + (colDims R C n wf).batchCoord (ix2 r k) a + (colDims R C n wf).offCoord (ix2 r k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ ([1] : List (Fin 2)) from by decide), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (colDims R C n wf).startIndexMap from List.mem_singleton.mpr rfl)]
    have hsi : (colDims R C n wf).siIdx (ix2 r k) ⟨List.idxOf (1 : Fin 2) (colDims R C n wf).startIndexMap,
        List.idxOf_lt_length_iff.2 (List.mem_singleton.mpr rfl)⟩ = ix2 k (0 : Fin 1) := by
      funext b
      match b with
      | ⟨0, _⟩ => rfl
      | ⟨1, _⟩ => rfl
    have hbl := b.isLt
    rw [hsi, hb, StableHlo.Predicate.toInt_ofNat_small _ (by omega)]
    show min ((b.val : Int)).toNat (C - 1) = b.val
    omega

end Columns

section Mark

/-- The dimension numbers of `zeros.at[idx].set(ones)`. -/
abbrev setDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- Update `k` of that scatter lands at the entry its word names. -/
theorem set_lands {N n : Nat} (wf : ScatterDims.WF ⟨1, ![N]⟩ ⟨2, ![n, 1]⟩ ⟨1, ![n]⟩ [] [0] [0] 1) (idx : IVec ⟨2, ![n, 1]⟩ 32) (σ : Fin n → Fin N)
    (hσ : ∀ k, idx (ix2 k (0 : Fin 1)) = BitVec.ofNat 32 (σ k).val) (hN : N < 2 ^ 31) (k : Fin n) (i : Fin N) :
    (setDims N n wf).resultIdx? (ix1 k) idx = some (ix1 i) ↔ σ k = i := by
  rw [Routing.resultIdx?_eq_some]
  have hl := (σ k).isLt
  have hs : (setDims N n wf).start (ix1 k) idx 0 = ((σ k).val : Int) := by
    unfold ScatterDims.start
    rw [dif_pos (show (0 : Fin 1) ∈ (setDims N n wf).scatterDimsToOperandDims from List.mem_singleton.mpr rfl)]
    have hsi : (setDims N n wf).siIdx (ix1 k) ⟨List.idxOf (0 : Fin 1) (setDims N n wf).scatterDimsToOperandDims,
        List.idxOf_lt_length_iff.2 (List.mem_singleton.mpr rfl)⟩ = ix2 k (0 : Fin 1) := by
      funext b
      match b with
      | ⟨0, _⟩ => rfl
      | ⟨1, _⟩ => rfl
    rw [hsi, hσ k, StableHlo.Predicate.toInt_ofNat_small _ (by omega)]
  have hw : (setDims N n wf).window (ix1 k) 0 = 0 := by
    unfold ScatterDims.window
    exact dif_neg (show ¬ (0 : Fin 1) ∈ (setDims N n wf).sKept from by
      intro h; exact (of_decide_eq_true (List.mem_filter.1 h).2) (List.mem_singleton.2 rfl))
  have one : ∀ a : Fin 1, a = 0 := fun a => Subsingleton.elim _ _
  constructor
  · intro h
    have := h 0
    rw [hs, hw] at this
    have e : ((ix1 i : (⟨1, ![N]⟩ : Shape).Idx) 0).val = i.val := rfl
    rw [e] at this
    exact Fin.ext (by omega)
  · rintro rfl a
    obtain rfl := one a
    rw [hs, hw]
    show ((σ k).val : Int) + ((0 : Nat) : Int) = ((σ k).val : Int)
    omega

/-- Ones set into zeros at injective words: the marks of the chosen entries. -/
theorem picks {N n : Nat} (wf : ScatterDims.WF ⟨1, ![N]⟩ ⟨2, ![n, 1]⟩ ⟨1, ![n]⟩ [] [0] [0] 1) (x0 : (⟨1, ![N]⟩ : Shape).Idx → EReal)
    (idx : IVec ⟨2, ![n, 1]⟩ 32) (upd : (⟨1, ![n]⟩ : Shape).Idx → EReal) (h0 : ∀ i, x0 i = 0) (h1 : ∀ k, upd k = 1) (σ : Fin n → Fin N)
    (inj : Function.Injective σ) (hσ : ∀ k, idx (ix2 k (0 : Fin 1)) = BitVec.ofNat 32 (σ k).val) (hN : N < 2 ^ 31) :
    Math.Picks σ (fun i => Host.scatter (setDims N n wf) (fun _ b => b) x0 idx upd (ix1 i)) where
  inj := inj
  on k := Routing.scatter_set_hit (setDims N n wf) x0 idx upd (ix1 (σ k)) 1 (fun q _ => h1 q) (ix1 k) ((set_lands wf idx σ hσ hN k (σ k)).2 rfl)
  off i hi := by
    show Host.scatter (setDims N n wf) (fun _ b => b) x0 idx upd (ix1 i) = 0
    rw [Routing.scatter_set_miss (setDims N n wf) x0 idx upd (ix1 i) (fun k hk => ?_), h0]
    obtain ⟨k, rfl⟩ : ∃ q : Fin n, k = ix1 q := ⟨k 0, eq_ix1 k⟩
    exact hi ⟨k, (set_lands wf idx σ hσ hN k i).1 hk⟩

end Mark

section Pool

/-- The dimension numbers of the sum over segments of rows of `C` entries, one segment. -/
abbrev addDims (C n : Nat) (wf : ScatterDims.WF ⟨2, ![1, C]⟩ ⟨2, ![n, 1]⟩ ⟨2, ![n, C]⟩ [1] [0] [0] 1) :
    ScatterDims ⟨2, ![1, C]⟩ ⟨2, ![n, 1]⟩ ⟨2, ![n, C]⟩ where
  updateWindowDims := [1]
  insertedWindowDims := [0]
  scatterDimsToOperandDims := [0]
  indexVectorDim := 1
  wf := wf

/-- With every word zero, update `(k, q)` lands in column `q`. -/
theorem add_lands {C n : Nat} (wf : ScatterDims.WF ⟨2, ![1, C]⟩ ⟨2, ![n, 1]⟩ ⟨2, ![n, C]⟩ [1] [0] [0] 1) (idx : IVec ⟨2, ![n, 1]⟩ 32)
    (h0 : ∀ k, idx k = 0#32) (k : Fin n) (q h : Fin C) :
    (addDims C n wf).resultIdx? (ix2 k q) idx = some (ix2 (0 : Fin 1) h) ↔ q = h := by
  rw [Routing.resultIdx?_eq_some]
  have s0 : (addDims C n wf).start (ix2 k q) idx 0 = 0 := by
    unfold ScatterDims.start
    rw [dif_pos (show (0 : Fin 2) ∈ (addDims C n wf).scatterDimsToOperandDims from List.mem_singleton.mpr rfl), h0]
    rfl
  have s1 : (addDims C n wf).start (ix2 k q) idx 1 = 0 := by
    unfold ScatterDims.start
    exact dif_neg (show ¬ (1 : Fin 2) ∈ ([0] : List (Fin 2)) from by decide)
  have w0 : (addDims C n wf).window (ix2 k q) 0 = 0 := by
    unfold ScatterDims.window
    exact dif_neg (show ¬ (0 : Fin 2) ∈ (addDims C n wf).sKept from by
      intro h; exact (of_decide_eq_true (List.mem_filter.1 h).2) (List.mem_singleton.2 rfl))
  have w1 : (addDims C n wf).window (ix2 k q) 1 = q.val := rfl
  constructor
  · intro e
    have := e 1
    rw [s1, w1] at this
    have e' : ((ix2 (0 : Fin 1) h : (⟨2, ![1, C]⟩ : Shape).Idx) 1).val = h.val := rfl
    rw [e'] at this
    exact Fin.ext (by omega)
  · rintro rfl a
    match a with
    | ⟨0, _⟩ =>
      show (addDims C n wf).start (ix2 k q) idx 0 + ((addDims C n wf).window (ix2 k q) 0 : Int) = ((0 : Nat) : Int)
      rw [s0, w0]; rfl
    | ⟨1, _⟩ =>
      show (addDims C n wf).start (ix2 k q) idx 1 + ((addDims C n wf).window (ix2 k q) 1 : Int) = (q.val : Int)
      rw [s1, w1]; omega

/-- The sum over one segment that holds every row, from zero: the sum of the rows. -/
theorem add_all {C n : Nat} (wf : ScatterDims.WF ⟨2, ![1, C]⟩ ⟨2, ![n, 1]⟩ ⟨2, ![n, C]⟩ [1] [0] [0] 1) (x0 : FVec Ideal ⟨2, ![1, C]⟩ .f32)
    (idx : IVec ⟨2, ![n, 1]⟩ 32) (upd : FVec Ideal ⟨2, ![n, C]⟩ .f32) (hx : ∀ i, x0 i = (0 : EReal)) (h0 : ∀ k, idx k = 0#32) (h : Fin C) :
    (Host.scatterAdd (addDims C n wf) x0 idx upd (ix2 (0 : Fin 1) h) : EReal) = ∑ k : Fin n, (upd (ix2 k h) : EReal) := by
  show (x0 (ix2 (0 : Fin 1) h) : EReal) + ∑ j ∈ Finset.univ.filter (fun j => (addDims C n wf).resultIdx? j idx = some (ix2 (0 : Fin 1) h)), (upd j : EReal) = _
  rw [hx, zero_add]
  symm
  refine Finset.sum_bij (fun k _ => ix2 k h) (fun k _ => ?_) (fun k _ k' _ e => ?_) (fun j hj => ?_) (fun k _ => rfl)
  · exact Finset.mem_filter.2 ⟨Finset.mem_univ _, (add_lands wf idx h0 k h h).2 rfl⟩
  · exact congrFun e 0
  · obtain ⟨k, q, rfl⟩ : ∃ (k : Fin n) (q : Fin C), j = ix2 k q := ⟨j 0, j 1, eq_ix2 j⟩
    obtain rfl := (add_lands wf idx h0 k q h).1 (Finset.mem_filter.1 hj).2
    exact ⟨k, Finset.mem_univ _, rfl⟩

end Pool

end Cert.Select

end
-- ==== Proof.Net.lean ====
/-
  The reference's program read at an index, stage by stage: each convolution, the scores, the rows and columns taken through the selections, and the mean over the one segment.
-/
module

public import proofs.«01_k».proof.Proof.Gen.ReferenceIdeal.Read
public import proofs.«01_k».proof.Proof.Select

@[expose] public section

set_option maxRecDepth 16384

noncomputable section

namespace Cert.ReferenceIdeal.Net

open Cert.ReferenceIdeal Cert.ReferenceIdeal.Gen Cert.ReferenceIdeal.Read Cert.Math
open Idealize.ShloMosaic Idealize.ShloMosaic.Pointwise

variable (x0 : Vec Ideal S10000x128 .f32) (x1 : Vec Ideal S10000x10000 .f32) (x2 : IVec S10000 32) (x3 : IVec S5000 32) (x4 : IVec S2500 32)
  (x5 x6 : Vec Ideal S128x32 .f32) (x7 x8 : Vec Ideal S32 .f32) (x9 x10 : Vec Ideal S32x32 .f32) (x11 : Vec Ideal S32 .f32)
  (x12 x13 : Vec Ideal S32x32 .f32) (x14 : Vec Ideal S32 .f32) (x15 : Vec Ideal S32x1 .f32) (x16 : Vec Ideal S1 .f32)
  (σ : Fin 5000 → Fin 10000) (hσ : ∀ k, x3 (ix1 k) = BitVec.ofNat 32 (σ k).val)
  (ρ : Fin 2500 → Fin 5000) (hρ : ∀ k, x4 (ix1 k) = BitVec.ofNat 32 (ρ k).val)

theorem inv1 (i : Fin 10000) :
    ((val_main_v6 (F := Ideal) x1) (ix1 i) : EReal) = dinv (∑ l : Fin 10000, (x1 (ix2 i l) : EReal)) := by
  have e : ((val_main_v6 (F := Ideal) x1) (ix1 i) : EReal) = if 0 < ∑ l : Fin 10000, (x1 (ix2 i l) : EReal) then Ideal.div 1 (Ideal.sqrt (∑ l : Fin 10000, (x1 (ix2 i l) : EReal))) else 0 := by
    pointwise [val_main_cst, val_main_v0, val_main_cst_0, val_main_v1, val_main_v2, val_main_v3, val_main_cst_1, val_main_v4, val_main_v5, val_main_cst_2, val_main_call0_v0, val_main_call0_v1, val_main_v6, id]
  exact e

theorem feat1 (i : Fin 10000) (h : Fin 32) :
    ((val_main_v20 (F := Ideal) x0 x1 x5 x6 x7) (ix2 i h) : EReal) = conv (fun i j => (x1 (ix2 i j) : EReal)) (fun j h => ∑ q : Fin 128, (x0 (ix2 j q) : EReal) * x5 (ix2 q h)) (fun j h => ∑ q : Fin 128, (x0 (ix2 j q) : EReal) * x6 (ix2 q h)) (fun h => x7 (ix1 h)) i h := by
  have e : ((val_main_v20 (F := Ideal) x0 x1 x5 x6 x7) (ix2 i h) : EReal) = max ((∑ j : Fin 10000, ((x1 (ix2 i j) : EReal) * (val_main_v6 (F := Ideal) x1) (ix1 i)) * (val_main_v6 (F := Ideal) x1) (ix1 j) * ∑ q : Fin 128, (x0 (ix2 j q) : EReal) * x5 (ix2 q h)) + (∑ q : Fin 128, (x0 (ix2 i q) : EReal) * x6 (ix2 q h)) + x7 (ix1 h)) 0 := by
    pointwise [val_main_v7, val_main_v8, val_main_v9, val_main_v10, val_main_v11, val_main_v12, val_main_v13, val_main_v14, val_main_v15, val_main_v16, val_main_v17, val_main_v18, val_main_v19, val_main_call1_cst, val_main_call1_v0, val_main_v20]
  rw [e]
  simp only [inv1]
  rfl

theorem score1 (i : Fin 10000) :
    ((val_main_v26 (F := Ideal) x0 x1 x5 x6 x7 x8) (ix1 i) : EReal) = scoreR (fun i q => ((val_main_v20 (F := Ideal) x0 x1 x5 x6 x7) (ix2 i q) : EReal)) (fun q => x8 (ix1 q)) i := by
  have e : ((val_main_v26 (F := Ideal) x0 x1 x5 x6 x7 x8) (ix1 i) : EReal) = Ideal.div (∑ q : Fin 32, ((val_main_v20 (F := Ideal) x0 x1 x5 x6 x7) (ix2 i q) : EReal) * x8 (ix1 q)) (Ideal.sqrt (∑ q : Fin 32, x8 (ix1 q) * x8 (ix1 q))) := by
    pointwise [val_main_v21, val_main_v22, val_main_cst_3, val_main_v23, val_main_v24, val_main_v25, val_main_v26]
  exact e

include hσ

theorem word_v32 (k : Fin 5000) :
    (val_main_v32 (F := Ideal) x3) (ix2 k (0 : Fin 1)) = BitVec.ofNat 32 (σ k).val := by
  have e : (val_main_v32 (F := Ideal) x3) (ix2 k (0 : Fin 1)) = Scalar.select (IntOp.cmpi CmpIPredicate.slt (x3 (ix1 k)) 0#32) (IntOp.addi (x3 (ix1 k)) 10000#32) (x3 (ix1 k)) := by
    pointwise [val_main_c, val_main_v27, val_main_v28, val_main_c_4, val_main_v29, val_main_v30, val_main_v31, val_main_v32]
  rw [e, hσ, Select.wrap_word (by have := (σ k).isLt; omega)]

theorem word_v45 (k : Fin 5000) :
    (val_main_v45 (F := Ideal) x3) (ix2 k (0 : Fin 1)) = BitVec.ofNat 32 (σ k).val := by
  have e : (val_main_v45 (F := Ideal) x3) (ix2 k (0 : Fin 1)) = Scalar.select (IntOp.cmpi CmpIPredicate.slt (x3 (ix1 k)) 0#32) (IntOp.addi (x3 (ix1 k)) 10000#32) (x3 (ix1 k)) := by
    pointwise [val_main_c_7, val_main_v40, val_main_v41, val_main_c_8, val_main_v42, val_main_v43, val_main_v44, val_main_v45]
  rw [e, hσ, Select.wrap_word (by have := (σ k).isLt; omega)]

theorem word_v55 (k : Fin 5000) :
    (val_main_v55 (F := Ideal) x3) (ix2 k (0 : Fin 1)) = BitVec.ofNat 32 (σ k).val := by
  have e : (val_main_v55 (F := Ideal) x3) (ix2 k (0 : Fin 1)) = Scalar.select (IntOp.cmpi CmpIPredicate.slt (x3 (ix1 k)) 0#32) (IntOp.addi (x3 (ix1 k)) 10000#32) (x3 (ix1 k)) := by
    pointwise [val_main_c_9, val_main_v50, val_main_v51, val_main_c_10, val_main_v52, val_main_v53, val_main_v54, val_main_v55]
  rw [e, hσ, Select.wrap_word (by have := (σ k).isLt; omega)]

theorem word_v62 (k : Fin 5000) :
    (val_main_v62 (F := Ideal) x3) (ix2 k (0 : Fin 1)) = BitVec.ofNat 32 (σ k).val := by
  have e : (val_main_v62 (F := Ideal) x3) (ix2 k (0 : Fin 1)) = Scalar.select (IntOp.cmpi CmpIPredicate.slt (x3 (ix1 k)) 0#32) (IntOp.addi (x3 (ix1 k)) 10000#32) (x3 (ix1 k)) := by
    pointwise [val_main_c_11, val_main_v57, val_main_v58, val_main_c_12, val_main_v59, val_main_v60, val_main_v61, val_main_v62]
  rw [e, hσ, Select.wrap_word (by have := (σ k).isLt; omega)]

theorem word_v69 (k : Fin 5000) :
    (val_main_v69 (F := Ideal) x3) (ix2 k (0 : Fin 1)) = BitVec.ofNat 32 (σ k).val := by
  have e : (val_main_v69 (F := Ideal) x3) (ix2 k (0 : Fin 1)) = Scalar.select (IntOp.cmpi CmpIPredicate.slt (x3 (ix1 k)) 0#32) (IntOp.addi (x3 (ix1 k)) 10000#32) (x3 (ix1 k)) := by
    pointwise [val_main_c_13, val_main_v64, val_main_v65, val_main_c_14, val_main_v66, val_main_v67, val_main_v68, val_main_v69]
  rw [e, hσ, Select.wrap_word (by have := (σ k).isLt; omega)]

theorem take_v33 (k : Fin 5000) :
    (val_main_v33 (F := Ideal) x0 x1 x3 x5 x6 x7 x8) (ix1 k) = (val_main_v26 (F := Ideal) x0 x1 x5 x6 x7 x8) (ix1 (σ k)) := by
  exact Routing.gather_take1 _ rfl rfl rfl rfl _ _ k (σ k) (word_v32 x3 σ hσ k) (by norm_num)

theorem take_v70 (k : Fin 5000) :
    (val_main_v70 (F := Ideal) x2 x3) (ix1 k) = x2 (ix1 (σ k)) := by
  exact Routing.gather_take1 _ rfl rfl rfl rfl _ _ k (σ k) (word_v69 x3 σ hσ k) (by norm_num)

theorem rows_v46 (k : Fin 5000) (q : Fin 32) :
    (val_main_v46 (F := Ideal) x0 x1 x3 x5 x6 x7) (ix2 k q) = (val_main_v20 (F := Ideal) x0 x1 x5 x6 x7) (ix2 (σ k) q) := by
  exact Routing.gather_row _ rfl rfl rfl rfl rfl _ _ k q (σ k) (word_v45 x3 σ hσ k) (by norm_num)

theorem rows_v56 (k : Fin 5000) (q : Fin 10000) :
    (val_main_v56 (F := Ideal) x1 x3) (ix2 k q) = x1 (ix2 (σ k) q) := by
  exact Routing.gather_row _ rfl rfl rfl rfl rfl _ _ k q (σ k) (word_v55 x3 σ hσ k) (by norm_num)

theorem cols_v63 (k : Fin 5000) (l : Fin 5000) :
    (val_main_v63 (F := Ideal) x1 x3) (ix2 k l) = (val_main_v56 (F := Ideal) x1 x3) (ix2 k (σ l)) := by
  exact Select.gather_col gather_S5000x10000_S5000x1_S5000x5000_0_1_n_n_1_1_50001_wf _ _ k l (σ l) (word_v62 x3 σ hσ l) (by norm_num)

omit hσ

theorem gated1 (k : Fin 5000) (q : Fin 32) :
    ((val_main_v49 (F := Ideal) x0 x1 x3 x5 x6 x7 x8) (ix2 k q) : EReal) = ((val_main_v46 (F := Ideal) x0 x1 x3 x5 x6 x7) (ix2 k q) : EReal) * gate ((val_main_v33 (F := Ideal) x0 x1 x3 x5 x6 x7 x8) (ix1 k)) := by
  have e : ((val_main_v49 (F := Ideal) x0 x1 x3 x5 x6 x7 x8) (ix2 k q) : EReal) = ((val_main_v46 (F := Ideal) x0 x1 x3 x5 x6 x7) (ix2 k q) : EReal) * Ideal.div 1 (1 + Ideal.exp (-((val_main_v33 (F := Ideal) x0 x1 x3 x5 x6 x7 x8) (ix1 k) : EReal))) := by
    pointwise [val_main_v34, val_main_v35, val_main_cst_5, val_main_v36, val_main_v37, val_main_cst_6, val_main_v38, val_main_v39, val_main_v47, val_main_v48, val_main_v49]
  exact e

theorem inv2 (i : Fin 5000) :
    ((val_main_v77 (F := Ideal) x1 x3) (ix1 i) : EReal) = dinv (∑ l : Fin 5000, ((val_main_v63 (F := Ideal) x1 x3) (ix2 i l) : EReal)) := by
  have e : ((val_main_v77 (F := Ideal) x1 x3) (ix1 i) : EReal) = if 0 < ∑ l : Fin 5000, ((val_main_v63 (F := Ideal) x1 x3) (ix2 i l) : EReal) then Ideal.div 1 (Ideal.sqrt (∑ l : Fin 5000, ((val_main_v63 (F := Ideal) x1 x3) (ix2 i l) : EReal))) else 0 := by
    pointwise [val_main_cst_15, val_main_v71, val_main_cst_16, val_main_v72, val_main_v73, val_main_v74, val_main_cst_17, val_main_v75, val_main_v76, val_main_cst_18, val_main_call2_v0, val_main_call2_v1, val_main_v77, id]
  exact e

theorem feat2 (i : Fin 5000) (h : Fin 32) :
    ((val_main_v91 (F := Ideal) x0 x1 x3 x5 x6 x7 x8 x9 x10 x11) (ix2 i h) : EReal) = conv (fun i j => ((val_main_v63 (F := Ideal) x1 x3) (ix2 i j) : EReal)) (fun j h => ∑ q : Fin 32, ((val_main_v49 (F := Ideal) x0 x1 x3 x5 x6 x7 x8) (ix2 j q) : EReal) * x9 (ix2 q h)) (fun j h => ∑ q : Fin 32, ((val_main_v49 (F := Ideal) x0 x1 x3 x5 x6 x7 x8) (ix2 j q) : EReal) * x10 (ix2 q h)) (fun h => x11 (ix1 h)) i h := by
  have e : ((val_main_v91 (F := Ideal) x0 x1 x3 x5 x6 x7 x8 x9 x10 x11) (ix2 i h) : EReal) = max ((∑ j : Fin 5000, (((val_main_v63 (F := Ideal) x1 x3) (ix2 i j) : EReal) * (val_main_v77 (F := Ideal) x1 x3) (ix1 i)) * (val_main_v77 (F := Ideal) x1 x3) (ix1 j) * ∑ q : Fin 32, ((val_main_v49 (F := Ideal) x0 x1 x3 x5 x6 x7 x8) (ix2 j q) : EReal) * x9 (ix2 q h)) + (∑ q : Fin 32, ((val_main_v49 (F := Ideal) x0 x1 x3 x5 x6 x7 x8) (ix2 i q) : EReal) * x10 (ix2 q h)) + x11 (ix1 h)) 0 := by
    pointwise [val_main_v78, val_main_v79, val_main_v80, val_main_v81, val_main_v82, val_main_v83, val_main_v84, val_main_v85, val_main_v86, val_main_v87, val_main_v88, val_main_v89, val_main_v90, val_main_call3_cst, val_main_call3_v0, val_main_v91]
  rw [e]
  simp only [inv2]
  rfl

theorem score2 (i : Fin 5000) :
    ((val_main_v97 (F := Ideal) x0 x1 x3 x5 x6 x7 x8 x9 x10 x11) (ix1 i) : EReal) = scoreR (fun i q => ((val_main_v91 (F := Ideal) x0 x1 x3 x5 x6 x7 x8 x9 x10 x11) (ix2 i q) : EReal)) (fun q => x8 (ix1 q)) i := by
  have e : ((val_main_v97 (F := Ideal) x0 x1 x3 x5 x6 x7 x8 x9 x10 x11) (ix1 i) : EReal) = Ideal.div (∑ q : Fin 32, ((val_main_v91 (F := Ideal) x0 x1 x3 x5 x6 x7 x8 x9 x10 x11) (ix2 i q) : EReal) * x8 (ix1 q)) (Ideal.sqrt (∑ q : Fin 32, x8 (ix1 q) * x8 (ix1 q))) := by
    pointwise [val_main_v92, val_main_v93, val_main_cst_19, val_main_v94, val_main_v95, val_main_v96, val_main_v97]
  exact e

include hρ

theorem word_v103 (k : Fin 2500) :
    (val_main_v103 (F := Ideal) x4) (ix2 k (0 : Fin 1)) = BitVec.ofNat 32 (ρ k).val := by
  have e : (val_main_v103 (F := Ideal) x4) (ix2 k (0 : Fin 1)) = Scalar.select (IntOp.cmpi CmpIPredicate.slt (x4 (ix1 k)) 0#32) (IntOp.addi (x4 (ix1 k)) 5000#32) (x4 (ix1 k)) := by
    pointwise [val_main_c_20, val_main_v98, val_main_v99, val_main_c_21, val_main_v100, val_main_v101, val_main_v102, val_main_v103]
  rw [e, hρ, Select.wrap_word (by have := (ρ k).isLt; omega)]

theorem word_v116 (k : Fin 2500) :
    (val_main_v116 (F := Ideal) x4) (ix2 k (0 : Fin 1)) = BitVec.ofNat 32 (ρ k).val := by
  have e : (val_main_v116 (F := Ideal) x4) (ix2 k (0 : Fin 1)) = Scalar.select (IntOp.cmpi CmpIPredicate.slt (x4 (ix1 k)) 0#32) (IntOp.addi (x4 (ix1 k)) 5000#32) (x4 (ix1 k)) := by
    pointwise [val_main_c_24, val_main_v111, val_main_v112, val_main_c_25, val_main_v113, val_main_v114, val_main_v115, val_main_v116]
  rw [e, hρ, Select.wrap_word (by have := (ρ k).isLt; omega)]

theorem word_v126 (k : Fin 2500) :
    (val_main_v126 (F := Ideal) x4) (ix2 k (0 : Fin 1)) = BitVec.ofNat 32 (ρ k).val := by
  have e : (val_main_v126 (F := Ideal) x4) (ix2 k (0 : Fin 1)) = Scalar.select (IntOp.cmpi CmpIPredicate.slt (x4 (ix1 k)) 0#32) (IntOp.addi (x4 (ix1 k)) 5000#32) (x4 (ix1 k)) := by
    pointwise [val_main_c_26, val_main_v121, val_main_v122, val_main_c_27, val_main_v123, val_main_v124, val_main_v125, val_main_v126]
  rw [e, hρ, Select.wrap_word (by have := (ρ k).isLt; omega)]

theorem word_v133 (k : Fin 2500) :
    (val_main_v133 (F := Ideal) x4) (ix2 k (0 : Fin 1)) = BitVec.ofNat 32 (ρ k).val := by
  have e : (val_main_v133 (F := Ideal) x4) (ix2 k (0 : Fin 1)) = Scalar.select (IntOp.cmpi CmpIPredicate.slt (x4 (ix1 k)) 0#32) (IntOp.addi (x4 (ix1 k)) 5000#32) (x4 (ix1 k)) := by
    pointwise [val_main_c_28, val_main_v128, val_main_v129, val_main_c_29, val_main_v130, val_main_v131, val_main_v132, val_main_v133]
  rw [e, hρ, Select.wrap_word (by have := (ρ k).isLt; omega)]

theorem word_v140 (k : Fin 2500) :
    (val_main_v140 (F := Ideal) x4) (ix2 k (0 : Fin 1)) = BitVec.ofNat 32 (ρ k).val := by
  have e : (val_main_v140 (F := Ideal) x4) (ix2 k (0 : Fin 1)) = Scalar.select (IntOp.cmpi CmpIPredicate.slt (x4 (ix1 k)) 0#32) (IntOp.addi (x4 (ix1 k)) 5000#32) (x4 (ix1 k)) := by
    pointwise [val_main_c_30, val_main_v135, val_main_v136, val_main_c_31, val_main_v137, val_main_v138, val_main_v139, val_main_v140]
  rw [e, hρ, Select.wrap_word (by have := (ρ k).isLt; omega)]

theorem take_v104 (k : Fin 2500) :
    (val_main_v104 (F := Ideal) x0 x1 x3 x4 x5 x6 x7 x8 x9 x10 x11) (ix1 k) = (val_main_v97 (F := Ideal) x0 x1 x3 x5 x6 x7 x8 x9 x10 x11) (ix1 (ρ k)) := by
  exact Routing.gather_take1 _ rfl rfl rfl rfl _ _ k (ρ k) (word_v103 x4 ρ hρ k) (by norm_num)

theorem take_v141 (k : Fin 2500) :
    (val_main_v141 (F := Ideal) x2 x3 x4) (ix1 k) = (val_main_v70 (F := Ideal) x2 x3) (ix1 (ρ k)) := by
  exact Routing.gather_take1 _ rfl rfl rfl rfl _ _ k (ρ k) (word_v140 x4 ρ hρ k) (by norm_num)

theorem rows_v117 (k : Fin 2500) (q : Fin 32) :
    (val_main_v117 (F := Ideal) x0 x1 x3 x4 x5 x6 x7 x8 x9 x10 x11) (ix2 k q) = (val_main_v91 (F := Ideal) x0 x1 x3 x5 x6 x7 x8 x9 x10 x11) (ix2 (ρ k) q) := by
  exact Routing.gather_row _ rfl rfl rfl rfl rfl _ _ k q (ρ k) (word_v116 x4 ρ hρ k) (by norm_num)

theorem rows_v127 (k : Fin 2500) (q : Fin 5000) :
    (val_main_v127 (F := Ideal) x1 x3 x4) (ix2 k q) = (val_main_v63 (F := Ideal) x1 x3) (ix2 (ρ k) q) := by
  exact Routing.gather_row _ rfl rfl rfl rfl rfl _ _ k q (ρ k) (word_v126 x4 ρ hρ k) (by norm_num)

theorem cols_v134 (k : Fin 2500) (l : Fin 2500) :
    (val_main_v134 (F := Ideal) x1 x3 x4) (ix2 k l) = (val_main_v127 (F := Ideal) x1 x3 x4) (ix2 k (ρ l)) := by
  exact Select.gather_col gather_S2500x5000_S2500x1_S2500x2500_0_1_n_n_1_1_25001_wf _ _ k l (ρ l) (word_v133 x4 ρ hρ l) (by norm_num)

omit hρ

theorem gated2 (k : Fin 2500) (q : Fin 32) :
    ((val_main_v120 (F := Ideal) x0 x1 x3 x4 x5 x6 x7 x8 x9 x10 x11) (ix2 k q) : EReal) = ((val_main_v117 (F := Ideal) x0 x1 x3 x4 x5 x6 x7 x8 x9 x10 x11) (ix2 k q) : EReal) * gate ((val_main_v104 (F := Ideal) x0 x1 x3 x4 x5 x6 x7 x8 x9 x10 x11) (ix1 k)) := by
  have e : ((val_main_v120 (F := Ideal) x0 x1 x3 x4 x5 x6 x7 x8 x9 x10 x11) (ix2 k q) : EReal) = ((val_main_v117 (F := Ideal) x0 x1 x3 x4 x5 x6 x7 x8 x9 x10 x11) (ix2 k q) : EReal) * Ideal.div 1 (1 + Ideal.exp (-((val_main_v104 (F := Ideal) x0 x1 x3 x4 x5 x6 x7 x8 x9 x10 x11) (ix1 k) : EReal))) := by
    pointwise [val_main_v105, val_main_v106, val_main_cst_22, val_main_v107, val_main_v108, val_main_cst_23, val_main_v109, val_main_v110, val_main_v118, val_main_v119, val_main_v120]
  exact e

theorem inv3 (i : Fin 2500) :
    ((val_main_v148 (F := Ideal) x1 x3 x4) (ix1 i) : EReal) = dinv (∑ l : Fin 2500, ((val_main_v134 (F := Ideal) x1 x3 x4) (ix2 i l) : EReal)) := by
  have e : ((val_main_v148 (F := Ideal) x1 x3 x4) (ix1 i) : EReal) = if 0 < ∑ l : Fin 2500, ((val_main_v134 (F := Ideal) x1 x3 x4) (ix2 i l) : EReal) then Ideal.div 1 (Ideal.sqrt (∑ l : Fin 2500, ((val_main_v134 (F := Ideal) x1 x3 x4) (ix2 i l) : EReal))) else 0 := by
    pointwise [val_main_cst_32, val_main_v142, val_main_cst_33, val_main_v143, val_main_v144, val_main_v145, val_main_cst_34, val_main_v146, val_main_v147, val_main_cst_35, val_main_call4_v0, val_main_call4_v1, val_main_v148, id]
  exact e

theorem feat3 (i : Fin 2500) (h : Fin 32) :
    ((val_main_v162 (F := Ideal) x0 x1 x3 x4 x5 x6 x7 x8 x9 x10 x11 x12 x13 x14) (ix2 i h) : EReal) = conv (fun i j => ((val_main_v134 (F := Ideal) x1 x3 x4) (ix2 i j) : EReal)) (fun j h => ∑ q : Fin 32, ((val_main_v120 (F := Ideal) x0 x1 x3 x4 x5 x6 x7 x8 x9 x10 x11) (ix2 j q) : EReal) * x12 (ix2 q h)) (fun j h => ∑ q : Fin 32, ((val_main_v120 (F := Ideal) x0 x1 x3 x4 x5 x6 x7 x8 x9 x10 x11) (ix2 j q) : EReal) * x13 (ix2 q h)) (fun h => x14 (ix1 h)) i h := by
  have e : ((val_main_v162 (F := Ideal) x0 x1 x3 x4 x5 x6 x7 x8 x9 x10 x11 x12 x13 x14) (ix2 i h) : EReal) = max ((∑ j : Fin 2500, (((val_main_v134 (F := Ideal) x1 x3 x4) (ix2 i j) : EReal) * (val_main_v148 (F := Ideal) x1 x3 x4) (ix1 i)) * (val_main_v148 (F := Ideal) x1 x3 x4) (ix1 j) * ∑ q : Fin 32, ((val_main_v120 (F := Ideal) x0 x1 x3 x4 x5 x6 x7 x8 x9 x10 x11) (ix2 j q) : EReal) * x12 (ix2 q h)) + (∑ q : Fin 32, ((val_main_v120 (F := Ideal) x0 x1 x3 x4 x5 x6 x7 x8 x9 x10 x11) (ix2 i q) : EReal) * x13 (ix2 q h)) + x14 (ix1 h)) 0 := by
    pointwise [val_main_v149, val_main_v150, val_main_v151, val_main_v152, val_main_v153, val_main_v154, val_main_v155, val_main_v156, val_main_v157, val_main_v158, val_main_v159, val_main_v160, val_main_v161, val_main_call5_cst, val_main_call5_v0, val_main_v162]
  rw [e]
  simp only [inv3]
  rfl

include hσ hρ in
theorem segment (h2 : ∀ i, x2 i = 0#32) (k : S2500x1.Idx) : (val_main_v164 (F := Ideal) x2 x3 x4) k = 0#32 := by
  obtain ⟨l, z, rfl⟩ : ∃ (l : Fin 2500) (z : Fin 1), k = ix2 l z := ⟨k 0, k 1, eq_ix2 k⟩
  have e : (val_main_v164 (F := Ideal) x2 x3 x4) (ix2 l z) = (val_main_v141 (F := Ideal) x2 x3 x4) (ix1 l) := by
    pointwise [val_main_v164]
  rw [e, take_v141 x2 x3 x4 ρ hρ, take_v70 x2 x3 σ hσ, h2]

include hσ hρ in
theorem total (h2 : ∀ i, x2 i = 0#32) (h : Fin 32) :
    ((val_main_v165 (F := Ideal) x0 x1 x2 x3 x4 x5 x6 x7 x8 x9 x10 x11 x12 x13 x14) (ix2 (0 : Fin 1) h) : EReal) = ∑ l : Fin 2500, ((val_main_v162 (F := Ideal) x0 x1 x3 x4 x5 x6 x7 x8 x9 x10 x11 x12 x13 x14) (ix2 l h) : EReal) := by
  refine Select.add_all scatter_S1x32_S2500x1_S2500x32_1_0_0_1_wf _ _ _ (fun j => ?_) (segment x2 x3 x4 σ hσ ρ hρ h2) h
  obtain ⟨q, z, rfl⟩ : ∃ (q : Fin 1) (z : Fin 32), j = ix2 q z := ⟨j 0, j 1, eq_ix2 j⟩
  pointwise [val_main_v163, val_main_cst_36]

include hσ hρ in
theorem count (h2 : ∀ i, x2 i = 0#32) : ((val_main_v169 (F := Ideal) x2 x3 x4) (ix2 (0 : Fin 1) (0 : Fin 1)) : EReal) = 2500 := by
  have e := Select.add_all scatter_S1x1_S2500x1_S2500x1_1_0_0_1_wf (val_main_v167 (F := Ideal)) (val_main_v168 (F := Ideal) x2 x3 x4) (val_main_v166 (F := Ideal))
    (fun j => by
      obtain ⟨q, z, rfl⟩ : ∃ (q : Fin 1) (z : Fin 1), j = ix2 q z := ⟨j 0, j 1, eq_ix2 j⟩
      pointwise [val_main_v167, val_main_cst_38]) (segment x2 x3 x4 σ hσ ρ hρ h2) 0
  have one : ∀ k : Fin 2500, (val_main_v166 (F := Ideal) (ix2 k (0 : Fin 1)) : EReal) = 1 := fun k => by
    pointwise [val_main_v166, val_main_cst_37]
  refine e.trans ?_
  rw [Finset.sum_congr rfl fun k _ => one k]
  simp

include hσ hρ in
/-- The result: the mean of the last features over the kept nodes through the last dense layer. -/
theorem result (h2 : ∀ i, x2 i = 0#32) :
    ((val_main_v176 (F := Ideal) x0 x1 x2 x3 x4 x5 x6 x7 x8 x9 x10 x11 x12 x13 x14 x15 x16) (ix2 (0 : Fin 1) (0 : Fin 1)) : EReal)
      = (∑ h : Fin 32, Ideal.div (∑ l : Fin 2500, ((val_main_v162 (F := Ideal) x0 x1 x3 x4 x5 x6 x7 x8 x9 x10 x11 x12 x13 x14) (ix2 l h) : EReal)) 2500 * x15 (ix2 h (0 : Fin 1))) + x16 (ix1 (0 : Fin 1)) := by
  have e : ((val_main_v176 (F := Ideal) x0 x1 x2 x3 x4 x5 x6 x7 x8 x9 x10 x11 x12 x13 x14 x15 x16) (ix2 (0 : Fin 1) (0 : Fin 1)) : EReal)
      = (∑ h : Fin 32, Ideal.div ((val_main_v165 (F := Ideal) x0 x1 x2 x3 x4 x5 x6 x7 x8 x9 x10 x11 x12 x13 x14) (ix2 (0 : Fin 1) h) : EReal) (max ((val_main_v169 (F := Ideal) x2 x3 x4) (ix2 (0 : Fin 1) (0 : Fin 1)) : EReal) 1) * x15 (ix2 h (0 : Fin 1))) + x16 (ix1 (0 : Fin 1)) := by
    pointwise [val_main_cst_39, val_main_v170, val_main_v171, val_main_v172, val_main_v173, val_main_v174, val_main_v175, val_main_v176]
  rw [e, count x2 x3 x4 σ hσ ρ hρ h2, max_eq_left (by norm_num : (1 : EReal) ≤ 2500)]
  simp only [total x0 x1 x2 x3 x4 x5 x6 x7 x8 x9 x10 x11 x12 x13 x14 σ hσ ρ hρ h2]

end Cert.ReferenceIdeal.Net

end
-- ==== Proof.KernelIdeal.Host.lean ====
/-
  The host stretches of the kernel's program, read at an index: the score weights, the bias rows, the marks of the chosen nodes, and the last dense layer.
-/
module

public import proofs.«01_k».proof.Proof.KernelIdeal.Run
public import proofs.«01_k».proof.Proof.Select
public import Idealize.ShloMosaic.Lib.StableHlo.RunRead

@[expose] public section

set_option maxRecDepth 16384

noncomputable section

namespace Cert.KernelIdeal.Calls

open Cert.KernelIdeal Cert.KernelIdeal.Gen
open Idealize.ShloMosaic Idealize.ShloMosaic.TcCoe Idealize.ShloMosaic.Pointwise

/-- The column of the score weights: each entry of `p` over the norm of `p`. -/
theorem weights_read (p : Vec Ideal S32 .f32) (j : S32x1.Idx) :
    (broadcastInDim S32x1 ![0] bcast_S32_S32x1_0 (Host.divf p (broadcastInDim S32 ![] bcast_S_S32
      (Host.sqrt (Host.reduceAdd (mulf p p) (constant (F := Ideal) S_ .f32 0x00000000#32) reducesTo_S32_S_d0 h_S_)))) : Vec Ideal S32x1 .f32) j
      = Ideal.div (p (ix1 (j 0))) (Ideal.sqrt (∑ q : Fin 32, p (ix1 q) * p (ix1 q))) := by
  obtain ⟨q, z, rfl⟩ : ∃ (q : Fin 32) (z : Fin 1), j = ix2 q z := ⟨j 0, j 1, eq_ix2 j⟩
  pointwise

theorem v5_of (V : Valuation τ sig (Elt Ideal)) (p : Vec Ideal S32 .f32) (hp : V (Proc.devRef .tc main_arg8) = p) :
    StableHlo.after hostOps0 V (Proc.devRef .tc main_v5)
      = (fun j => Ideal.div (p (ix1 (j 0))) (Ideal.sqrt (∑ q : Fin 32, p (ix1 q) * p (ix1 q))) : Vec Ideal S32x1 .f32) := by
  subst hp
  refine Eq.trans ?_ (funext (weights_read _))
  after_results

theorem v7_of (V : Valuation τ sig (Elt Ideal)) (b : Vec Ideal S32 .f32) (hb : V (Proc.devRef .tc main_arg7) = b) :
    StableHlo.after hostOps1 V (Proc.devRef .tc main_v7) = (fun j => b (ix1 (j 1)) : Vec Ideal S1x32 .f32) := by
  subst hb
  refine Eq.trans (b := broadcastInDim S1x32 ![1] bcast_S32_S1x32_1 (V (Proc.devRef .tc main_arg7) : Vec Ideal S32 .f32)) ?_ (funext fun j => ?_)
  · after_results
  · obtain ⟨q, z, rfl⟩ : ∃ (q : Fin 1) (z : Fin 32), j = ix2 q z := ⟨j 0, j 1, eq_ix2 j⟩
    pointwise

/-- The words of the first selection as the scatter takes them. -/
def words1 (idx : IVec S5000 32) : IVec S5000x1 32 :=
  broadcastInDim S5000x1 ![0] bcast_S5000_S5000x1_0 (select (cmpi .slt idx (broadcastInDim S5000 ![] bcast_S_S5000 (constantI S_ 32 0#32)))
    (addi idx (broadcastInDim S5000 ![] bcast_S_S5000 (constantI S_ 32 10000#32))) idx)

theorem words1_read (idx : IVec S5000 32) (σ : Fin 5000 → Fin 10000) (hσ : ∀ k, idx (ix1 k) = BitVec.ofNat 32 (σ k).val) (k : Fin 5000) :
    words1 idx (ix2 k (0 : Fin 1)) = BitVec.ofNat 32 (σ k).val := by
  have e : words1 idx (ix2 k (0 : Fin 1)) = Scalar.select (IntOp.cmpi CmpIPredicate.slt (idx (ix1 k)) 0#32) (IntOp.addi (idx (ix1 k)) 10000#32) (idx (ix1 k)) := by
    pointwise [words1]
  rw [e, hσ, Select.wrap_word (σ k).isLt]

def marks1 (idx : IVec S5000 32) : Vec Ideal S10000 .f32 :=
  Host.scatter scatter_S10000_S5000x1_S5000_n_0_0_1 (fun _ b => b) (broadcastInDim S10000 ![] bcast_S_S10000 (constant (F := Ideal) S_ .f32 0x00000000#32))
    (words1 idx) (broadcastInDim S5000 ![] bcast_S_S5000 (constant (F := Ideal) S_ .f32 0x3F800000#32))

theorem marks1_picks (idx : IVec S5000 32) (σ : Fin 5000 → Fin 10000) (inj : Function.Injective σ)
    (hσ : ∀ k, idx (ix1 k) = BitVec.ofNat 32 (σ k).val) : Math.Picks σ (fun i => marks1 idx (ix1 i)) :=
  Select.picks scatter_S10000_S5000x1_S5000_n_0_0_1_wf _ _ _
    (fun j => by obtain ⟨q, rfl⟩ : ∃ q : Fin 10000, j = ix1 q := ⟨j 0, eq_ix1 j⟩; pointwise)
    (fun j => by obtain ⟨q, rfl⟩ : ∃ q : Fin 5000, j = ix1 q := ⟨j 0, eq_ix1 j⟩; pointwise) σ inj (words1_read idx σ hσ) (by norm_num)

theorem v18_of (V : Valuation τ sig (Elt Ideal)) (idx : IVec S5000 32) (h : V (Proc.devRef .tc main_arg3) = idx) :
    StableHlo.after hostOps3 V (Proc.devRef .tc main_v18) = marks1 idx := by
  subst h
  unfold marks1 words1
  after_results

/-- A vector of marks as a column of the short type. -/
theorem marks_read (mk : Vec Ideal S10000 .f32) (j : S10000x1.Idx) :
    (truncf (F := Ideal) .bf16 (broadcastInDim S10000x1 ![0] bcast_S10000_S10000x1_0 mk : FVec Ideal S10000x1 .f32) bitsLt_bf16_f32 j : EReal) = mk (ix1 (j 0)) := by
  obtain ⟨q, z, rfl⟩ : ∃ (q : Fin 10000) (z : Fin 1), j = ix2 q z := ⟨j 0, j 1, eq_ix2 j⟩
  pointwise

/-- A vector of marks as a column. -/
theorem column_read (mk : Vec Ideal S10000 .f32) (j : S10000x1.Idx) :
    (broadcastInDim S10000x1 ![0] bcast_S10000_S10000x1_0 mk : Vec Ideal S10000x1 .f32) j = mk (ix1 (j 0)) := by
  obtain ⟨q, z, rfl⟩ : ∃ (q : Fin 10000) (z : Fin 1), j = ix2 q z := ⟨j 0, j 1, eq_ix2 j⟩
  pointwise

/-- A bias as a row. -/
theorem row_read (b : Vec Ideal S32 .f32) (j : S1x32.Idx) :
    (broadcastInDim S1x32 ![1] bcast_S32_S1x32_1 b : Vec Ideal S1x32 .f32) j = b (ix1 (j 1)) := by
  obtain ⟨q, z, rfl⟩ : ∃ (q : Fin 1) (z : Fin 32), j = ix2 q z := ⟨j 0, j 1, eq_ix2 j⟩
  pointwise

theorem v20_of (V : Valuation τ sig (Elt Ideal)) (idx : IVec S5000 32) (h : V (Proc.devRef .tc main_arg3) = idx) :
    StableHlo.after hostOps3 V (Proc.devRef .tc main_v20) = (fun j => marks1 idx (ix1 (j 0)) : Vec Ideal S10000x1 .bf16) := by
  subst h
  refine Eq.trans ?_ (funext (marks_read _))
  unfold marks1 words1
  after_results

theorem v22_of (V : Valuation τ sig (Elt Ideal)) (mk : Vec Ideal S10000 .f32) (h : V (Proc.devRef .tc main_v18) = mk) :
    StableHlo.after hostOps4 V (Proc.devRef .tc main_v22) = (fun j => mk (ix1 (j 0)) : Vec Ideal S10000x1 .f32) := by
  subst h
  refine Eq.trans ?_ (funext (column_read _))
  after_results

theorem v23_of (V : Valuation τ sig (Elt Ideal)) (b : Vec Ideal S32 .f32) (hb : V (Proc.devRef .tc main_arg11) = b) :
    StableHlo.after hostOps4 V (Proc.devRef .tc main_v23) = (fun j => b (ix1 (j 1)) : Vec Ideal S1x32 .f32) := by
  subst hb
  refine Eq.trans ?_ (funext (row_read _))
  after_results

theorem v44_of (V : Valuation τ sig (Elt Ideal)) (mk : Vec Ideal S10000 .f32) (h : V (Proc.devRef .tc main_v40) = mk) :
    StableHlo.after hostOps6 V (Proc.devRef .tc main_v44) = (fun j => mk (ix1 (j 0)) : Vec Ideal S10000x1 .f32) := by
  subst h
  refine Eq.trans ?_ (funext (column_read _))
  after_results

theorem v45_of (V : Valuation τ sig (Elt Ideal)) (b : Vec Ideal S32 .f32) (hb : V (Proc.devRef .tc main_arg14) = b) :
    StableHlo.after hostOps6 V (Proc.devRef .tc main_v45) = (fun j => b (ix1 (j 1)) : Vec Ideal S1x32 .f32) := by
  subst hb
  refine Eq.trans ?_ (funext (row_read _))
  after_results

/-- The words of the second selection, places among the first selection's. -/
def words2 (idx : IVec S2500 32) : IVec S2500x1 32 :=
  broadcastInDim S2500x1 ![0] bcast_S2500_S2500x1_0 (select (cmpi .slt idx (broadcastInDim S2500 ![] bcast_S_S2500 (constantI S_ 32 0#32)))
    (addi idx (broadcastInDim S2500 ![] bcast_S_S2500 (constantI S_ 32 5000#32))) idx)

theorem words2_read (idx : IVec S2500 32) (ρ : Fin 2500 → Fin 5000) (hρ : ∀ k, idx (ix1 k) = BitVec.ofNat 32 (ρ k).val) (k : Fin 2500) :
    words2 idx (ix2 k (0 : Fin 1)) = BitVec.ofNat 32 (ρ k).val := by
  have e : words2 idx (ix2 k (0 : Fin 1)) = Scalar.select (IntOp.cmpi CmpIPredicate.slt (idx (ix1 k)) 0#32) (IntOp.addi (idx (ix1 k)) 5000#32) (idx (ix1 k)) := by
    pointwise [words2]
  rw [e, hρ, Select.wrap_word (by have := (ρ k).isLt; omega)]

/-- The words of the nodes kept twice. -/
def words12 (idx : IVec S2500 32) : IVec S2500x1 32 :=
  broadcastInDim S2500x1 ![0] bcast_S2500_S2500x1_0 (select (cmpi .slt idx (broadcastInDim S2500 ![] bcast_S_S2500 (constantI S_ 32 0#32)))
    (addi idx (broadcastInDim S2500 ![] bcast_S_S2500 (constantI S_ 32 10000#32))) idx)

theorem words12_read (idx : IVec S2500 32) (ρ : Fin 2500 → Fin 10000) (hρ : ∀ k, idx (ix1 k) = BitVec.ofNat 32 (ρ k).val) (k : Fin 2500) :
    words12 idx (ix2 k (0 : Fin 1)) = BitVec.ofNat 32 (ρ k).val := by
  have e : words12 idx (ix2 k (0 : Fin 1)) = Scalar.select (IntOp.cmpi CmpIPredicate.slt (idx (ix1 k)) 0#32) (IntOp.addi (idx (ix1 k)) 10000#32) (idx (ix1 k)) := by
    pointwise [words12]
  rw [e, hρ, Select.wrap_word (ρ k).isLt]

def marks2 (idx1 : IVec S5000 32) (idx2 : IVec S2500 32) : Vec Ideal S10000 .f32 :=
  Host.scatter scatter_S10000_S2500x1_S2500_n_0_0_1 (fun _ b => b) (broadcastInDim S10000 ![] bcast_S_S10000 (constant (F := Ideal) S_ .f32 0x00000000#32))
    (words12 (Host.gather gather_S5000_S2500x1_S2500_n_0_n_n_0_1_1 idx1 (words2 idx2)))
    (broadcastInDim S2500 ![] bcast_S_S2500 (constant (F := Ideal) S_ .f32 0x3F800000#32))

theorem marks2_picks (idx1 : IVec S5000 32) (idx2 : IVec S2500 32) (σ : Fin 5000 → Fin 10000) (injσ : Function.Injective σ)
    (hσ : ∀ k, idx1 (ix1 k) = BitVec.ofNat 32 (σ k).val) (ρ : Fin 2500 → Fin 5000) (injρ : Function.Injective ρ)
    (hρ : ∀ k, idx2 (ix1 k) = BitVec.ofNat 32 (ρ k).val) : Math.Picks (fun l => σ (ρ l)) (fun i => marks2 idx1 idx2 (ix1 i)) :=
  Select.picks scatter_S10000_S2500x1_S2500_n_0_0_1_wf _ _ _
    (fun j => by obtain ⟨q, rfl⟩ : ∃ q : Fin 10000, j = ix1 q := ⟨j 0, eq_ix1 j⟩; pointwise)
    (fun j => by obtain ⟨q, rfl⟩ : ∃ q : Fin 2500, j = ix1 q := ⟨j 0, eq_ix1 j⟩; pointwise) _ (injσ.comp injρ)
    (words12_read _ _ fun k => (Routing.gather_take1 gather_S5000_S2500x1_S2500_n_0_n_n_0_1_1 rfl rfl rfl rfl idx1 (words2 idx2) k (ρ k)
      (words2_read idx2 ρ hρ k) (by norm_num)).trans (hσ (ρ k))) (by norm_num)

theorem v40_of (V : Valuation τ sig (Elt Ideal)) (idx1 : IVec S5000 32) (h1 : V (Proc.devRef .tc main_arg3) = idx1)
    (idx2 : IVec S2500 32) (h2 : V (Proc.devRef .tc main_arg4) = idx2) :
    StableHlo.after hostOps5 V (Proc.devRef .tc main_v40) = marks2 idx1 idx2 := by
  subst h1 h2
  unfold marks2 words12 words2
  after_results

theorem v42_of (V : Valuation τ sig (Elt Ideal)) (idx1 : IVec S5000 32) (h1 : V (Proc.devRef .tc main_arg3) = idx1)
    (idx2 : IVec S2500 32) (h2 : V (Proc.devRef .tc main_arg4) = idx2) :
    StableHlo.after hostOps5 V (Proc.devRef .tc main_v42) = (fun j => marks2 idx1 idx2 (ix1 (j 0)) : Vec Ideal S10000x1 .bf16) := by
  subst h1 h2
  refine Eq.trans ?_ (funext (marks_read _))
  unfold marks2 words12 words2
  after_results

/-- The last stretch: the mean of the blocks' sums through the dense layer. -/
def dense (s : FVec Ideal S25x1x32 .f32) (w : FVec Ideal S32x1 .f32) (b : FVec Ideal S1 .f32) : FVec Ideal S1x1 .f32 :=
  addf (Host.dotGeneral dot_S1x32_S32x1_S1x1_1_0_0_1_n_n none (Host.divf (Host.reduceAdd s (constant (F := Ideal) S_ .f32 0x00000000#32) reducesTo_S25x1x32_S1x32_d0 h_S_)
    (broadcastInDim S1x32 ![] bcast_S_S1x32 (constant (F := Ideal) S_ .f32 0x451C4000#32))) w) (broadcastInDim S1x1 ![1] bcast_S1_S1x1_1 b)

/-- The float word of the number of nodes kept. -/
theorem count_word : Ideal.ofBits FTy.f32 0x451C4000#32 = 2500 := by
  rw [show (2500 : EReal) = ((2500 : ℝ) : EReal) by norm_cast]
  simp [Ideal.ofBits, Ideal.ieee, -EReal.coe_mul]; norm_num

theorem dense_read (s : FVec Ideal S25x1x32 .f32) (w : FVec Ideal S32x1 .f32) (b : FVec Ideal S1 .f32) (i z : Fin 1) :
    (dense s w b (ix2 i z) : EReal)
      = (∑ h : Fin 32, Ideal.div (∑ n : Fin 25, (s (ix3 n (0 : Fin 1) h) : EReal)) 2500 * w (ix2 h (0 : Fin 1))) + b (ix1 (0 : Fin 1)) := by
  obtain rfl : i = 0 := Subsingleton.elim _ _
  obtain rfl : z = 0 := Subsingleton.elim _ _
  have e : (dense s w b (ix2 (0 : Fin 1) (0 : Fin 1)) : EReal)
      = (∑ h : Fin 32, Ideal.div (∑ n : Fin 25, (s (ix3 n (0 : Fin 1) h) : EReal)) (Ideal.ofBits FTy.f32 0x451C4000#32) * w (ix2 h (0 : Fin 1))) + b (ix1 (0 : Fin 1)) := by
    pointwise [dense]
  rw [e, count_word]

theorem v52_of (V : Valuation τ sig (Elt Ideal)) (s : FVec Ideal S25x1x32 .f32) (hs : V (Proc.devRef .tc main_v46_2) = s)
    (w : FVec Ideal S32x1 .f32) (hw : V (Proc.devRef .tc main_arg15) = w) (b : FVec Ideal S1 .f32) (hb : V (Proc.devRef .tc main_arg16) = b) :
    StableHlo.after hostOps7 V (Proc.devRef .tc main_v52) = dense s w b := by
  subst hs hw hb
  unfold dense
  after_results

end Cert.KernelIdeal.Calls

end
-- ==== Proof.KernelIdeal.Payloads.lean ====
/- What the bodies compute, read at an index over the extended reals. -/
module

public import proofs.«01_k».proof.Proof.Gen.KernelIdeal.Skeleton
public import proofs.«01_k».proof.Proof.Math
public import Idealize.ShloMosaic.Lib.Pointwise

@[expose] public section

set_option maxRecDepth 16384

noncomputable section

namespace Cert.KernelIdeal.Payloads

open Cert.KernelIdeal Cert.KernelIdeal.Gen
open Idealize.ShloMosaic
open Cert.Math

theorem cast_apply (x0 : Vec Ideal S400x10000 .f32) (r : Fin 400) (l : Fin 10000) :
    k0_pay1 (F := Ideal) x0 (ix2 r l) = x0 (ix2 r l) := by
  pointwise [k0_pay1]

theorem degree_apply (x0 : Vec Ideal S400x10000 .f32) (r : Fin 400) (z : Fin 1) :
    k0_pay2 (F := Ideal) x0 (ix2 r z) = dinv (∑ l, x0 (ix2 r l)) := by
  rw [← rsqrt_eq_dinv]
  pointwise [k0_pay2]

theorem masked_degree_apply (x0 : Vec Ideal S400x10000 .bf16) (x1 : Vec Ideal S10000x1 .bf16) (r : Fin 400) (z : Fin 1) :
    k3_pay1 (F := Ideal) x0 x1 (ix2 r z) = dinv (∑ l, x0 (ix2 r l) * x1 (ix2 l 0)) := by
  rw [← rsqrt_eq_dinv]
  obtain rfl : z = 0 := Subsingleton.elim _ _
  pointwise [k3_pay1]

theorem proj0_apply (x0 : Vec Ideal S10000x128 .f32) (x1 : Vec Ideal S128x32 .f32) (i : Fin 10000) (h : Fin 32) :
    k1_pay1 (F := Ideal) x0 x1 (ix2 i h) = ∑ q : Fin 128, x0 (ix2 i q) * x1 (ix2 q h) := by
  pointwise [k1_pay1]

theorem proj1_apply (x0 : Vec Ideal S10000x128 .f32) (x2 : Vec Ideal S128x32 .f32) (x3 : Vec Ideal S1x32 .f32) (i : Fin 10000) (h : Fin 32) :
    k1_pay2 (F := Ideal) x0 x2 x3 (ix2 i h) = (∑ q : Fin 128, x0 (ix2 i q) * x2 (ix2 q h)) + x3 (ix2 0 h) := by
  pointwise [k1_pay2]

theorem scaled_apply (x1 : Vec Ideal S10000x1 .f32) (x3 : Vec Ideal S10000x32 .f32) (i : Fin 10000) (h : Fin 32) :
    k2_pay1 (F := Ideal) x1 x3 (ix2 i h) = x1 (ix2 i 0) * x3 (ix2 i h) := by
  pointwise [k2_pay1]

theorem conv1_apply (x0 : Vec Ideal S400x10000 .bf16) (s0 : Vec Ideal S10000x32 .bf16) (x2 : Vec Ideal S400x1 .f32) (x4 : Vec Ideal S400x32 .f32)
    (r : Fin 400) (h : Fin 32) :
    k2_pay2 (F := Ideal) x0 s0 x2 x4 (ix2 r h) = max (x2 (ix2 r 0) * (∑ l : Fin 10000, x0 (ix2 r l) * s0 (ix2 l h)) + x4 (ix2 r h)) 0 := by
  pointwise [k2_pay2]

theorem score1_apply (x0 : Vec Ideal S400x10000 .bf16) (s0 : Vec Ideal S10000x32 .bf16) (x2 : Vec Ideal S400x1 .f32) (x4 : Vec Ideal S400x32 .f32)
    (x5 : Vec Ideal S32x1 .f32) (r : Fin 400) (z : Fin 1) :
    k2_pay3 (F := Ideal) x0 s0 x2 x4 x5 (ix2 r z) = ∑ q : Fin 32, k2_pay2 (F := Ideal) x0 s0 x2 x4 (ix2 r q) * x5 (ix2 q 0) := by
  obtain rfl : z = 0 := Subsingleton.elim _ _
  pointwise [k2_pay3]

theorem gated_apply (y m : Vec Ideal S10000x1 .f32) (x : Vec Ideal S10000x32 .f32) (i : Fin 10000) (q : Fin 32) :
    k4_pay1 (F := Ideal) y m x (ix2 i q) = x (ix2 i q) * Ideal.div (m (ix2 i 0)) (1 + Ideal.exp (-(y (ix2 i 0)))) := by
  pointwise [k4_pay1]
  rw [zero_sub]

theorem operand_apply (y m : Vec Ideal S10000x1 .f32) (x : Vec Ideal S10000x32 .f32) (w : Vec Ideal S32x32 .f32) (d : Vec Ideal S10000x1 .f32)
    (i : Fin 10000) (h : Fin 32) :
    k4_pay4 (F := Ideal) y m x w d (ix2 i h)
      = d (ix2 i 0) * ∑ q : Fin 32, (x (ix2 i q) * Ideal.div (m (ix2 i 0)) (1 + Ideal.exp (-(y (ix2 i 0))))) * w (ix2 q h) := by
  pointwise [k4_pay4, k4_pay3, k4_pay2]
  simp only [gated_apply]

theorem addend_apply (y m : Vec Ideal S10000x1 .f32) (x : Vec Ideal S10000x32 .f32) (w : Vec Ideal S32x32 .f32) (b : Vec Ideal S1x32 .f32)
    (i : Fin 10000) (h : Fin 32) :
    k4_pay7 (k4_pay6 (F := Ideal) y m x w b) (ix2 i h)
      = (∑ q : Fin 32, (x (ix2 i q) * Ideal.div (m (ix2 i 0)) (1 + Ideal.exp (-(y (ix2 i 0))))) * w (ix2 q h)) + b (ix2 0 h) := by
  pointwise [k4_pay7, k4_pay6]
  simp only [gated_apply]

theorem conv2_apply (x0 : Vec Ideal S400x10000 .bf16) (s0 : Vec Ideal S10000x32 .bf16) (x2 : Vec Ideal S400x1 .f32) (s2 : Vec Ideal S400x32 .f32)
    (x5 : Vec Ideal S400x1 .f32) (r : Fin 400) (h : Fin 32) :
    k4_pay8 (F := Ideal) x0 s0 x2 s2 x5 (ix2 r h)
      = max (x2 (ix2 r 0) * (∑ l : Fin 10000, x0 (ix2 r l) * s0 (ix2 l h)) + s2 (ix2 r h)) 0 * x5 (ix2 r 0) := by
  pointwise [k4_pay8]

theorem score2_apply (x0 : Vec Ideal S400x10000 .bf16) (s0 : Vec Ideal S10000x32 .bf16) (x2 : Vec Ideal S400x1 .f32) (s2 : Vec Ideal S400x32 .f32)
    (x5 : Vec Ideal S400x1 .f32) (x10 : Vec Ideal S32x1 .f32) (r : Fin 400) (z : Fin 1) :
    k4_pay9 (F := Ideal) x0 s0 x2 s2 x5 x10 (ix2 r z) = ∑ q : Fin 32, k4_pay8 (F := Ideal) x0 s0 x2 s2 x5 (ix2 r q) * x10 (ix2 q 0) := by
  obtain rfl : z = 0 := Subsingleton.elim _ _
  pointwise [k4_pay9]

theorem gated3_apply (y m : Vec Ideal S10000x1 .f32) (x : Vec Ideal S10000x32 .f32) (i : Fin 10000) (q : Fin 32) :
    k6_pay2 (F := Ideal) y m x (ix2 i q) = x (ix2 i q) * Ideal.div (m (ix2 i 0)) (1 + Ideal.exp (-(y (ix2 i 0)))) := by
  pointwise [k6_pay2]
  rw [zero_sub]

theorem operand3_apply (y m : Vec Ideal S10000x1 .f32) (x : Vec Ideal S10000x32 .f32) (w : Vec Ideal S32x32 .f32) (d : Vec Ideal S10000x1 .f32)
    (i : Fin 10000) (h : Fin 32) :
    k6_pay5 (F := Ideal) y m x w d (ix2 i h)
      = d (ix2 i 0) * ∑ q : Fin 32, (x (ix2 i q) * Ideal.div (m (ix2 i 0)) (1 + Ideal.exp (-(y (ix2 i 0))))) * w (ix2 q h) := by
  pointwise [k6_pay5, k6_pay4, k6_pay3]
  simp only [gated3_apply]

/-- The low part of the operand: its difference with itself. -/
theorem residual_apply (y m : Vec Ideal S10000x1 .f32) (x : Vec Ideal S10000x32 .f32) (w : Vec Ideal S32x32 .f32) (d : Vec Ideal S10000x1 .f32)
    (i : Fin 10000) (h : Fin 32) :
    k6_pay6 (F := Ideal) y m x w d (ix2 i h) = k6_pay5 (F := Ideal) y m x w d (ix2 i h) - k6_pay5 (F := Ideal) y m x w d (ix2 i h) := by
  pointwise [k6_pay6, k6_pay5, k6_pay4]

theorem addend3_apply (y m : Vec Ideal S10000x1 .f32) (x : Vec Ideal S10000x32 .f32) (w : Vec Ideal S32x32 .f32) (b : Vec Ideal S1x32 .f32)
    (i : Fin 10000) (h : Fin 32) :
    k6_pay8 (k6_pay7 (F := Ideal) y m x w b) (ix2 i h)
      = (∑ q : Fin 32, (x (ix2 i q) * Ideal.div (m (ix2 i 0)) (1 + Ideal.exp (-(y (ix2 i 0))))) * w (ix2 q h)) + b (ix2 0 h) := by
  pointwise [k6_pay8, k6_pay7]
  simp only [gated3_apply]

theorem conv3_apply (x0 : Vec Ideal S400x10000 .bf16) (s0 : Vec Ideal S10000x32 .bf16) (x0' : Vec Ideal S400x10000 .bf16) (s1 : Vec Ideal S10000x32 .bf16)
    (x2 : Vec Ideal S400x1 .f32) (s2 : Vec Ideal S400x32 .f32) (x5 : Vec Ideal S400x1 .f32) (r : Fin 400) (h : Fin 32) :
    k6_pay9 (F := Ideal) x0 s0 x0' s1 x2 s2 x5 (ix2 r h)
      = max (x2 (ix2 r 0) * ((∑ l : Fin 10000, x0 (ix2 r l) * s0 (ix2 l h)) + ∑ l : Fin 10000, x0' (ix2 r l) * s1 (ix2 l h)) + s2 (ix2 r h)) 0 * x5 (ix2 r 0) := by
  pointwise [k6_pay9]

theorem colsum_apply (f : Vec Ideal S400x32 .f32) (z z' : Fin 1) (h : Fin 32) :
    k6_pay1 (F := Ideal) f (ix3 z z' h) = ∑ r : Fin 400, f (ix2 r h) := by
  pointwise [k6_pay1]

end Cert.KernelIdeal.Payloads

end
-- ==== Proof.KernelIdeal.Blocks.lean ====
/- Rows of a block among the rows of its array, and the sum over all rows as a sum over blocks. -/
module

public import proofs.«01_k».proof.Proof.Gen.KernelIdeal.Launch
public import proofs.«01_k».proof.Proof.Gen.KernelIdeal.Points
public import proofs.«01_k».proof.Proof.Math
public import Idealize.ShloMosaic.Lib.Pointwise
public import Idealize.ShloMosaic.Lib.Pipeline.Value

@[expose] public section

set_option maxRecDepth 16384

noncomputable section

namespace Cert.KernelIdeal.Calls

open Cert.KernelIdeal Cert.KernelIdeal.Gen
open Idealize.ShloMosaic

/-- Row `r` of block `n`, as a row of the array. -/
def row (n : Nat) (hn : n < 25) (r : Fin 400) : Fin 10000 := ⟨n * 400 + r.val, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The sum over blocks of the sums over their rows is the sum over all rows. -/
theorem sum_rows (f : Fin 10000 → EReal) : ∑ b : Fin 25, ∑ r : Fin 400, f (row b.val b.isLt r) = ∑ i, f i := by
  rw [← Fintype.sum_prod_type' (f := fun (b : Fin 25) (r : Fin 400) => f (row b.val b.isLt r))]
  refine Fintype.sum_equiv (finProdFinEquiv (m := 25) (n := 400)) _ _ fun x => congrArg f (Fin.ext ?_)
  show x.1.val * 400 + x.2.val = x.2.val + 400 * x.1.val
  omega

end Cert.KernelIdeal.Calls

end
-- ==== Proof.KernelIdeal.CastValue.lean ====
/- What the first call leaves: the adjacency as it is, and the degree factors. -/
module

public import proofs.«01_k».proof.Proof.KernelIdeal.Cast
public import proofs.«01_k».proof.Proof.KernelIdeal.Payloads
public import proofs.«01_k».proof.Proof.KernelIdeal.Blocks

@[expose] public section

set_option maxRecDepth 16384

noncomputable section

namespace Cert.KernelIdeal.Calls

open Cert.KernelIdeal Cert.KernelIdeal.Gen Cert.KernelIdeal.Payloads
open Idealize.ShloMosaic Idealize.ShloMosaic.TcCoe
open Idealize.ShloMosaic.Pipeline (Dat Cfg Window)
open Cert.Math

variable (V : (c : Dev nD) → (b : Ref sig .tc) → Buf (Elt Ideal) ((c : Thread nD τ).loc b))

theorem lt0 (t : Fin cfg0.N) : t.val < 25 := t.isLt
theorem at0_0 : ∀ t : Fin cfg0.N, win0_0.index t 0 = t.val ∧ win0_0.index t 1 = 0 := by decide +kernel
theorem blk0_0_apply (c : Dev nD) (t : Fin cfg0.N) (A : Vec Ideal S10000x10000 .f32) (hA : V c main_arg1 = A) (r : Fin 400) (l : Fin 10000) :
    blk0 V c 0 t (ix2 r l) = A (ix2 (row t.val (lt0 t) r) l) := by
  subst hA
  refine congrArg (V c main_arg1) (funext fun a => Fin.ext ?_)
  match a with
  | ⟨0, _⟩ => exact (win0_0.rect_emb_val t (ix2 r l) 0).trans (by rw [(at0_0 t).1]; rfl)
  | ⟨1, _⟩ => exact win0_0.rect_emb_val_of_index_zero t 1 (at0_0 t).2 (ix2 r l)
theorem at0_1 : ∀ t : Fin cfg0.N, win0_1.index t 0 = t.val ∧ win0_1.index t 1 = 0 := by decide +kernel
theorem emb0_1 (t : Fin cfg0.N) (r : Fin 400) (z : Fin 10000) :
    (win0_1.rect t).emb (ix2 r z) = (ix2 (row t.val (lt0 t) r) z : S10000x10000.Idx) := by
  refine funext fun a => Fin.ext ?_
  match a with
  | ⟨0, _⟩ => exact (win0_1.rect_emb_val t (ix2 r z) 0).trans (by rw [(at0_1 t).1]; rfl)
  | ⟨1, _⟩ => exact win0_1.rect_emb_val_of_index_zero t 1 (at0_1 t).2 (ix2 r z)
/-- The blocks written fill the array. -/
theorem cover0_1 (i : S10000x10000.Idx) : ∃ t : Fin cfg0.N, (cfg0.win 1).flush t = true ∧ i ∈ ((cfg0.win 1).blk t).view.set := by
  have h0 : (i 0 : Nat) < 10000 := (i 0).isLt
  obtain ⟨t, ht⟩ : ∃ t : Fin cfg0.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win0_1.rect t).emb (ix2 r (i 1)) = i := (emb0_1 t r (i 1)).trans (funext fun a => Fin.ext (by
    match a with
    | ⟨0, _⟩ => show t.val * 400 + r.val = (i 0 : Nat); omega
    | ⟨1, _⟩ => rfl))
  exact ⟨t, flush0_1 t, Eq.subst (motive := fun j : S10000x10000.Idx => j ∈ ((cfg0.win 1).blk t).view.set) e
    (View.emb_mem_set ((cfg0.win 1).blk t).view (ix2 r (i 1)))⟩
theorem at0_2 : ∀ t : Fin cfg0.N, win0_2.index t 0 = t.val ∧ win0_2.index t 1 = 0 := by decide +kernel
theorem emb0_2 (t : Fin cfg0.N) (r : Fin 400) (z : Fin 1) :
    (win0_2.rect t).emb (ix2 r z) = (ix2 (row t.val (lt0 t) r) z : S10000x1.Idx) := by
  refine funext fun a => Fin.ext ?_
  match a with
  | ⟨0, _⟩ => exact (win0_2.rect_emb_val t (ix2 r z) 0).trans (by rw [(at0_2 t).1]; rfl)
  | ⟨1, _⟩ => exact win0_2.rect_emb_val_of_index_zero t 1 (at0_2 t).2 (ix2 r z)
/-- The blocks written fill the array. -/
theorem cover0_2 (i : S10000x1.Idx) : ∃ t : Fin cfg0.N, (cfg0.win 2).flush t = true ∧ i ∈ ((cfg0.win 2).blk t).view.set := by
  have h0 : (i 0 : Nat) < 10000 := (i 0).isLt
  obtain ⟨t, ht⟩ : ∃ t : Fin cfg0.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win0_2.rect t).emb (ix2 r (i 1)) = i := (emb0_2 t r (i 1)).trans (funext fun a => Fin.ext (by
    match a with
    | ⟨0, _⟩ => show t.val * 400 + r.val = (i 0 : Nat); omega
    | ⟨1, _⟩ => rfl))
  exact ⟨t, flush0_2 t, Eq.subst (motive := fun j : S10000x1.Idx => j ∈ ((cfg0.win 2).blk t).view.set) e
    (View.emb_mem_set ((cfg0.win 2).blk t).view (ix2 r (i 1)))⟩
/-- The rounded adjacency is the adjacency. -/
theorem final0_1 (c : Dev nD) (a : Vec Ideal S10000x10000 .f32) (ha : V c main_arg1 = a) (i : Fin 10000) (z : Fin 10000) :
    (dat0 V c).arrAt 1 cfg0.N (ix2 i z) = a (ix2 i z) := by
  have key := (dat0 V c).arrAt_eq_of_cover 1 ((fun j => a j) : S10000x10000.Idx → EReal) (fun t _ => ?_) cover0_1
  · exact congrFun key (ix2 i z)
  · show (dat0 V c).after 1 t = _
    rw [leaves0_1]
    unfold out0_1
    rw [View.canon_unit_zero hz2, View.ld_unit_zero hz2]
    funext y
    obtain ⟨r, z, rfl⟩ : ∃ (r : Fin 400) (z : Fin 10000), y = ix2 r z := ⟨y 0, y 1, eq_ix2 y⟩
    refine (cast_apply _ r z).trans ?_
    show _ = a ((win0_1.rect t).emb (ix2 r z))
    rw [emb0_1, blk0_0_apply V c t a ha]
/-- The degree factors of the rows. -/
theorem final0_2 (c : Dev nD) (a : Vec Ideal S10000x10000 .f32) (ha : V c main_arg1 = a) (i : Fin 10000) (z : Fin 1) :
    (dat0 V c).arrAt 2 cfg0.N (ix2 i z) = dinv (∑ l, a (ix2 i l)) := by
  have key := (dat0 V c).arrAt_eq_of_cover 2 ((fun j => dinv (∑ l, a (ix2 (j 0) l))) : S10000x1.Idx → EReal) (fun t _ => ?_) cover0_2
  · exact congrFun key (ix2 i z)
  · show (dat0 V c).after 2 t = _
    rw [leaves0_2]
    unfold out0_2
    rw [View.canon_unit_zero hz2, View.ld_unit_zero hz2]
    funext y
    obtain ⟨r, z, rfl⟩ : ∃ (r : Fin 400) (z : Fin 1), y = ix2 r z := ⟨y 0, y 1, eq_ix2 y⟩
    refine (degree_apply _ r z).trans ?_
    show _ = ((fun j => dinv (∑ l, a (ix2 (j 0) l))) : S10000x1.Idx → EReal) ((win0_2.rect t).emb (ix2 r z))
    rw [emb0_2]
    exact congrArg dinv (Finset.sum_congr rfl fun l _ => by rw [blk0_0_apply V c t a ha]; rfl)
end Cert.KernelIdeal.Calls

end
-- ==== Proof.KernelIdeal.ProjValue.lean ====
/- What the projecting call leaves. -/
module

public import proofs.«01_k».proof.Proof.KernelIdeal.Proj
public import proofs.«01_k».proof.Proof.KernelIdeal.Payloads
public import proofs.«01_k».proof.Proof.KernelIdeal.Blocks

@[expose] public section

set_option maxRecDepth 16384

noncomputable section

namespace Cert.KernelIdeal.Calls

open Cert.KernelIdeal Cert.KernelIdeal.Gen Cert.KernelIdeal.Payloads
open Idealize.ShloMosaic Idealize.ShloMosaic.TcCoe
open Idealize.ShloMosaic.Pipeline (Dat Cfg Window)
open Cert.Math

variable (V : (c : Dev nD) → (b : Ref sig .tc) → Buf (Elt Ideal) ((c : Thread nD τ).loc b))

def pt1 : Fin cfg1.N := t1_0
theorem at1_0 : ∀ t : Fin cfg1.N, win1_0.index t 0 = 0 ∧ win1_0.index t 1 = 0 := by decide +kernel
theorem blk1_0_eq (c : Dev nD) (t : Fin cfg1.N) (A : Vec Ideal S10000x128 .f32) (hA : V c main_arg0 = A) : blk1 V c 0 t = A := by
  subst hA
  refine funext fun y => congrArg (V c main_arg0) (funext fun a => Fin.ext ?_)
  match a with
  | ⟨0, _⟩ => exact win1_0.rect_emb_val_of_index_zero t 0 (at1_0 t).1 y
  | ⟨1, _⟩ => exact win1_0.rect_emb_val_of_index_zero t 1 (at1_0 t).2 y
theorem at1_1 : ∀ t : Fin cfg1.N, win1_1.index t 0 = 0 ∧ win1_1.index t 1 = 0 := by decide +kernel
theorem blk1_1_eq (c : Dev nD) (t : Fin cfg1.N) (A : Vec Ideal S128x32 .f32) (hA : V c main_arg5 = A) : blk1 V c 1 t = A := by
  subst hA
  refine funext fun y => congrArg (V c main_arg5) (funext fun a => Fin.ext ?_)
  match a with
  | ⟨0, _⟩ => exact win1_1.rect_emb_val_of_index_zero t 0 (at1_1 t).1 y
  | ⟨1, _⟩ => exact win1_1.rect_emb_val_of_index_zero t 1 (at1_1 t).2 y
theorem at1_2 : ∀ t : Fin cfg1.N, win1_2.index t 0 = 0 ∧ win1_2.index t 1 = 0 := by decide +kernel
theorem blk1_2_eq (c : Dev nD) (t : Fin cfg1.N) (A : Vec Ideal S128x32 .f32) (hA : V c main_arg6 = A) : blk1 V c 2 t = A := by
  subst hA
  refine funext fun y => congrArg (V c main_arg6) (funext fun a => Fin.ext ?_)
  match a with
  | ⟨0, _⟩ => exact win1_2.rect_emb_val_of_index_zero t 0 (at1_2 t).1 y
  | ⟨1, _⟩ => exact win1_2.rect_emb_val_of_index_zero t 1 (at1_2 t).2 y
theorem at1_3 : ∀ t : Fin cfg1.N, win1_3.index t 0 = 0 ∧ win1_3.index t 1 = 0 := by decide +kernel
theorem blk1_3_eq (c : Dev nD) (t : Fin cfg1.N) (A : Vec Ideal S1x32 .f32) (hA : V c main_v7 = A) : blk1 V c 3 t = A := by
  subst hA
  refine funext fun y => congrArg (V c main_v7) (funext fun a => Fin.ext ?_)
  match a with
  | ⟨0, _⟩ => exact win1_3.rect_emb_val_of_index_zero t 0 (at1_3 t).1 y
  | ⟨1, _⟩ => exact win1_3.rect_emb_val_of_index_zero t 1 (at1_3 t).2 y
theorem at1_4 : ∀ t : Fin cfg1.N, win1_4.index t 0 = 0 ∧ win1_4.index t 1 = 0 := by decide +kernel
theorem emb1_4 (t : Fin cfg1.N) (y : S10000x32.Idx) : (win1_4.rect t).emb y = y := by
  refine funext fun a => Fin.ext ?_
  match a with
  | ⟨0, _⟩ => exact win1_4.rect_emb_val_of_index_zero t 0 (at1_4 t).1 y
  | ⟨1, _⟩ => exact win1_4.rect_emb_val_of_index_zero t 1 (at1_4 t).2 y
theorem cover1_4 (i : S10000x32.Idx) : ∃ t : Fin cfg1.N, (cfg1.win 4).flush t = true ∧ i ∈ ((cfg1.win 4).blk t).view.set :=
  ⟨pt1, flush1_4 pt1, Eq.subst (motive := fun j : S10000x32.Idx => j ∈ ((cfg1.win 4).blk pt1).view.set) (emb1_4 pt1 i)
    (View.emb_mem_set ((cfg1.win 4).blk pt1).view i)⟩
theorem at1_5 : ∀ t : Fin cfg1.N, win1_5.index t 0 = 0 ∧ win1_5.index t 1 = 0 := by decide +kernel
theorem emb1_5 (t : Fin cfg1.N) (y : S10000x32.Idx) : (win1_5.rect t).emb y = y := by
  refine funext fun a => Fin.ext ?_
  match a with
  | ⟨0, _⟩ => exact win1_5.rect_emb_val_of_index_zero t 0 (at1_5 t).1 y
  | ⟨1, _⟩ => exact win1_5.rect_emb_val_of_index_zero t 1 (at1_5 t).2 y
theorem cover1_5 (i : S10000x32.Idx) : ∃ t : Fin cfg1.N, (cfg1.win 5).flush t = true ∧ i ∈ ((cfg1.win 5).blk t).view.set :=
  ⟨pt1, flush1_5 pt1, Eq.subst (motive := fun j : S10000x32.Idx => j ∈ ((cfg1.win 5).blk pt1).view.set) (emb1_5 pt1 i)
    (View.emb_mem_set ((cfg1.win 5).blk pt1).view i)⟩
/-- The projection. -/
theorem final1_4 (c : Dev nD) (x : Vec Ideal S10000x128 .f32) (hx : V c main_arg0 = x) (u : Vec Ideal S128x32 .f32) (hu : V c main_arg5 = u) (i : Fin 10000) (z : Fin 32) :
    (dat1 V c).arrAt 4 cfg1.N (ix2 i z) = ∑ q : Fin 128, x (ix2 i q) * u (ix2 q z) := by
  have key := (dat1 V c).arrAt_eq_of_cover 4 ((fun j => ∑ q : Fin 128, x (ix2 (j 0) q) * u (ix2 q (j 1))) : S10000x32.Idx → EReal) (fun t _ => ?_) cover1_4
  · exact congrFun key (ix2 i z)
  · show (dat1 V c).after 4 t = _
    rw [leaves1_4]
    unfold out1_4
    rw [View.canon_unit_zero hz2, View.ld_unit_zero hz2, View.ld_unit_zero hz2, blk1_0_eq V c t x hx, blk1_1_eq V c t u hu]
    funext y
    obtain ⟨i, z, rfl⟩ : ∃ (i : Fin 10000) (z : Fin 32), y = ix2 i z := ⟨y 0, y 1, eq_ix2 y⟩
    refine (proj0_apply _ _ i z).trans ?_
    show _ = ((fun j => ∑ q : Fin 128, x (ix2 (j 0) q) * u (ix2 q (j 1))) : S10000x32.Idx → EReal) ((win1_4.rect t).emb (ix2 i z))
    rw [emb1_4]; rfl
/-- The projection with the bias. -/
theorem final1_5 (c : Dev nD) (x : Vec Ideal S10000x128 .f32) (hx : V c main_arg0 = x) (u : Vec Ideal S128x32 .f32) (hu : V c main_arg6 = u) (b : Vec Ideal S1x32 .f32) (hb : V c main_v7 = b) (i : Fin 10000) (z : Fin 32) :
    (dat1 V c).arrAt 5 cfg1.N (ix2 i z) = (∑ q : Fin 128, x (ix2 i q) * u (ix2 q z)) + b (ix2 0 z) := by
  have key := (dat1 V c).arrAt_eq_of_cover 5 ((fun j => (∑ q : Fin 128, x (ix2 (j 0) q) * u (ix2 q (j 1))) + b (ix2 0 (j 1))) : S10000x32.Idx → EReal) (fun t _ => ?_) cover1_5
  · exact congrFun key (ix2 i z)
  · show (dat1 V c).after 5 t = _
    rw [leaves1_5]
    unfold out1_5
    rw [View.canon_unit_zero hz2, View.ld_unit_zero hz2, View.ld_unit_zero hz2, View.ld_unit_zero hz2, blk1_0_eq V c t x hx, blk1_2_eq V c t u hu, blk1_3_eq V c t b hb]
    funext y
    obtain ⟨i, z, rfl⟩ : ∃ (i : Fin 10000) (z : Fin 32), y = ix2 i z := ⟨y 0, y 1, eq_ix2 y⟩
    refine (proj1_apply _ _ _ i z).trans ?_
    show _ = ((fun j => (∑ q : Fin 128, x (ix2 (j 0) q) * u (ix2 q (j 1))) + b (ix2 0 (j 1))) : S10000x32.Idx → EReal) ((win1_5.rect t).emb (ix2 i z))
    rw [emb1_5]; rfl
end Cert.KernelIdeal.Calls

end
-- ==== Proof.KernelIdeal.Conv1Value.lean ====
/- What the first convolution leaves. -/
module

public import proofs.«01_k».proof.Proof.KernelIdeal.Conv1
public import proofs.«01_k».proof.Proof.KernelIdeal.Payloads
public import proofs.«01_k».proof.Proof.KernelIdeal.Blocks

@[expose] public section

set_option maxRecDepth 16384

noncomputable section

namespace Cert.KernelIdeal.Calls

open Cert.KernelIdeal Cert.KernelIdeal.Gen Cert.KernelIdeal.Payloads
open Idealize.ShloMosaic Idealize.ShloMosaic.TcCoe
open Idealize.ShloMosaic.Pipeline (Dat Cfg Window)
open Cert.Math

variable (V : (c : Dev nD) → (b : Ref sig .tc) → Buf (Elt Ideal) ((c : Thread nD τ).loc b))

/-- The first layer's features from the call's operands. -/
def feat1 (A : Vec Ideal S10000x10000 .bf16) (d : Vec Ideal S10000x1 .f32) (u v : Vec Ideal S10000x32 .f32) (i : Fin 10000) (h : Fin 32) : EReal :=
  max (d (ix2 i 0) * (∑ l, A (ix2 i l) * (d (ix2 l 0) * u (ix2 l h))) + v (ix2 i h)) 0

theorem lt2 (t : Fin cfg2.N) : t.val < 25 := t.isLt
theorem at2_0 : ∀ t : Fin cfg2.N, win2_0.index t 0 = t.val ∧ win2_0.index t 1 = 0 := by decide +kernel
theorem blk2_0_apply (c : Dev nD) (t : Fin cfg2.N) (A : Vec Ideal S10000x10000 .bf16) (hA : V c main_v6_0 = A) (r : Fin 400) (l : Fin 10000) :
    blk2 V c 0 t (ix2 r l) = A (ix2 (row t.val (lt2 t) r) l) := by
  subst hA
  refine congrArg (V c main_v6_0) (funext fun a => Fin.ext ?_)
  match a with
  | ⟨0, _⟩ => exact (win2_0.rect_emb_val t (ix2 r l) 0).trans (by rw [(at2_0 t).1]; rfl)
  | ⟨1, _⟩ => exact win2_0.rect_emb_val_of_index_zero t 1 (at2_0 t).2 (ix2 r l)
theorem at2_1 : ∀ t : Fin cfg2.N, win2_1.index t 0 = 0 ∧ win2_1.index t 1 = 0 := by decide +kernel
theorem blk2_1_eq (c : Dev nD) (t : Fin cfg2.N) (A : Vec Ideal S10000x1 .f32) (hA : V c main_v6_1 = A) : blk2 V c 1 t = A := by
  subst hA
  refine funext fun y => congrArg (V c main_v6_1) (funext fun a => Fin.ext ?_)
  match a with
  | ⟨0, _⟩ => exact win2_1.rect_emb_val_of_index_zero t 0 (at2_1 t).1 y
  | ⟨1, _⟩ => exact win2_1.rect_emb_val_of_index_zero t 1 (at2_1 t).2 y
theorem at2_2 : ∀ t : Fin cfg2.N, win2_2.index t 0 = t.val ∧ win2_2.index t 1 = 0 := by decide +kernel
theorem blk2_2_apply (c : Dev nD) (t : Fin cfg2.N) (A : Vec Ideal S10000x1 .f32) (hA : V c main_v6_1 = A) (r : Fin 400) (l : Fin 1) :
    blk2 V c 2 t (ix2 r l) = A (ix2 (row t.val (lt2 t) r) l) := by
  subst hA
  refine congrArg (V c main_v6_1) (funext fun a => Fin.ext ?_)
  match a with
  | ⟨0, _⟩ => exact (win2_2.rect_emb_val t (ix2 r l) 0).trans (by rw [(at2_2 t).1]; rfl)
  | ⟨1, _⟩ => exact win2_2.rect_emb_val_of_index_zero t 1 (at2_2 t).2 (ix2 r l)
theorem at2_3 : ∀ t : Fin cfg2.N, win2_3.index t 0 = 0 ∧ win2_3.index t 1 = 0 := by decide +kernel
theorem blk2_3_eq (c : Dev nD) (t : Fin cfg2.N) (A : Vec Ideal S10000x32 .f32) (hA : V c main_v8_0 = A) : blk2 V c 3 t = A := by
  subst hA
  refine funext fun y => congrArg (V c main_v8_0) (funext fun a => Fin.ext ?_)
  match a with
  | ⟨0, _⟩ => exact win2_3.rect_emb_val_of_index_zero t 0 (at2_3 t).1 y
  | ⟨1, _⟩ => exact win2_3.rect_emb_val_of_index_zero t 1 (at2_3 t).2 y
theorem at2_4 : ∀ t : Fin cfg2.N, win2_4.index t 0 = t.val ∧ win2_4.index t 1 = 0 := by decide +kernel
theorem blk2_4_apply (c : Dev nD) (t : Fin cfg2.N) (A : Vec Ideal S10000x32 .f32) (hA : V c main_v8_1 = A) (r : Fin 400) (l : Fin 32) :
    blk2 V c 4 t (ix2 r l) = A (ix2 (row t.val (lt2 t) r) l) := by
  subst hA
  refine congrArg (V c main_v8_1) (funext fun a => Fin.ext ?_)
  match a with
  | ⟨0, _⟩ => exact (win2_4.rect_emb_val t (ix2 r l) 0).trans (by rw [(at2_4 t).1]; rfl)
  | ⟨1, _⟩ => exact win2_4.rect_emb_val_of_index_zero t 1 (at2_4 t).2 (ix2 r l)
theorem at2_5 : ∀ t : Fin cfg2.N, win2_5.index t 0 = 0 ∧ win2_5.index t 1 = 0 := by decide +kernel
theorem blk2_5_eq (c : Dev nD) (t : Fin cfg2.N) (A : Vec Ideal S32x1 .f32) (hA : V c main_v5 = A) : blk2 V c 5 t = A := by
  subst hA
  refine funext fun y => congrArg (V c main_v5) (funext fun a => Fin.ext ?_)
  match a with
  | ⟨0, _⟩ => exact win2_5.rect_emb_val_of_index_zero t 0 (at2_5 t).1 y
  | ⟨1, _⟩ => exact win2_5.rect_emb_val_of_index_zero t 1 (at2_5 t).2 y
theorem at2_6 : ∀ t : Fin cfg2.N, win2_6.index t 0 = t.val ∧ win2_6.index t 1 = 0 := by decide +kernel
theorem emb2_6 (t : Fin cfg2.N) (r : Fin 400) (z : Fin 32) :
    (win2_6.rect t).emb (ix2 r z) = (ix2 (row t.val (lt2 t) r) z : S10000x32.Idx) := by
  refine funext fun a => Fin.ext ?_
  match a with
  | ⟨0, _⟩ => exact (win2_6.rect_emb_val t (ix2 r z) 0).trans (by rw [(at2_6 t).1]; rfl)
  | ⟨1, _⟩ => exact win2_6.rect_emb_val_of_index_zero t 1 (at2_6 t).2 (ix2 r z)
/-- The blocks written fill the array. -/
theorem cover2_6 (i : S10000x32.Idx) : ∃ t : Fin cfg2.N, (cfg2.win 6).flush t = true ∧ i ∈ ((cfg2.win 6).blk t).view.set := by
  have h0 : (i 0 : Nat) < 10000 := (i 0).isLt
  obtain ⟨t, ht⟩ : ∃ t : Fin cfg2.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win2_6.rect t).emb (ix2 r (i 1)) = i := (emb2_6 t r (i 1)).trans (funext fun a => Fin.ext (by
    match a with
    | ⟨0, _⟩ => show t.val * 400 + r.val = (i 0 : Nat); omega
    | ⟨1, _⟩ => rfl))
  exact ⟨t, flush2_6 t, Eq.subst (motive := fun j : S10000x32.Idx => j ∈ ((cfg2.win 6).blk t).view.set) e
    (View.emb_mem_set ((cfg2.win 6).blk t).view (ix2 r (i 1)))⟩
theorem at2_7 : ∀ t : Fin cfg2.N, win2_7.index t 0 = t.val ∧ win2_7.index t 1 = 0 := by decide +kernel
theorem emb2_7 (t : Fin cfg2.N) (r : Fin 400) (z : Fin 1) :
    (win2_7.rect t).emb (ix2 r z) = (ix2 (row t.val (lt2 t) r) z : S10000x1.Idx) := by
  refine funext fun a => Fin.ext ?_
  match a with
  | ⟨0, _⟩ => exact (win2_7.rect_emb_val t (ix2 r z) 0).trans (by rw [(at2_7 t).1]; rfl)
  | ⟨1, _⟩ => exact win2_7.rect_emb_val_of_index_zero t 1 (at2_7 t).2 (ix2 r z)
/-- The blocks written fill the array. -/
theorem cover2_7 (i : S10000x1.Idx) : ∃ t : Fin cfg2.N, (cfg2.win 7).flush t = true ∧ i ∈ ((cfg2.win 7).blk t).view.set := by
  have h0 : (i 0 : Nat) < 10000 := (i 0).isLt
  obtain ⟨t, ht⟩ : ∃ t : Fin cfg2.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win2_7.rect t).emb (ix2 r (i 1)) = i := (emb2_7 t r (i 1)).trans (funext fun a => Fin.ext (by
    match a with
    | ⟨0, _⟩ => show t.val * 400 + r.val = (i 0 : Nat); omega
    | ⟨1, _⟩ => rfl))
  exact ⟨t, flush2_7 t, Eq.subst (motive := fun j : S10000x1.Idx => j ∈ ((cfg2.win 7).blk t).view.set) e
    (View.emb_mem_set ((cfg2.win 7).blk t).view (ix2 r (i 1)))⟩
/-- The operand the first point stores. -/
theorem held2s_0_apply (c : Dev nD) (d : Vec Ideal S10000x1 .f32) (hd : V c main_v6_1 = d) (u : Vec Ideal S10000x32 .f32) (hu : V c main_v8_0 = u) (l : Fin 10000) (h : Fin 32) : held2s_0 V c (ix2 l h) = d (ix2 l 0) * u (ix2 l h) := by
  unfold held2s_0 scr2_0
  rw [View.canon_unit_zero hz2, View.ld_unit_zero hz2, View.ld_unit_zero hz2, blk2_1_eq V c pt2 d hd, blk2_3_eq V c pt2 u hu]
  exact scaled_apply _ _ l h
/-- One block of the features. -/
theorem block2 (c : Dev nD) (A : Vec Ideal S10000x10000 .bf16) (hA : V c main_v6_0 = A) (d : Vec Ideal S10000x1 .f32) (hd : V c main_v6_1 = d) (u : Vec Ideal S10000x32 .f32) (hu : V c main_v8_0 = u) (v : Vec Ideal S10000x32 .f32) (hv : V c main_v8_1 = v) (t : Fin cfg2.N) (r : Fin 400) (h : Fin 32) :
    k2_pay2 (F := Ideal) (blk2 V c 0 t) (held2s_0 V c) (blk2 V c 2 t) (blk2 V c 4 t) (ix2 r h) = feat1 A d u v (row t.val (lt2 t) r) h := by
  refine (conv1_apply _ _ _ _ r h).trans ?_
  rw [blk2_2_apply V c t d hd, blk2_4_apply V c t v hv]
  simp only [blk2_0_apply V c t A hA, held2s_0_apply V c d hd u hu]
  rfl
/-- The features. -/
theorem final2_6 (c : Dev nD) (A : Vec Ideal S10000x10000 .bf16) (hA : V c main_v6_0 = A) (d : Vec Ideal S10000x1 .f32) (hd : V c main_v6_1 = d) (u : Vec Ideal S10000x32 .f32) (hu : V c main_v8_0 = u) (v : Vec Ideal S10000x32 .f32) (hv : V c main_v8_1 = v) (i : Fin 10000) (z : Fin 32) :
    (dat2 V c).arrAt 6 cfg2.N (ix2 i z) = feat1 A d u v i z := by
  have key := (dat2 V c).arrAt_eq_of_cover 6 ((fun j => feat1 A d u v (j 0) (j 1)) : S10000x32.Idx → EReal) (fun t _ => ?_) cover2_6
  · exact congrFun key (ix2 i z)
  · show (dat2 V c).after 6 t = _
    rw [leaves2_6]
    unfold out2_6
    rw [View.canon_unit_zero hz2, View.ld_unit_zero hz2, View.ld_unit_zero hz2, View.ld_unit_zero hz2, View.ld_unit_zero hz2]
    funext y
    obtain ⟨r, z, rfl⟩ : ∃ (r : Fin 400) (z : Fin 32), y = ix2 r z := ⟨y 0, y 1, eq_ix2 y⟩
    refine (block2 V c A hA d hd u hu v hv t r z).trans ?_
    show _ = ((fun j => feat1 A d u v (j 0) (j 1)) : S10000x32.Idx → EReal) ((win2_6.rect t).emb (ix2 r z))
    rw [emb2_6]; rfl
/-- The scores. -/
theorem final2_7 (c : Dev nD) (A : Vec Ideal S10000x10000 .bf16) (hA : V c main_v6_0 = A) (d : Vec Ideal S10000x1 .f32) (hd : V c main_v6_1 = d) (u : Vec Ideal S10000x32 .f32) (hu : V c main_v8_0 = u) (v : Vec Ideal S10000x32 .f32) (hv : V c main_v8_1 = v) (p : Vec Ideal S32x1 .f32) (hp : V c main_v5 = p) (i : Fin 10000) (z : Fin 1) :
    (dat2 V c).arrAt 7 cfg2.N (ix2 i z) = ∑ q, feat1 A d u v i q * p (ix2 q 0) := by
  have key := (dat2 V c).arrAt_eq_of_cover 7 ((fun j => ∑ q, feat1 A d u v (j 0) q * p (ix2 q 0)) : S10000x1.Idx → EReal) (fun t _ => ?_) cover2_7
  · exact congrFun key (ix2 i z)
  · show (dat2 V c).after 7 t = _
    rw [leaves2_7]
    unfold out2_7
    rw [View.canon_unit_zero hz2, View.ld_unit_zero hz2, View.ld_unit_zero hz2, View.ld_unit_zero hz2, View.ld_unit_zero hz2, View.ld_unit_zero hz2]
    funext y
    obtain ⟨r, z, rfl⟩ : ∃ (r : Fin 400) (z : Fin 1), y = ix2 r z := ⟨y 0, y 1, eq_ix2 y⟩
    refine (score1_apply _ _ _ _ _ r z).trans ?_
    show _ = ((fun j => ∑ q, feat1 A d u v (j 0) q * p (ix2 q 0)) : S10000x1.Idx → EReal) ((win2_7.rect t).emb (ix2 r z))
    rw [emb2_7, blk2_5_eq V c t p hp, Finset.sum_congr rfl fun q _ => by rw [block2 V c A hA d hd u hu v hv]]; rfl
end Cert.KernelIdeal.Calls

end
-- ==== Proof.KernelIdeal.Deg1Value.lean ====
/- What the call that sums over the first selection leaves. -/
module

public import proofs.«01_k».proof.Proof.KernelIdeal.Deg1
public import proofs.«01_k».proof.Proof.KernelIdeal.Payloads
public import proofs.«01_k».proof.Proof.KernelIdeal.Blocks

@[expose] public section

set_option maxRecDepth 16384

noncomputable section

namespace Cert.KernelIdeal.Calls

open Cert.KernelIdeal Cert.KernelIdeal.Gen Cert.KernelIdeal.Payloads
open Idealize.ShloMosaic Idealize.ShloMosaic.TcCoe
open Idealize.ShloMosaic.Pipeline (Dat Cfg Window)
open Cert.Math

variable (V : (c : Dev nD) → (b : Ref sig .tc) → Buf (Elt Ideal) ((c : Thread nD τ).loc b))

theorem lt3 (t : Fin cfg3.N) : t.val < 25 := t.isLt
theorem at3_0 : ∀ t : Fin cfg3.N, win3_0.index t 0 = t.val ∧ win3_0.index t 1 = 0 := by decide +kernel
theorem blk3_0_apply (c : Dev nD) (t : Fin cfg3.N) (A : Vec Ideal S10000x10000 .bf16) (hA : V c main_v6_0 = A) (r : Fin 400) (l : Fin 10000) :
    blk3 V c 0 t (ix2 r l) = A (ix2 (row t.val (lt3 t) r) l) := by
  subst hA
  refine congrArg (V c main_v6_0) (funext fun a => Fin.ext ?_)
  match a with
  | ⟨0, _⟩ => exact (win3_0.rect_emb_val t (ix2 r l) 0).trans (by rw [(at3_0 t).1]; rfl)
  | ⟨1, _⟩ => exact win3_0.rect_emb_val_of_index_zero t 1 (at3_0 t).2 (ix2 r l)
theorem at3_1 : ∀ t : Fin cfg3.N, win3_1.index t 0 = 0 ∧ win3_1.index t 1 = 0 := by decide +kernel
theorem blk3_1_eq (c : Dev nD) (t : Fin cfg3.N) (A : Vec Ideal S10000x1 .bf16) (hA : V c main_v20 = A) : blk3 V c 1 t = A := by
  subst hA
  refine funext fun y => congrArg (V c main_v20) (funext fun a => Fin.ext ?_)
  match a with
  | ⟨0, _⟩ => exact win3_1.rect_emb_val_of_index_zero t 0 (at3_1 t).1 y
  | ⟨1, _⟩ => exact win3_1.rect_emb_val_of_index_zero t 1 (at3_1 t).2 y
theorem at3_2 : ∀ t : Fin cfg3.N, win3_2.index t 0 = t.val ∧ win3_2.index t 1 = 0 := by decide +kernel
theorem emb3_2 (t : Fin cfg3.N) (r : Fin 400) (z : Fin 1) :
    (win3_2.rect t).emb (ix2 r z) = (ix2 (row t.val (lt3 t) r) z : S10000x1.Idx) := by
  refine funext fun a => Fin.ext ?_
  match a with
  | ⟨0, _⟩ => exact (win3_2.rect_emb_val t (ix2 r z) 0).trans (by rw [(at3_2 t).1]; rfl)
  | ⟨1, _⟩ => exact win3_2.rect_emb_val_of_index_zero t 1 (at3_2 t).2 (ix2 r z)
/-- The blocks written fill the array. -/
theorem cover3_2 (i : S10000x1.Idx) : ∃ t : Fin cfg3.N, (cfg3.win 2).flush t = true ∧ i ∈ ((cfg3.win 2).blk t).view.set := by
  have h0 : (i 0 : Nat) < 10000 := (i 0).isLt
  obtain ⟨t, ht⟩ : ∃ t : Fin cfg3.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win3_2.rect t).emb (ix2 r (i 1)) = i := (emb3_2 t r (i 1)).trans (funext fun a => Fin.ext (by
    match a with
    | ⟨0, _⟩ => show t.val * 400 + r.val = (i 0 : Nat); omega
    | ⟨1, _⟩ => rfl))
  exact ⟨t, flush3_2 t, Eq.subst (motive := fun j : S10000x1.Idx => j ∈ ((cfg3.win 2).blk t).view.set) e
    (View.emb_mem_set ((cfg3.win 2).blk t).view (ix2 r (i 1)))⟩
/-- The degree factors over the selection. -/
theorem final3_2 (c : Dev nD) (A : Vec Ideal S10000x10000 .bf16) (hA : V c main_v6_0 = A) (m : Vec Ideal S10000x1 .bf16) (hm : V c main_v20 = m) (i : Fin 10000) (z : Fin 1) :
    (dat3 V c).arrAt 2 cfg3.N (ix2 i z) = dinv (∑ l, A (ix2 i l) * m (ix2 l 0)) := by
  have key := (dat3 V c).arrAt_eq_of_cover 2 ((fun j => dinv (∑ l, A (ix2 (j 0) l) * m (ix2 l 0))) : S10000x1.Idx → EReal) (fun t _ => ?_) cover3_2
  · exact congrFun key (ix2 i z)
  · show (dat3 V c).after 2 t = _
    rw [leaves3_2]
    unfold out3_2
    rw [View.canon_unit_zero hz2, View.ld_unit_zero hz2, View.ld_unit_zero hz2, blk3_1_eq V c t m hm]
    funext y
    obtain ⟨r, z, rfl⟩ : ∃ (r : Fin 400) (z : Fin 1), y = ix2 r z := ⟨y 0, y 1, eq_ix2 y⟩
    refine (masked_degree_apply _ _ r z).trans ?_
    show _ = ((fun j => dinv (∑ l, A (ix2 (j 0) l) * m (ix2 l 0))) : S10000x1.Idx → EReal) ((win3_2.rect t).emb (ix2 r z))
    rw [emb3_2]
    exact congrArg dinv (Finset.sum_congr rfl fun l _ => by rw [blk3_0_apply V c t A hA]; rfl)
end Cert.KernelIdeal.Calls

end
-- ==== Proof.KernelIdeal.Deg2Value.lean ====
/- What the call that sums over the second selection leaves. -/
module

public import proofs.«01_k».proof.Proof.KernelIdeal.Deg2
public import proofs.«01_k».proof.Proof.KernelIdeal.Payloads
public import proofs.«01_k».proof.Proof.KernelIdeal.Blocks

@[expose] public section

set_option maxRecDepth 16384

noncomputable section

namespace Cert.KernelIdeal.Calls

open Cert.KernelIdeal Cert.KernelIdeal.Gen Cert.KernelIdeal.Payloads
open Idealize.ShloMosaic Idealize.ShloMosaic.TcCoe
open Idealize.ShloMosaic.Pipeline (Dat Cfg Window)
open Cert.Math

variable (V : (c : Dev nD) → (b : Ref sig .tc) → Buf (Elt Ideal) ((c : Thread nD τ).loc b))

theorem lt5 (t : Fin cfg5.N) : t.val < 25 := t.isLt
theorem at5_0 : ∀ t : Fin cfg5.N, win5_0.index t 0 = t.val ∧ win5_0.index t 1 = 0 := by decide +kernel
theorem blk5_0_apply (c : Dev nD) (t : Fin cfg5.N) (A : Vec Ideal S10000x10000 .bf16) (hA : V c main_v6_0 = A) (r : Fin 400) (l : Fin 10000) :
    blk5 V c 0 t (ix2 r l) = A (ix2 (row t.val (lt5 t) r) l) := by
  subst hA
  refine congrArg (V c main_v6_0) (funext fun a => Fin.ext ?_)
  match a with
  | ⟨0, _⟩ => exact (win5_0.rect_emb_val t (ix2 r l) 0).trans (by rw [(at5_0 t).1]; rfl)
  | ⟨1, _⟩ => exact win5_0.rect_emb_val_of_index_zero t 1 (at5_0 t).2 (ix2 r l)
theorem at5_1 : ∀ t : Fin cfg5.N, win5_1.index t 0 = 0 ∧ win5_1.index t 1 = 0 := by decide +kernel
theorem blk5_1_eq (c : Dev nD) (t : Fin cfg5.N) (A : Vec Ideal S10000x1 .bf16) (hA : V c main_v42 = A) : blk5 V c 1 t = A := by
  subst hA
  refine funext fun y => congrArg (V c main_v42) (funext fun a => Fin.ext ?_)
  match a with
  | ⟨0, _⟩ => exact win5_1.rect_emb_val_of_index_zero t 0 (at5_1 t).1 y
  | ⟨1, _⟩ => exact win5_1.rect_emb_val_of_index_zero t 1 (at5_1 t).2 y
theorem at5_2 : ∀ t : Fin cfg5.N, win5_2.index t 0 = t.val ∧ win5_2.index t 1 = 0 := by decide +kernel
theorem emb5_2 (t : Fin cfg5.N) (r : Fin 400) (z : Fin 1) :
    (win5_2.rect t).emb (ix2 r z) = (ix2 (row t.val (lt5 t) r) z : S10000x1.Idx) := by
  refine funext fun a => Fin.ext ?_
  match a with
  | ⟨0, _⟩ => exact (win5_2.rect_emb_val t (ix2 r z) 0).trans (by rw [(at5_2 t).1]; rfl)
  | ⟨1, _⟩ => exact win5_2.rect_emb_val_of_index_zero t 1 (at5_2 t).2 (ix2 r z)
/-- The blocks written fill the array. -/
theorem cover5_2 (i : S10000x1.Idx) : ∃ t : Fin cfg5.N, (cfg5.win 2).flush t = true ∧ i ∈ ((cfg5.win 2).blk t).view.set := by
  have h0 : (i 0 : Nat) < 10000 := (i 0).isLt
  obtain ⟨t, ht⟩ : ∃ t : Fin cfg5.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win5_2.rect t).emb (ix2 r (i 1)) = i := (emb5_2 t r (i 1)).trans (funext fun a => Fin.ext (by
    match a with
    | ⟨0, _⟩ => show t.val * 400 + r.val = (i 0 : Nat); omega
    | ⟨1, _⟩ => rfl))
  exact ⟨t, flush5_2 t, Eq.subst (motive := fun j : S10000x1.Idx => j ∈ ((cfg5.win 2).blk t).view.set) e
    (View.emb_mem_set ((cfg5.win 2).blk t).view (ix2 r (i 1)))⟩
/-- The degree factors over the selection. -/
theorem final5_2 (c : Dev nD) (A : Vec Ideal S10000x10000 .bf16) (hA : V c main_v6_0 = A) (m : Vec Ideal S10000x1 .bf16) (hm : V c main_v42 = m) (i : Fin 10000) (z : Fin 1) :
    (dat5 V c).arrAt 2 cfg5.N (ix2 i z) = dinv (∑ l, A (ix2 i l) * m (ix2 l 0)) := by
  have key := (dat5 V c).arrAt_eq_of_cover 2 ((fun j => dinv (∑ l, A (ix2 (j 0) l) * m (ix2 l 0))) : S10000x1.Idx → EReal) (fun t _ => ?_) cover5_2
  · exact congrFun key (ix2 i z)
  · show (dat5 V c).after 2 t = _
    rw [leaves5_2]
    unfold out5_2
    rw [View.canon_unit_zero hz2, View.ld_unit_zero hz2, View.ld_unit_zero hz2, blk5_1_eq V c t m hm]
    funext y
    obtain ⟨r, z, rfl⟩ : ∃ (r : Fin 400) (z : Fin 1), y = ix2 r z := ⟨y 0, y 1, eq_ix2 y⟩
    refine (masked_degree_apply _ _ r z).trans ?_
    show _ = ((fun j => dinv (∑ l, A (ix2 (j 0) l) * m (ix2 l 0))) : S10000x1.Idx → EReal) ((win5_2.rect t).emb (ix2 r z))
    rw [emb5_2]
    exact congrArg dinv (Finset.sum_congr rfl fun l _ => by rw [blk5_0_apply V c t A hA]; rfl)
end Cert.KernelIdeal.Calls

end
-- ==== Proof.KernelIdeal.Conv2Value.lean ====
/- What the second convolution leaves. -/
module

public import proofs.«01_k».proof.Proof.KernelIdeal.Conv2
public import proofs.«01_k».proof.Proof.KernelIdeal.Payloads
public import proofs.«01_k».proof.Proof.KernelIdeal.Blocks

@[expose] public section

set_option maxRecDepth 16384

noncomputable section

namespace Cert.KernelIdeal.Calls

open Cert.KernelIdeal Cert.KernelIdeal.Gen Cert.KernelIdeal.Payloads
open Idealize.ShloMosaic Idealize.ShloMosaic.TcCoe
open Idealize.ShloMosaic.Pipeline (Dat Cfg Window)
open Cert.Math

variable (V : (c : Dev nD) → (b : Ref sig .tc) → Buf (Elt Ideal) ((c : Thread nD τ).loc b))

/-- The layer's features from the call's operands. -/
def feat2 (A : Vec Ideal S10000x10000 .bf16) (d y m : Vec Ideal S10000x1 .f32) (x : Vec Ideal S10000x32 .f32) (w0 w1 : Vec Ideal S32x32 .f32) (b : Vec Ideal S1x32 .f32) (i : Fin 10000) (h : Fin 32) : EReal :=
  max (d (ix2 i 0) * (∑ l, A (ix2 i l) * (d (ix2 l 0) * ∑ q : Fin 32, (x (ix2 l q) * Ideal.div (m (ix2 l 0)) (1 + Ideal.exp (-(y (ix2 l 0))))) * w0 (ix2 q h))) + ((∑ q : Fin 32, (x (ix2 i q) * Ideal.div (m (ix2 i 0)) (1 + Ideal.exp (-(y (ix2 i 0))))) * w1 (ix2 q h)) + b (ix2 0 h))) 0 * m (ix2 i 0)

theorem lt4 (t : Fin cfg4.N) : t.val < 25 := t.isLt
theorem at4_0 : ∀ t : Fin cfg4.N, win4_0.index t 0 = t.val ∧ win4_0.index t 1 = 0 := by decide +kernel
theorem blk4_0_apply (c : Dev nD) (t : Fin cfg4.N) (A : Vec Ideal S10000x10000 .bf16) (hA : V c main_v6_0 = A) (r : Fin 400) (l : Fin 10000) :
    blk4 V c 0 t (ix2 r l) = A (ix2 (row t.val (lt4 t) r) l) := by
  subst hA
  refine congrArg (V c main_v6_0) (funext fun a => Fin.ext ?_)
  match a with
  | ⟨0, _⟩ => exact (win4_0.rect_emb_val t (ix2 r l) 0).trans (by rw [(at4_0 t).1]; rfl)
  | ⟨1, _⟩ => exact win4_0.rect_emb_val_of_index_zero t 1 (at4_0 t).2 (ix2 r l)
theorem at4_1 : ∀ t : Fin cfg4.N, win4_1.index t 0 = 0 ∧ win4_1.index t 1 = 0 := by decide +kernel
theorem blk4_1_eq (c : Dev nD) (t : Fin cfg4.N) (A : Vec Ideal S10000x1 .f32) (hA : V c main_v21 = A) : blk4 V c 1 t = A := by
  subst hA
  refine funext fun y => congrArg (V c main_v21) (funext fun a => Fin.ext ?_)
  match a with
  | ⟨0, _⟩ => exact win4_1.rect_emb_val_of_index_zero t 0 (at4_1 t).1 y
  | ⟨1, _⟩ => exact win4_1.rect_emb_val_of_index_zero t 1 (at4_1 t).2 y
theorem at4_2 : ∀ t : Fin cfg4.N, win4_2.index t 0 = t.val ∧ win4_2.index t 1 = 0 := by decide +kernel
theorem blk4_2_apply (c : Dev nD) (t : Fin cfg4.N) (A : Vec Ideal S10000x1 .f32) (hA : V c main_v21 = A) (r : Fin 400) (l : Fin 1) :
    blk4 V c 2 t (ix2 r l) = A (ix2 (row t.val (lt4 t) r) l) := by
  subst hA
  refine congrArg (V c main_v21) (funext fun a => Fin.ext ?_)
  match a with
  | ⟨0, _⟩ => exact (win4_2.rect_emb_val t (ix2 r l) 0).trans (by rw [(at4_2 t).1]; rfl)
  | ⟨1, _⟩ => exact win4_2.rect_emb_val_of_index_zero t 1 (at4_2 t).2 (ix2 r l)
theorem at4_3 : ∀ t : Fin cfg4.N, win4_3.index t 0 = 0 ∧ win4_3.index t 1 = 0 := by decide +kernel
theorem blk4_3_eq (c : Dev nD) (t : Fin cfg4.N) (A : Vec Ideal S10000x1 .f32) (hA : V c main_v9_1 = A) : blk4 V c 3 t = A := by
  subst hA
  refine funext fun y => congrArg (V c main_v9_1) (funext fun a => Fin.ext ?_)
  match a with
  | ⟨0, _⟩ => exact win4_3.rect_emb_val_of_index_zero t 0 (at4_3 t).1 y
  | ⟨1, _⟩ => exact win4_3.rect_emb_val_of_index_zero t 1 (at4_3 t).2 y
theorem at4_4 : ∀ t : Fin cfg4.N, win4_4.index t 0 = 0 ∧ win4_4.index t 1 = 0 := by decide +kernel
theorem blk4_4_eq (c : Dev nD) (t : Fin cfg4.N) (A : Vec Ideal S10000x1 .f32) (hA : V c main_v22 = A) : blk4 V c 4 t = A := by
  subst hA
  refine funext fun y => congrArg (V c main_v22) (funext fun a => Fin.ext ?_)
  match a with
  | ⟨0, _⟩ => exact win4_4.rect_emb_val_of_index_zero t 0 (at4_4 t).1 y
  | ⟨1, _⟩ => exact win4_4.rect_emb_val_of_index_zero t 1 (at4_4 t).2 y
theorem at4_5 : ∀ t : Fin cfg4.N, win4_5.index t 0 = t.val ∧ win4_5.index t 1 = 0 := by decide +kernel
theorem blk4_5_apply (c : Dev nD) (t : Fin cfg4.N) (A : Vec Ideal S10000x1 .f32) (hA : V c main_v22 = A) (r : Fin 400) (l : Fin 1) :
    blk4 V c 5 t (ix2 r l) = A (ix2 (row t.val (lt4 t) r) l) := by
  subst hA
  refine congrArg (V c main_v22) (funext fun a => Fin.ext ?_)
  match a with
  | ⟨0, _⟩ => exact (win4_5.rect_emb_val t (ix2 r l) 0).trans (by rw [(at4_5 t).1]; rfl)
  | ⟨1, _⟩ => exact win4_5.rect_emb_val_of_index_zero t 1 (at4_5 t).2 (ix2 r l)
theorem at4_6 : ∀ t : Fin cfg4.N, win4_6.index t 0 = 0 ∧ win4_6.index t 1 = 0 := by decide +kernel
theorem blk4_6_eq (c : Dev nD) (t : Fin cfg4.N) (A : Vec Ideal S10000x32 .f32) (hA : V c main_v9_0 = A) : blk4 V c 6 t = A := by
  subst hA
  refine funext fun y => congrArg (V c main_v9_0) (funext fun a => Fin.ext ?_)
  match a with
  | ⟨0, _⟩ => exact win4_6.rect_emb_val_of_index_zero t 0 (at4_6 t).1 y
  | ⟨1, _⟩ => exact win4_6.rect_emb_val_of_index_zero t 1 (at4_6 t).2 y
theorem at4_7 : ∀ t : Fin cfg4.N, win4_7.index t 0 = 0 ∧ win4_7.index t 1 = 0 := by decide +kernel
theorem blk4_7_eq (c : Dev nD) (t : Fin cfg4.N) (A : Vec Ideal S32x32 .f32) (hA : V c main_arg9 = A) : blk4 V c 7 t = A := by
  subst hA
  refine funext fun y => congrArg (V c main_arg9) (funext fun a => Fin.ext ?_)
  match a with
  | ⟨0, _⟩ => exact win4_7.rect_emb_val_of_index_zero t 0 (at4_7 t).1 y
  | ⟨1, _⟩ => exact win4_7.rect_emb_val_of_index_zero t 1 (at4_7 t).2 y
theorem at4_8 : ∀ t : Fin cfg4.N, win4_8.index t 0 = 0 ∧ win4_8.index t 1 = 0 := by decide +kernel
theorem blk4_8_eq (c : Dev nD) (t : Fin cfg4.N) (A : Vec Ideal S32x32 .f32) (hA : V c main_arg10 = A) : blk4 V c 8 t = A := by
  subst hA
  refine funext fun y => congrArg (V c main_arg10) (funext fun a => Fin.ext ?_)
  match a with
  | ⟨0, _⟩ => exact win4_8.rect_emb_val_of_index_zero t 0 (at4_8 t).1 y
  | ⟨1, _⟩ => exact win4_8.rect_emb_val_of_index_zero t 1 (at4_8 t).2 y
theorem at4_9 : ∀ t : Fin cfg4.N, win4_9.index t 0 = 0 ∧ win4_9.index t 1 = 0 := by decide +kernel
theorem blk4_9_eq (c : Dev nD) (t : Fin cfg4.N) (A : Vec Ideal S1x32 .f32) (hA : V c main_v23 = A) : blk4 V c 9 t = A := by
  subst hA
  refine funext fun y => congrArg (V c main_v23) (funext fun a => Fin.ext ?_)
  match a with
  | ⟨0, _⟩ => exact win4_9.rect_emb_val_of_index_zero t 0 (at4_9 t).1 y
  | ⟨1, _⟩ => exact win4_9.rect_emb_val_of_index_zero t 1 (at4_9 t).2 y
theorem at4_10 : ∀ t : Fin cfg4.N, win4_10.index t 0 = 0 ∧ win4_10.index t 1 = 0 := by decide +kernel
theorem blk4_10_eq (c : Dev nD) (t : Fin cfg4.N) (A : Vec Ideal S32x1 .f32) (hA : V c main_v5 = A) : blk4 V c 10 t = A := by
  subst hA
  refine funext fun y => congrArg (V c main_v5) (funext fun a => Fin.ext ?_)
  match a with
  | ⟨0, _⟩ => exact win4_10.rect_emb_val_of_index_zero t 0 (at4_10 t).1 y
  | ⟨1, _⟩ => exact win4_10.rect_emb_val_of_index_zero t 1 (at4_10 t).2 y
/-- The operand the first point stores. -/
theorem held4s_0_apply (c : Dev nD) (d : Vec Ideal S10000x1 .f32) (hd : V c main_v21 = d) (y : Vec Ideal S10000x1 .f32) (hy : V c main_v9_1 = y) (m : Vec Ideal S10000x1 .f32) (hm : V c main_v22 = m) (x : Vec Ideal S10000x32 .f32) (hx : V c main_v9_0 = x) (w0 : Vec Ideal S32x32 .f32) (hw0 : V c main_arg9 = w0) (l : Fin 10000) (h : Fin 32) :
    held4s_0 V c (ix2 l h) = d (ix2 l 0) * ∑ q : Fin 32, (x (ix2 l q) * Ideal.div (m (ix2 l 0)) (1 + Ideal.exp (-(y (ix2 l 0))))) * w0 (ix2 q h) := by
  unfold held4s_0 scr4_0
  rw [View.canon_unit_zero hz2, View.ld_unit_zero hz2, View.ld_unit_zero hz2, View.ld_unit_zero hz2, View.ld_unit_zero hz2, View.ld_unit_zero hz2, blk4_1_eq V c pt4 d hd, blk4_3_eq V c pt4 y hy, blk4_4_eq V c pt4 m hm,
    blk4_6_eq V c pt4 x hx, blk4_7_eq V c pt4 w0 hw0]
  exact operand_apply _ _ _ _ _ l h
/-- The addend the first point stores. -/
theorem held4s_2_apply (c : Dev nD) (y : Vec Ideal S10000x1 .f32) (hy : V c main_v9_1 = y) (m : Vec Ideal S10000x1 .f32) (hm : V c main_v22 = m) (x : Vec Ideal S10000x32 .f32) (hx : V c main_v9_0 = x) (w1 : Vec Ideal S32x32 .f32) (hw1 : V c main_arg10 = w1) (b : Vec Ideal S1x32 .f32) (hb : V c main_v23 = b) (i : Fin 10000) (h : Fin 32) :
    held4s_2 V c (ix2 i h) = (∑ q : Fin 32, (x (ix2 i q) * Ideal.div (m (ix2 i 0)) (1 + Ideal.exp (-(y (ix2 i 0))))) * w1 (ix2 q h)) + b (ix2 0 h) := by
  unfold held4s_2 scr4_2
  rw [View.canon_unit_zero hz2, View.ld_unit_zero hz2, View.ld_unit_zero hz2, View.ld_unit_zero hz2, View.ld_unit_zero hz2, View.ld_unit_zero hz2, blk4_3_eq V c pt4 y hy, blk4_4_eq V c pt4 m hm,
    blk4_6_eq V c pt4 x hx, blk4_8_eq V c pt4 w1 hw1, blk4_9_eq V c pt4 b hb]
  exact addend_apply _ _ _ _ _ i h
theorem coord4 : ∀ t : Fin cfg4.N, ((grid4.coords t) 0).val = t.val := by decide +kernel
/-- The rows of the addend that a point loads. -/
theorem ld4 (s : Vec Ideal S10000x32 .f32) (t : Fin cfg4.N) (r : Fin 400) (h : Fin 32) :
    View.ld s (Rect.unit (s := S10000x32) (k4_off1 (grid4.coords t)) S400x32.size (k4_off1_inb (grid4.coords t))) (ix2 r h)
      = s (ix2 (row t.val (lt4 t) r) h) := by
  refine congrArg s (funext fun a => Fin.ext ?_)
  match a with
  | ⟨0, _⟩ =>
    show (k4_off1 (grid4.coords t)) 0 + 1 * r.val = t.val * 400 + r.val
    rw [k4_off1_eq]
    show 400 * ((grid4.coords t) 0).val + 1 * r.val = t.val * 400 + r.val
    rw [coord4]; omega
  | ⟨1, _⟩ =>
    show (k4_off1 (grid4.coords t)) 1 + 1 * h.val = h.val
    rw [k4_off1_eq]
    show 0 + 1 * h.val = h.val
    omega
/-- One block of the features. -/
theorem block4 (c : Dev nD) (A : Vec Ideal S10000x10000 .bf16) (hA : V c main_v6_0 = A) (d : Vec Ideal S10000x1 .f32) (hd : V c main_v21 = d) (y : Vec Ideal S10000x1 .f32) (hy : V c main_v9_1 = y) (m : Vec Ideal S10000x1 .f32) (hm : V c main_v22 = m) (x : Vec Ideal S10000x32 .f32) (hx : V c main_v9_0 = x) (w0 : Vec Ideal S32x32 .f32) (hw0 : V c main_arg9 = w0) (w1 : Vec Ideal S32x32 .f32) (hw1 : V c main_arg10 = w1) (b : Vec Ideal S1x32 .f32) (hb : V c main_v23 = b) (t : Fin cfg4.N) (s : Vec Ideal S400x32 .f32)
    (hs : s = View.ld (held4s_2 V c) (Rect.unit (s := S10000x32) (k4_off1 (grid4.coords t)) S400x32.size (k4_off1_inb (grid4.coords t))))
    (r : Fin 400) (h : Fin 32) :
    k4_pay8 (F := Ideal) (blk4 V c 0 t) (held4s_0 V c) (blk4 V c 2 t) s (blk4 V c 5 t) (ix2 r h) = feat2 A d y m x w0 w1 b (row t.val (lt4 t) r) h := by
  subst hs
  refine (conv2_apply _ _ _ _ _ r h).trans ?_
  rw [blk4_2_apply V c t d hd, blk4_5_apply V c t m hm, ld4, held4s_2_apply V c y hy m hm x hx w1 hw1 b hb]
  simp only [blk4_0_apply V c t A hA, held4s_0_apply V c d hd y hy m hm x hx w0 hw0]
  rfl
theorem at4_11 : ∀ t : Fin cfg4.N, win4_11.index t 0 = t.val ∧ win4_11.index t 1 = 0 := by decide +kernel
theorem emb4_11 (t : Fin cfg4.N) (r : Fin 400) (z : Fin 32) :
    (win4_11.rect t).emb (ix2 r z) = (ix2 (row t.val (lt4 t) r) z : S10000x32.Idx) := by
  refine funext fun a => Fin.ext ?_
  match a with
  | ⟨0, _⟩ => exact (win4_11.rect_emb_val t (ix2 r z) 0).trans (by rw [(at4_11 t).1]; rfl)
  | ⟨1, _⟩ => exact win4_11.rect_emb_val_of_index_zero t 1 (at4_11 t).2 (ix2 r z)
/-- The blocks written fill the array. -/
theorem cover4_11 (i : S10000x32.Idx) : ∃ t : Fin cfg4.N, (cfg4.win 11).flush t = true ∧ i ∈ ((cfg4.win 11).blk t).view.set := by
  have h0 : (i 0 : Nat) < 10000 := (i 0).isLt
  obtain ⟨t, ht⟩ : ∃ t : Fin cfg4.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win4_11.rect t).emb (ix2 r (i 1)) = i := (emb4_11 t r (i 1)).trans (funext fun a => Fin.ext (by
    match a with
    | ⟨0, _⟩ => show t.val * 400 + r.val = (i 0 : Nat); omega
    | ⟨1, _⟩ => rfl))
  exact ⟨t, flush4_11 t, Eq.subst (motive := fun j : S10000x32.Idx => j ∈ ((cfg4.win 11).blk t).view.set) e
    (View.emb_mem_set ((cfg4.win 11).blk t).view (ix2 r (i 1)))⟩
theorem at4_12 : ∀ t : Fin cfg4.N, win4_12.index t 0 = t.val ∧ win4_12.index t 1 = 0 := by decide +kernel
theorem emb4_12 (t : Fin cfg4.N) (r : Fin 400) (z : Fin 1) :
    (win4_12.rect t).emb (ix2 r z) = (ix2 (row t.val (lt4 t) r) z : S10000x1.Idx) := by
  refine funext fun a => Fin.ext ?_
  match a with
  | ⟨0, _⟩ => exact (win4_12.rect_emb_val t (ix2 r z) 0).trans (by rw [(at4_12 t).1]; rfl)
  | ⟨1, _⟩ => exact win4_12.rect_emb_val_of_index_zero t 1 (at4_12 t).2 (ix2 r z)
/-- The blocks written fill the array. -/
theorem cover4_12 (i : S10000x1.Idx) : ∃ t : Fin cfg4.N, (cfg4.win 12).flush t = true ∧ i ∈ ((cfg4.win 12).blk t).view.set := by
  have h0 : (i 0 : Nat) < 10000 := (i 0).isLt
  obtain ⟨t, ht⟩ : ∃ t : Fin cfg4.N, t.val = (i 0 : Nat) / 400 := ⟨⟨(i 0 : Nat) / 400, by show _ < 25; omega⟩, rfl⟩
  obtain ⟨r, hr⟩ : ∃ r : Fin 400, r.val = (i 0 : Nat) % 400 := ⟨⟨(i 0 : Nat) % 400, by omega⟩, rfl⟩
  have e : (win4_12.rect t).emb (ix2 r (i 1)) = i := (emb4_12 t r (i 1)).trans (funext fun a => Fin.ext (by
    match a with
    | ⟨0, _⟩ => show t.val * 400 + r.val = (i 0 : Nat); omega
    | ⟨1, _⟩ => rfl))
  exact ⟨t, flush4_12 t, Eq.subst (motive := fun j : S10000x1.Idx => j ∈ ((cfg4.win 12).blk t).view.set) e
    (View.emb_mem_set ((cfg4.win 12).blk t).view (ix2 r (i 1)))⟩
/-- The features. -/
theorem final4_11 (c : Dev nD) (A : Vec Ideal S10000x10000 .bf16) (hA : V c main_v6_0 = A) (d : Vec Ideal S10000x1 .f32) (hd : V c main_v21 = d) (y : Vec Ideal S10000x1 .f32) (hy : V c main_v9_1 = y) (m : Vec Ideal S10000x1 .f32) (hm : V c main_v22 = m) (x : Vec Ideal S10000x32 .f32) (hx : V c main_v9_0 = x) (w0 : Vec Ideal S32x32 .f32) (hw0 : V c main_arg9 = w0) (w1 : Vec Ideal S32x32 .f32) (hw1 : V c main_arg10 = w1) (b : Vec Ideal S1x32 .f32) (hb : V c main_v23 = b) (i : Fin 10000) (z : Fin 32) :
    (dat4 V c).arrAt 11 cfg4.N (ix2 i z) = feat2 A d y m x w0 w1 b i z := by
  have key := (dat4 V c).arrAt_eq_of_cover 11 ((fun j => feat2 A d y m x w0 w1 b (j 0) (j 1)) : S10000x32.Idx → EReal) (fun t _ => ?_) cover4_11
  · exact congrFun key (ix2 i z)
  · show (dat4 V c).after 11 t = _
    rw [leaves4_11]
    unfold out4_11
    rw [View.canon_unit_zero hz2, View.ld_unit_zero hz2, View.ld_unit_zero hz2, View.ld_unit_zero hz2, View.ld_unit_zero hz2]
    funext y
    obtain ⟨r, z, rfl⟩ : ∃ (r : Fin 400) (z : Fin 32), y = ix2 r z := ⟨y 0, y 1, eq_ix2 y⟩
    refine (block4 V c A hA d hd y hy m hm x hx w0 hw0 w1 hw1 b hb t _ rfl r z).trans ?_
    show _ = ((fun j => feat2 A d y m x w0 w1 b (j 0) (j 1)) : S10000x32.Idx → EReal) ((win4_11.rect t).emb (ix2 r z))
    rw [emb4_11]; rfl
/-- The scores. -/
theorem final4_12 (c : Dev nD) (A : Vec Ideal S10000x10000 .bf16) (hA : V c main_v6_0 = A) (d : Vec Ideal S10000x1 .f32) (hd : V c main_v21 = d) (y : Vec Ideal S10000x1 .f32) (hy : V c main_v9_1 = y) (m : Vec Ideal S10000x1 .f32) (hm : V c main_v22 = m) (x : Vec Ideal S10000x32 .f32) (hx : V c main_v9_0 = x) (w0 : Vec Ideal S32x32 .f32) (hw0 : V c main_arg9 = w0) (w1 : Vec Ideal S32x32 .f32) (hw1 : V c main_arg10 = w1) (b : Vec Ideal S1x32 .f32) (hb : V c main_v23 = b) (p : Vec Ideal S32x1 .f32) (hp : V c main_v5 = p) (i : Fin 10000) (z : Fin 1) :
    (dat4 V c).arrAt 12 cfg4.N (ix2 i z) = ∑ q, feat2 A d y m x w0 w1 b i q * p (ix2 q 0) := by
  have key := (dat4 V c).arrAt_eq_of_cover 12 ((fun j => ∑ q, feat2 A d y m x w0 w1 b (j 0) q * p (ix2 q 0)) : S10000x1.Idx → EReal) (fun t _ => ?_) cover4_12
  · exact congrFun key (ix2 i z)
  · show (dat4 V c).after 12 t = _
    rw [leaves4_12]
    unfold out4_12
    rw [View.canon_unit_zero hz2, View.ld_unit_zero hz2, View.ld_unit_zero hz2, View.ld_unit_zero hz2, View.ld_unit_zero hz2, View.ld_unit_zero hz2]
    funext y
    obtain ⟨r, z, rfl⟩ : ∃ (r : Fin 400) (z : Fin 1), y = ix2 r z := ⟨y 0, y 1, eq_ix2 y⟩
    refine (score2_apply _ _ _ _ _ _ r z).trans ?_
    show _ = ((fun j => ∑ q, feat2 A d y m x w0 w1 b (j 0) q * p (ix2 q 0)) : S10000x1.Idx → EReal) ((win4_12.rect t).emb (ix2 r z))
    rw [emb4_12, blk4_10_eq V c t p hp, Finset.sum_congr rfl fun q _ => by rw [block4 V c A hA d hd y hy m hm x hx w0 hw0 w1 hw1 b hb t _ rfl]]; rfl
end Cert.KernelIdeal.Calls

end
-- ==== Proof.KernelIdeal.Conv3Value.lean ====
/- What the third convolution leaves. -/
module

public import proofs.«01_k».proof.Proof.KernelIdeal.Conv3
public import proofs.«01_k».proof.Proof.KernelIdeal.Payloads
public import proofs.«01_k».proof.Proof.KernelIdeal.Blocks

@[expose] public section

set_option maxRecDepth 16384

noncomputable section

namespace Cert.KernelIdeal.Calls

open Cert.KernelIdeal Cert.KernelIdeal.Gen Cert.KernelIdeal.Payloads
open Idealize.ShloMosaic Idealize.ShloMosaic.TcCoe
open Idealize.ShloMosaic.Pipeline (Dat Cfg Window)
open Cert.Math

variable (V : (c : Dev nD) → (b : Ref sig .tc) → Buf (Elt Ideal) ((c : Thread nD τ).loc b))

/-- The layer's features from the call's operands. -/
def feat3 (A : Vec Ideal S10000x10000 .bf16) (d y m : Vec Ideal S10000x1 .f32) (x : Vec Ideal S10000x32 .f32) (w0 w1 : Vec Ideal S32x32 .f32) (b : Vec Ideal S1x32 .f32) (i : Fin 10000) (h : Fin 32) : EReal :=
  max (d (ix2 i 0) * ((∑ l, A (ix2 i l) * (d (ix2 l 0) * ∑ q : Fin 32, (x (ix2 l q) * Ideal.div (m (ix2 l 0)) (1 + Ideal.exp (-(y (ix2 l 0))))) * w0 (ix2 q h))) + ∑ l, A (ix2 i l) * ((d (ix2 l 0) * ∑ q : Fin 32, (x (ix2 l q) * Ideal.div (m (ix2 l 0)) (1 + Ideal.exp (-(y (ix2 l 0))))) * w0 (ix2 q h)) - (d (ix2 l 0) * ∑ q : Fin 32, (x (ix2 l q) * Ideal.div (m (ix2 l 0)) (1 + Ideal.exp (-(y (ix2 l 0))))) * w0 (ix2 q h)))) + ((∑ q : Fin 32, (x (ix2 i q) * Ideal.div (m (ix2 i 0)) (1 + Ideal.exp (-(y (ix2 i 0))))) * w1 (ix2 q h)) + b (ix2 0 h))) 0 * m (ix2 i 0)

theorem lt6 (t : Fin cfg6.N) : t.val < 25 := t.isLt
theorem at6_0 : ∀ t : Fin cfg6.N, win6_0.index t 0 = t.val ∧ win6_0.index t 1 = 0 := by decide +kernel
theorem blk6_0_apply (c : Dev nD) (t : Fin cfg6.N) (A : Vec Ideal S10000x10000 .bf16) (hA : V c main_v6_0 = A) (r : Fin 400) (l : Fin 10000) :
    blk6 V c 0 t (ix2 r l) = A (ix2 (row t.val (lt6 t) r) l) := by
  subst hA
  refine congrArg (V c main_v6_0) (funext fun a => Fin.ext ?_)
  match a with
  | ⟨0, _⟩ => exact (win6_0.rect_emb_val t (ix2 r l) 0).trans (by rw [(at6_0 t).1]; rfl)
  | ⟨1, _⟩ => exact win6_0.rect_emb_val_of_index_zero t 1 (at6_0 t).2 (ix2 r l)
theorem at6_1 : ∀ t : Fin cfg6.N, win6_1.index t 0 = 0 ∧ win6_1.index t 1 = 0 := by decide +kernel
theorem blk6_1_eq (c : Dev nD) (t : Fin cfg6.N) (A : Vec Ideal S10000x1 .f32) (hA : V c main_v43 = A) : blk6 V c 1 t = A := by
  subst hA
  refine funext fun y => congrArg (V c main_v43) (funext fun a => Fin.ext ?_)
  match a with
  | ⟨0, _⟩ => exact win6_1.rect_emb_val_of_index_zero t 0 (at6_1 t).1 y
  | ⟨1, _⟩ => exact win6_1.rect_emb_val_of_index_zero t 1 (at6_1 t).2 y
theorem at6_2 : ∀ t : Fin cfg6.N, win6_2.index t 0 = t.val ∧ win6_2.index t 1 = 0 := by decide +kernel
theorem blk6_2_apply (c : Dev nD) (t : Fin cfg6.N) (A : Vec Ideal S10000x1 .f32) (hA : V c main_v43 = A) (r : Fin 400) (l : Fin 1) :
    blk6 V c 2 t (ix2 r l) = A (ix2 (row t.val (lt6 t) r) l) := by
  subst hA
  refine congrArg (V c main_v43) (funext fun a => Fin.ext ?_)
  match a with
  | ⟨0, _⟩ => exact (win6_2.rect_emb_val t (ix2 r l) 0).trans (by rw [(at6_2 t).1]; rfl)
  | ⟨1, _⟩ => exact win6_2.rect_emb_val_of_index_zero t 1 (at6_2 t).2 (ix2 r l)
theorem at6_3 : ∀ t : Fin cfg6.N, win6_3.index t 0 = 0 ∧ win6_3.index t 1 = 0 := by decide +kernel
theorem blk6_3_eq (c : Dev nD) (t : Fin cfg6.N) (A : Vec Ideal S10000x1 .f32) (hA : V c main_v24_1 = A) : blk6 V c 3 t = A := by
  subst hA
  refine funext fun y => congrArg (V c main_v24_1) (funext fun a => Fin.ext ?_)
  match a with
  | ⟨0, _⟩ => exact win6_3.rect_emb_val_of_index_zero t 0 (at6_3 t).1 y
  | ⟨1, _⟩ => exact win6_3.rect_emb_val_of_index_zero t 1 (at6_3 t).2 y
theorem at6_4 : ∀ t : Fin cfg6.N, win6_4.index t 0 = 0 ∧ win6_4.index t 1 = 0 := by decide +kernel
theorem blk6_4_eq (c : Dev nD) (t : Fin cfg6.N) (A : Vec Ideal S10000x1 .f32) (hA : V c main_v44 = A) : blk6 V c 4 t = A := by
  subst hA
  refine funext fun y => congrArg (V c main_v44) (funext fun a => Fin.ext ?_)
  match a with
  | ⟨0, _⟩ => exact win6_4.rect_emb_val_of_index_zero t 0 (at6_4 t).1 y
  | ⟨1, _⟩ => exact win6_4.rect_emb_val_of_index_zero t 1 (at6_4 t).2 y
theorem at6_5 : ∀ t : Fin cfg6.N, win6_5.index t 0 = t.val ∧ win6_5.index t 1 = 0 := by decide +kernel
theorem blk6_5_apply (c : Dev nD) (t : Fin cfg6.N) (A : Vec Ideal S10000x1 .f32) (hA : V c main_v44 = A) (r : Fin 400) (l : Fin 1) :
    blk6 V c 5 t (ix2 r l) = A (ix2 (row t.val (lt6 t) r) l) := by
  subst hA
  refine congrArg (V c main_v44) (funext fun a => Fin.ext ?_)
  match a with
  | ⟨0, _⟩ => exact (win6_5.rect_emb_val t (ix2 r l) 0).trans (by rw [(at6_5 t).1]; rfl)
  | ⟨1, _⟩ => exact win6_5.rect_emb_val_of_index_zero t 1 (at6_5 t).2 (ix2 r l)
theorem at6_6 : ∀ t : Fin cfg6.N, win6_6.index t 0 = 0 ∧ win6_6.index t 1 = 0 := by decide +kernel
theorem blk6_6_eq (c : Dev nD) (t : Fin cfg6.N) (A : Vec Ideal S10000x32 .f32) (hA : V c main_v24_0 = A) : blk6 V c 6 t = A := by
  subst hA
  refine funext fun y => congrArg (V c main_v24_0) (funext fun a => Fin.ext ?_)
  match a with
  | ⟨0, _⟩ => exact win6_6.rect_emb_val_of_index_zero t 0 (at6_6 t).1 y
  | ⟨1, _⟩ => exact win6_6.rect_emb_val_of_index_zero t 1 (at6_6 t).2 y
theorem at6_7 : ∀ t : Fin cfg6.N, win6_7.index t 0 = 0 ∧ win6_7.index t 1 = 0 := by decide +kernel
theorem blk6_7_eq (c : Dev nD) (t : Fin cfg6.N) (A : Vec Ideal S32x32 .f32) (hA : V c main_arg12 = A) : blk6 V c 7 t = A := by
  subst hA
  refine funext fun y => congrArg (V c main_arg12) (funext fun a => Fin.ext ?_)
  match a with
  | ⟨0, _⟩ => exact win6_7.rect_emb_val_of_index_zero t 0 (at6_7 t).1 y
  | ⟨1, _⟩ => exact win6_7.rect_emb_val_of_index_zero t 1 (at6_7 t).2 y
theorem at6_8 : ∀ t : Fin cfg6.N, win6_8.index t 0 = 0 ∧ win6_8.index t 1 = 0 := by decide +kernel
theorem blk6_8_eq (c : Dev nD) (t : Fin cfg6.N) (A : Vec Ideal S32x32 .f32) (hA : V c main_arg13 = A) : blk6 V c 8 t = A := by
  subst hA
  refine funext fun y => congrArg (V c main_arg13) (funext fun a => Fin.ext ?_)
  match a with
  | ⟨0, _⟩ => exact win6_8.rect_emb_val_of_index_zero t 0 (at6_8 t).1 y
  | ⟨1, _⟩ => exact win6_8.rect_emb_val_of_index_zero t 1 (at6_8 t).2 y
theorem at6_9 : ∀ t : Fin cfg6.N, win6_9.index t 0 = 0 ∧ win6_9.index t 1 = 0 := by decide +kernel
theorem blk6_9_eq (c : Dev nD) (t : Fin cfg6.N) (A : Vec Ideal S1x32 .f32) (hA : V c main_v45 = A) : blk6 V c 9 t = A := by
  subst hA
  refine funext fun y => congrArg (V c main_v45) (funext fun a => Fin.ext ?_)
  match a with
  | ⟨0, _⟩ => exact win6_9.rect_emb_val_of_index_zero t 0 (at6_9 t).1 y
  | ⟨1, _⟩ => exact win6_9.rect_emb_val_of_index_zero t 1 (at6_9 t).2 y
/-- The operand the first point stores. -/
theorem held6s_0_apply (c : Dev nD) (d : Vec Ideal S10000x1 .f32) (hd : V c main_v43 = d) (y : Vec Ideal S10000x1 .f32) (hy : V c main_v24_1 = y) (m : Vec Ideal S10000x1 .f32) (hm : V c main_v44 = m) (x : Vec Ideal S10000x32 .f32) (hx : V c main_v24_0 = x) (w0 : Vec Ideal S32x32 .f32) (hw0 : V c main_arg12 = w0) (l : Fin 10000) (h : Fin 32) :
    held6s_0 V c (ix2 l h) = d (ix2 l 0) * ∑ q : Fin 32, (x (ix2 l q) * Ideal.div (m (ix2 l 0)) (1 + Ideal.exp (-(y (ix2 l 0))))) * w0 (ix2 q h) := by
  unfold held6s_0 scr6_0
  rw [View.canon_unit_zero hz2, View.ld_unit_zero hz2, View.ld_unit_zero hz2, View.ld_unit_zero hz2, View.ld_unit_zero hz2, View.ld_unit_zero hz2, blk6_1_eq V c pt6 d hd, blk6_3_eq V c pt6 y hy, blk6_4_eq V c pt6 m hm,
    blk6_6_eq V c pt6 x hx, blk6_7_eq V c pt6 w0 hw0]
  exact operand3_apply _ _ _ _ _ l h
/-- and its low part. -/
theorem held6s_1_apply (c : Dev nD) (d : Vec Ideal S10000x1 .f32) (hd : V c main_v43 = d) (y : Vec Ideal S10000x1 .f32) (hy : V c main_v24_1 = y) (m : Vec Ideal S10000x1 .f32) (hm : V c main_v44 = m) (x : Vec Ideal S10000x32 .f32) (hx : V c main_v24_0 = x) (w0 : Vec Ideal S32x32 .f32) (hw0 : V c main_arg12 = w0) (l : Fin 10000) (h : Fin 32) :
    held6s_1 V c (ix2 l h) = (d (ix2 l 0) * ∑ q : Fin 32, (x (ix2 l q) * Ideal.div (m (ix2 l 0)) (1 + Ideal.exp (-(y (ix2 l 0))))) * w0 (ix2 q h)) - (d (ix2 l 0) * ∑ q : Fin 32, (x (ix2 l q) * Ideal.div (m (ix2 l 0)) (1 + Ideal.exp (-(y (ix2 l 0))))) * w0 (ix2 q h)) := by
  unfold held6s_1 scr6_1
  rw [View.canon_unit_zero hz2, View.ld_unit_zero hz2, View.ld_unit_zero hz2, View.ld_unit_zero hz2, View.ld_unit_zero hz2, View.ld_unit_zero hz2, blk6_1_eq V c pt6 d hd, blk6_3_eq V c pt6 y hy, blk6_4_eq V c pt6 m hm,
    blk6_6_eq V c pt6 x hx, blk6_7_eq V c pt6 w0 hw0]
  refine (residual_apply _ _ _ _ _ l h).trans ?_
  rw [operand3_apply]
/-- The addend the first point stores. -/
theorem held6s_2_apply (c : Dev nD) (y : Vec Ideal S10000x1 .f32) (hy : V c main_v24_1 = y) (m : Vec Ideal S10000x1 .f32) (hm : V c main_v44 = m) (x : Vec Ideal S10000x32 .f32) (hx : V c main_v24_0 = x) (w1 : Vec Ideal S32x32 .f32) (hw1 : V c main_arg13 = w1) (b : Vec Ideal S1x32 .f32) (hb : V c main_v45 = b) (i : Fin 10000) (h : Fin 32) :
    held6s_2 V c (ix2 i h) = (∑ q : Fin 32, (x (ix2 i q) * Ideal.div (m (ix2 i 0)) (1 + Ideal.exp (-(y (ix2 i 0))))) * w1 (ix2 q h)) + b (ix2 0 h) := by
  unfold held6s_2 scr6_2
  rw [View.canon_unit_zero hz2, View.ld_unit_zero hz2, View.ld_unit_zero hz2, View.ld_unit_zero hz2, View.ld_unit_zero hz2, View.ld_unit_zero hz2, blk6_3_eq V c pt6 y hy, blk6_4_eq V c pt6 m hm,
    blk6_6_eq V c pt6 x hx, blk6_8_eq V c pt6 w1 hw1, blk6_9_eq V c pt6 b hb]
  exact addend3_apply _ _ _ _ _ i h
theorem coord6 : ∀ t : Fin cfg6.N, ((grid6.coords t) 0).val = t.val := by decide +kernel
/-- The rows of the addend that a point loads. -/
theorem ld6 (s : Vec Ideal S10000x32 .f32) (t : Fin cfg6.N) (r : Fin 400) (h : Fin 32) :
    View.ld s (Rect.unit (s := S10000x32) (k6_off1 (grid6.coords t)) S400x32.size (k6_off1_inb (grid6.coords t))) (ix2 r h)
      = s (ix2 (row t.val (lt6 t) r) h) := by
  refine congrArg s (funext fun a => Fin.ext ?_)
  match a with
  | ⟨0, _⟩ =>
    show (k6_off1 (grid6.coords t)) 0 + 1 * r.val = t.val * 400 + r.val
    rw [k6_off1_eq]
    show 400 * ((grid6.coords t) 0).val + 1 * r.val = t.val * 400 + r.val
    rw [coord6]; omega
  | ⟨1, _⟩ =>
    show (k6_off1 (grid6.coords t)) 1 + 1 * h.val = h.val
    rw [k6_off1_eq]
    show 0 + 1 * h.val = h.val
    omega
/-- One block of the features. -/
theorem block6 (c : Dev nD) (A : Vec Ideal S10000x10000 .bf16) (hA : V c main_v6_0 = A) (d : Vec Ideal S10000x1 .f32) (hd : V c main_v43 = d) (y : Vec Ideal S10000x1 .f32) (hy : V c main_v24_1 = y) (m : Vec Ideal S10000x1 .f32) (hm : V c main_v44 = m) (x : Vec Ideal S10000x32 .f32) (hx : V c main_v24_0 = x) (w0 : Vec Ideal S32x32 .f32) (hw0 : V c main_arg12 = w0) (w1 : Vec Ideal S32x32 .f32) (hw1 : V c main_arg13 = w1) (b : Vec Ideal S1x32 .f32) (hb : V c main_v45 = b) (t : Fin cfg6.N) (s : Vec Ideal S400x32 .f32)
    (hs : s = View.ld (held6s_2 V c) (Rect.unit (s := S10000x32) (k6_off1 (grid6.coords t)) S400x32.size (k6_off1_inb (grid6.coords t))))
    (r : Fin 400) (h : Fin 32) :
    k6_pay9 (F := Ideal) (blk6 V c 0 t) (held6s_0 V c) (blk6 V c 0 t) (held6s_1 V c) (blk6 V c 2 t) s (blk6 V c 5 t) (ix2 r h) = feat3 A d y m x w0 w1 b (row t.val (lt6 t) r) h := by
  subst hs
  refine (conv3_apply _ _ _ _ _ _ _ r h).trans ?_
  rw [blk6_2_apply V c t d hd, blk6_5_apply V c t m hm, ld6, held6s_2_apply V c y hy m hm x hx w1 hw1 b hb]
  simp only [blk6_0_apply V c t A hA, held6s_0_apply V c d hd y hy m hm x hx w0 hw0, held6s_1_apply V c d hd y hy m hm x hx w0 hw0]
  rfl
theorem at6_13 : ∀ t : Fin cfg6.N, win6_13.index t 0 = t.val ∧ win6_13.index t 1 = 0 ∧ win6_13.index t 2 = 0 := by decide +kernel
theorem emb6_13 (t : Fin cfg6.N) (z z' : Fin 1) (h : Fin 32) :
    (win6_13.rect t).emb (ix3 z z' h) = (ix3 ⟨t.val, lt6 t⟩ z' h : S25x1x32.Idx) := by
  obtain rfl : z = 0 := Subsingleton.elim _ _
  refine funext fun a => Fin.ext ?_
  match a with
  | ⟨0, _⟩ => exact (win6_13.rect_emb_val t (ix3 0 z' h) 0).trans (by rw [(at6_13 t).1]; exact Nat.mul_one _)
  | ⟨1, _⟩ => exact win6_13.rect_emb_val_of_index_zero t 1 (at6_13 t).2.1 (ix3 0 z' h)
  | ⟨2, _⟩ => exact win6_13.rect_emb_val_of_index_zero t 2 (at6_13 t).2.2 (ix3 0 z' h)
/-- The blocks written fill the array. -/
theorem cover6_13 (i : S25x1x32.Idx) : ∃ t : Fin cfg6.N, (cfg6.win 13).flush t = true ∧ i ∈ ((cfg6.win 13).blk t).view.set := by
  have h0 : (i 0 : Nat) < 25 := (i 0).isLt
  obtain ⟨t, ht⟩ : ∃ t : Fin cfg6.N, t.val = (i 0 : Nat) := ⟨⟨(i 0 : Nat), h0⟩, rfl⟩
  have e : (win6_13.rect t).emb (ix3 (0 : Fin 1) (i 1) (i 2)) = i := (emb6_13 t 0 (i 1) (i 2)).trans (funext fun a => Fin.ext (by
    match a with
    | ⟨0, _⟩ => exact ht
    | ⟨1, _⟩ => rfl
    | ⟨2, _⟩ => rfl))
  exact ⟨t, flush6_13 t, Eq.subst (motive := fun j : S25x1x32.Idx => j ∈ ((cfg6.win 13).blk t).view.set) e
    (View.emb_mem_set ((cfg6.win 13).blk t).view (ix3 (0 : Fin 1) (i 1) (i 2)))⟩
/-- The block sums of the features. -/
theorem final6_13 (c : Dev nD) (A : Vec Ideal S10000x10000 .bf16) (hA : V c main_v6_0 = A) (d : Vec Ideal S10000x1 .f32) (hd : V c main_v43 = d) (y : Vec Ideal S10000x1 .f32) (hy : V c main_v24_1 = y) (m : Vec Ideal S10000x1 .f32) (hm : V c main_v44 = m) (x : Vec Ideal S10000x32 .f32) (hx : V c main_v24_0 = x) (w0 : Vec Ideal S32x32 .f32) (hw0 : V c main_arg12 = w0) (w1 : Vec Ideal S32x32 .f32) (hw1 : V c main_arg13 = w1) (b : Vec Ideal S1x32 .f32) (hb : V c main_v45 = b) (n : Fin 25) (z : Fin 1) (h : Fin 32) :
    (dat6 V c).arrAt 13 cfg6.N (ix3 n z h) = ∑ r : Fin 400, feat3 A d y m x w0 w1 b (row n.val n.isLt r) h := by
  have key := (dat6 V c).arrAt_eq_of_cover 13 ((fun j => ∑ r : Fin 400, feat3 A d y m x w0 w1 b (row (j 0).val (j 0).isLt r) (j 2)) : S25x1x32.Idx → EReal) (fun t _ => ?_) cover6_13
  · exact congrFun key (ix3 n z h)
  · show (dat6 V c).after 13 t = _
    rw [leaves6_13]
    unfold out6_13
    rw [View.canon_unit_zero hz3, View.ld_unit_zero hz2, View.ld_unit_zero hz2, View.ld_unit_zero hz2, View.ld_unit_zero hz2, View.ld_unit_zero hz2]
    funext y
    obtain ⟨z, z', h, rfl⟩ : ∃ (z z' : Fin 1) (h : Fin 32), y = ix3 z z' h := ⟨y 0, y 1, y 2, eq_ix3 y⟩
    refine (colsum_apply _ z z' h).trans ?_
    show _ = ((fun j => ∑ r : Fin 400, feat3 A d y m x w0 w1 b (row (j 0).val (j 0).isLt r) (j 2)) : S25x1x32.Idx → EReal) ((win6_13.rect t).emb (ix3 z z' h))
    rw [emb6_13, Finset.sum_congr rfl fun r _ => by rw [block6 V c A hA d hd y hy m hm x hx w0 hw0 w1 hw1 b hb t _ rfl]]; rfl
end Cert.KernelIdeal.Calls

end
-- ==== Proof.KernelIdeal.Values.lean ====
/-
  What each array of the kernel's program holds as the program goes on: the adjacency and its degree factors, the projections, the features
  and scores of the three layers, and the result.
-/
module

public import proofs.«01_k».proof.Proof.KernelIdeal.Host
public import proofs.«01_k».proof.Proof.KernelIdeal.CastValue
public import proofs.«01_k».proof.Proof.KernelIdeal.ProjValue
public import proofs.«01_k».proof.Proof.KernelIdeal.Conv1Value
public import proofs.«01_k».proof.Proof.KernelIdeal.Deg1Value
public import proofs.«01_k».proof.Proof.KernelIdeal.Deg2Value
public import proofs.«01_k».proof.Proof.KernelIdeal.Conv2Value
public import proofs.«01_k».proof.Proof.KernelIdeal.Conv3Value

@[expose] public section

set_option maxRecDepth 16384

noncomputable section

namespace Cert.KernelIdeal.Calls

open Cert.KernelIdeal Cert.KernelIdeal.Gen Cert.Math
open Idealize.ShloMosaic Idealize.ShloMosaic.TcCoe Idealize.ShloMosaic.Pointwise

variable (m : (ℓ : Loc nD τ sig) → Buf (Elt Ideal) ℓ) (c : Dev nD)

/-! ## The arguments, named -/

abbrev argX : Vec Ideal S10000x128 .f32 := m ((c : Thread nD τ).loc main_arg0)
abbrev argA : Vec Ideal S10000x10000 .f32 := m ((c : Thread nD τ).loc main_arg1)
abbrev argIdx1 : IVec S5000 32 := m ((c : Thread nD τ).loc main_arg3)
abbrev argIdx2 : IVec S2500 32 := m ((c : Thread nD τ).loc main_arg4)
abbrev argW01 : Vec Ideal S128x32 .f32 := m ((c : Thread nD τ).loc main_arg5)
abbrev argW11 : Vec Ideal S128x32 .f32 := m ((c : Thread nD τ).loc main_arg6)
abbrev argB1 : Vec Ideal S32 .f32 := m ((c : Thread nD τ).loc main_arg7)
abbrev argP : Vec Ideal S32 .f32 := m ((c : Thread nD τ).loc main_arg8)
abbrev argW02 : Vec Ideal S32x32 .f32 := m ((c : Thread nD τ).loc main_arg9)
abbrev argW12 : Vec Ideal S32x32 .f32 := m ((c : Thread nD τ).loc main_arg10)
abbrev argB2 : Vec Ideal S32 .f32 := m ((c : Thread nD τ).loc main_arg11)
abbrev argW03 : Vec Ideal S32x32 .f32 := m ((c : Thread nD τ).loc main_arg12)
abbrev argW13 : Vec Ideal S32x32 .f32 := m ((c : Thread nD τ).loc main_arg13)
abbrev argB3 : Vec Ideal S32 .f32 := m ((c : Thread nD τ).loc main_arg14)
abbrev argWd : Vec Ideal S32x1 .f32 := m ((c : Thread nD τ).loc main_arg15)
abbrev argBd : Vec Ideal S1 .f32 := m ((c : Thread nD τ).loc main_arg16)

/-! ## The arrays in between -/

/-- The adjacency as the calls hold it. -/
def adj : Vec Ideal S10000x10000 .bf16 := fun j => argA m c j
/-- The degree factors of all nodes. -/
def deg0 : Vec Ideal S10000x1 .f32 := fun j => dinv (∑ l, argA m c (ix2 (j 0) l))
/-- The two projections of the input features, the second with its bias. -/
def projU : Vec Ideal S10000x32 .f32 := fun j => ∑ q : Fin 128, argX m c (ix2 (j 0) q) * argW01 m c (ix2 q (j 1))
def projV : Vec Ideal S10000x32 .f32 := fun j => (∑ q : Fin 128, argX m c (ix2 (j 0) q) * argW11 m c (ix2 q (j 1))) + argB1 m c (ix1 (j 1))
/-- The normalised score weights. -/
def wts : Vec Ideal S32x1 .f32 := fun j => Ideal.div (argP m c (ix1 (j 0))) (Ideal.sqrt (∑ q : Fin 32, argP m c (ix1 q) * argP m c (ix1 q)))
/-- The first layer's features and scores. -/
def lay1 : Vec Ideal S10000x32 .f32 := fun j => feat1 (adj m c) (deg0 m c) (projU m c) (projV m c) (j 0) (j 1)
def sc1 : Vec Ideal S10000x1 .f32 := fun j => ∑ q, feat1 (adj m c) (deg0 m c) (projU m c) (projV m c) (j 0) q * wts m c (ix2 q 0)
/-- The first marks, as the columns the calls take. -/
def col1 : Vec Ideal S10000x1 .f32 := fun j => marks1 (argIdx1 m c) (ix1 (j 0))
def col1' : Vec Ideal S10000x1 .bf16 := fun j => marks1 (argIdx1 m c) (ix1 (j 0))
/-- The degree factors among the marked nodes. -/
def deg1 : Vec Ideal S10000x1 .f32 := fun j => dinv (∑ l, adj m c (ix2 (j 0) l) * col1' m c (ix2 l 0))
/-- The bias rows. -/
def biasRow2 : Vec Ideal S1x32 .f32 := fun j => argB2 m c (ix1 (j 1))
def biasRow3 : Vec Ideal S1x32 .f32 := fun j => argB3 m c (ix1 (j 1))
/-- The second layer's features and scores. -/
def lay2 : Vec Ideal S10000x32 .f32 := fun j => feat2 (adj m c) (deg1 m c) (sc1 m c) (col1 m c) (lay1 m c) (argW02 m c) (argW12 m c) (biasRow2 m c) (j 0) (j 1)
def sc2 : Vec Ideal S10000x1 .f32 := fun j => ∑ q, feat2 (adj m c) (deg1 m c) (sc1 m c) (col1 m c) (lay1 m c) (argW02 m c) (argW12 m c) (biasRow2 m c) (j 0) q * wts m c (ix2 q 0)
/-- The second marks. -/
def col2 : Vec Ideal S10000x1 .f32 := fun j => marks2 (argIdx1 m c) (argIdx2 m c) (ix1 (j 0))
def col2' : Vec Ideal S10000x1 .bf16 := fun j => marks2 (argIdx1 m c) (argIdx2 m c) (ix1 (j 0))
def deg2 : Vec Ideal S10000x1 .f32 := fun j => dinv (∑ l, adj m c (ix2 (j 0) l) * col2' m c (ix2 l 0))
/-- The third layer's features, and their sums over each block of rows. -/
def lay3 (i : Fin 10000) (h : Fin 32) : EReal := feat3 (adj m c) (deg2 m c) (sc2 m c) (col2 m c) (lay2 m c) (argW03 m c) (argW13 m c) (biasRow3 m c) i h
def sums : Vec Ideal S25x1x32 .f32 := fun j => ∑ r : Fin 400, lay3 m c (row (j 0).val (j 0).isLt r) (j 2)

/-- The block sums together are the sum over all nodes. -/
theorem sums_all (h : Fin 32) : ∑ n : Fin 25, sums m c (ix3 n (0 : Fin 1) h) = ∑ i : Fin 10000, lay3 m c i h :=
  sum_rows fun i => lay3 m c i h

/-! ## The arguments at every stage -/

theorem W1_arg (a : Ref sig .tc) (h : a ∈ argRefs) : W1 m c (Proc.devRef .tc a) = m ((c : Thread nD τ).loc a) :=
  (W1_of m c a (safe1 a h)).trans rfl
theorem W2_arg (a : Ref sig .tc) (h : a ∈ argRefs) : W2 m c (Proc.devRef .tc a) = m ((c : Thread nD τ).loc a) :=
  (W2_of m c a (safe2 a h)).trans (W1_arg m c a h)
theorem W3_arg (a : Ref sig .tc) (h : a ∈ argRefs) : W3 m c (Proc.devRef .tc a) = m ((c : Thread nD τ).loc a) :=
  (W3_of m c a (safe3 a h)).trans (W2_arg m c a h)
theorem W4_arg (a : Ref sig .tc) (h : a ∈ argRefs) : W4 m c (Proc.devRef .tc a) = m ((c : Thread nD τ).loc a) :=
  (W4_of m c a (safe4 a h)).trans (W3_arg m c a h)
theorem W5_arg (a : Ref sig .tc) (h : a ∈ argRefs) : W5 m c (Proc.devRef .tc a) = m ((c : Thread nD τ).loc a) :=
  (W5_of m c a (safe5 a h)).trans (W4_arg m c a h)
theorem W6_arg (a : Ref sig .tc) (h : a ∈ argRefs) : W6 m c (Proc.devRef .tc a) = m ((c : Thread nD τ).loc a) :=
  (W6_of m c a (safe6 a h)).trans (W5_arg m c a h)
theorem W7_arg (a : Ref sig .tc) (h : a ∈ argRefs) : W7 m c (Proc.devRef .tc a) = m ((c : Thread nD τ).loc a) :=
  (W7_of m c a (safe7 a h)).trans (W6_arg m c a h)
theorem W8_arg (a : Ref sig .tc) (h : a ∈ argRefs) : W8 m c (Proc.devRef .tc a) = m ((c : Thread nD τ).loc a) :=
  (W8_of m c a (safe8 a h)).trans (W7_arg m c a h)
theorem W9_arg (a : Ref sig .tc) (h : a ∈ argRefs) : W9 m c (Proc.devRef .tc a) = m ((c : Thread nD τ).loc a) :=
  (W9_of m c a (safe9 a h)).trans (W8_arg m c a h)
theorem W10_arg (a : Ref sig .tc) (h : a ∈ argRefs) : W10 m c (Proc.devRef .tc a) = m ((c : Thread nD τ).loc a) :=
  (W10_of m c a (safe10 a h)).trans (W9_arg m c a h)
theorem W11_arg (a : Ref sig .tc) (h : a ∈ argRefs) : W11 m c (Proc.devRef .tc a) = m ((c : Thread nD τ).loc a) :=
  (W11_of m c a (safe11 a h)).trans (W10_arg m c a h)
theorem W12_arg (a : Ref sig .tc) (h : a ∈ argRefs) : W12 m c (Proc.devRef .tc a) = m ((c : Thread nD τ).loc a) :=
  (W12_of m c a (safe12 a h)).trans (W11_arg m c a h)
theorem W13_arg (a : Ref sig .tc) (h : a ∈ argRefs) : W13 m c (Proc.devRef .tc a) = m ((c : Thread nD τ).loc a) :=
  (W13_of m c a (safe13 a h)).trans (W12_arg m c a h)

/-! ## What each stretch and each call leaves -/

theorem at1_v5 : W1 m c (Proc.devRef .tc main_v5) = wts m c :=
  v5_of _ _ rfl

theorem at2_v6_0 : W2 m c (Proc.devRef .tc main_v6_0) = adj m c :=
  (W2_arr m c 1).trans <| funext fun j => by
    obtain ⟨i, z, rfl⟩ : ∃ i z, j = ix2 i z := ⟨j 0, j 1, eq_ix2 j⟩
    exact final0_1 (E1 m) c _ (W1_arg m c main_arg1 (by decide +kernel)) i z

theorem at2_v6_1 : W2 m c (Proc.devRef .tc main_v6_1) = deg0 m c :=
  (W2_arr m c 2).trans <| funext fun j => by
    obtain ⟨i, z, rfl⟩ : ∃ i z, j = ix2 i z := ⟨j 0, j 1, eq_ix2 j⟩
    exact final0_2 (E1 m) c _ (W1_arg m c main_arg1 (by decide +kernel)) i z

theorem at3_v7 : W3 m c (Proc.devRef .tc main_v7) = (fun j => argB1 m c (ix1 (j 1)) : Vec Ideal S1x32 .f32) :=
  v7_of _ _ (W2_arg m c main_arg7 (by decide +kernel))

theorem at4_v8_0 : W4 m c (Proc.devRef .tc main_v8_0) = projU m c :=
  (W4_arr m c 4).trans <| funext fun j => by
    obtain ⟨i, z, rfl⟩ : ∃ i z, j = ix2 i z := ⟨j 0, j 1, eq_ix2 j⟩
    exact final1_4 (E3 m) c _ (W3_arg m c main_arg0 (by decide +kernel)) _ (W3_arg m c main_arg5 (by decide +kernel)) i z

theorem at4_v8_1 : W4 m c (Proc.devRef .tc main_v8_1) = projV m c :=
  (W4_arr m c 5).trans <| funext fun j => by
    obtain ⟨i, z, rfl⟩ : ∃ i z, j = ix2 i z := ⟨j 0, j 1, eq_ix2 j⟩
    exact final1_5 (E3 m) c _ (W3_arg m c main_arg0 (by decide +kernel)) _ (W3_arg m c main_arg6 (by decide +kernel)) _ (at3_v7 m c) i z

theorem at5_v9_0 : W5 m c (Proc.devRef .tc main_v9_0) = lay1 m c :=
  (W5_arr m c 6).trans <| funext fun j => by
    obtain ⟨i, z, rfl⟩ : ∃ i z, j = ix2 i z := ⟨j 0, j 1, eq_ix2 j⟩
    exact final2_6 (E4 m) c _ ((W4_of m c main_v6_0 (by decide +kernel)).trans <| (W3_of m c main_v6_0 (by decide +kernel)).trans <| at2_v6_0 m c) _ ((W4_of m c main_v6_1 (by decide +kernel)).trans <| (W3_of m c main_v6_1 (by decide +kernel)).trans <| at2_v6_1 m c) _ (at4_v8_0 m c) _ (at4_v8_1 m c) i z

theorem at5_v9_1 : W5 m c (Proc.devRef .tc main_v9_1) = sc1 m c :=
  (W5_arr m c 7).trans <| funext fun j => by
    obtain ⟨i, z, rfl⟩ : ∃ i z, j = ix2 i z := ⟨j 0, j 1, eq_ix2 j⟩
    exact final2_7 (E4 m) c _ ((W4_of m c main_v6_0 (by decide +kernel)).trans <| (W3_of m c main_v6_0 (by decide +kernel)).trans <| at2_v6_0 m c) _ ((W4_of m c main_v6_1 (by decide +kernel)).trans <| (W3_of m c main_v6_1 (by decide +kernel)).trans <| at2_v6_1 m c) _ (at4_v8_0 m c) _ (at4_v8_1 m c) _ ((W4_of m c main_v5 (by decide +kernel)).trans <| (W3_of m c main_v5 (by decide +kernel)).trans <| (W2_of m c main_v5 (by decide +kernel)).trans <| at1_v5 m c) i z

theorem at6_v18 : W6 m c (Proc.devRef .tc main_v18) = marks1 (argIdx1 m c) :=
  v18_of _ _ (W5_arg m c main_arg3 (by decide +kernel))

theorem at6_v20 : W6 m c (Proc.devRef .tc main_v20) = col1' m c :=
  v20_of _ _ (W5_arg m c main_arg3 (by decide +kernel))

theorem at7_v21 : W7 m c (Proc.devRef .tc main_v21) = deg1 m c :=
  (W7_arr m c 2).trans <| funext fun j => by
    obtain ⟨i, z, rfl⟩ : ∃ i z, j = ix2 i z := ⟨j 0, j 1, eq_ix2 j⟩
    exact final3_2 (E6 m) c _ ((W6_of m c main_v6_0 (by decide +kernel)).trans <| (W5_of m c main_v6_0 (by decide +kernel)).trans <| (W4_of m c main_v6_0 (by decide +kernel)).trans <| (W3_of m c main_v6_0 (by decide +kernel)).trans <| at2_v6_0 m c) _ (at6_v20 m c) i z

theorem at8_v22 : W8 m c (Proc.devRef .tc main_v22) = col1 m c :=
  v22_of _ _ ((W7_of m c main_v18 (by decide +kernel)).trans <| at6_v18 m c)

theorem at8_v23 : W8 m c (Proc.devRef .tc main_v23) = biasRow2 m c :=
  v23_of _ _ (W7_arg m c main_arg11 (by decide +kernel))

theorem at9_v24_0 : W9 m c (Proc.devRef .tc main_v24_0) = lay2 m c :=
  (W9_arr m c 11).trans <| funext fun j => by
    obtain ⟨i, z, rfl⟩ : ∃ i z, j = ix2 i z := ⟨j 0, j 1, eq_ix2 j⟩
    exact final4_11 (E8 m) c _ ((W8_of m c main_v6_0 (by decide +kernel)).trans <| (W7_of m c main_v6_0 (by decide +kernel)).trans <| (W6_of m c main_v6_0 (by decide +kernel)).trans <| (W5_of m c main_v6_0 (by decide +kernel)).trans <| (W4_of m c main_v6_0 (by decide +kernel)).trans <| (W3_of m c main_v6_0 (by decide +kernel)).trans <| at2_v6_0 m c) _ ((W8_of m c main_v21 (by decide +kernel)).trans <| at7_v21 m c) _ ((W8_of m c main_v9_1 (by decide +kernel)).trans <| (W7_of m c main_v9_1 (by decide +kernel)).trans <| (W6_of m c main_v9_1 (by decide +kernel)).trans <| at5_v9_1 m c) _ (at8_v22 m c) _ ((W8_of m c main_v9_0 (by decide +kernel)).trans <| (W7_of m c main_v9_0 (by decide +kernel)).trans <| (W6_of m c main_v9_0 (by decide +kernel)).trans <| at5_v9_0 m c) _ (W8_arg m c main_arg9 (by decide +kernel)) _ (W8_arg m c main_arg10 (by decide +kernel)) _ (at8_v23 m c) i z

theorem at9_v24_1 : W9 m c (Proc.devRef .tc main_v24_1) = sc2 m c :=
  (W9_arr m c 12).trans <| funext fun j => by
    obtain ⟨i, z, rfl⟩ : ∃ i z, j = ix2 i z := ⟨j 0, j 1, eq_ix2 j⟩
    exact final4_12 (E8 m) c _ ((W8_of m c main_v6_0 (by decide +kernel)).trans <| (W7_of m c main_v6_0 (by decide +kernel)).trans <| (W6_of m c main_v6_0 (by decide +kernel)).trans <| (W5_of m c main_v6_0 (by decide +kernel)).trans <| (W4_of m c main_v6_0 (by decide +kernel)).trans <| (W3_of m c main_v6_0 (by decide +kernel)).trans <| at2_v6_0 m c) _ ((W8_of m c main_v21 (by decide +kernel)).trans <| at7_v21 m c) _ ((W8_of m c main_v9_1 (by decide +kernel)).trans <| (W7_of m c main_v9_1 (by decide +kernel)).trans <| (W6_of m c main_v9_1 (by decide +kernel)).trans <| at5_v9_1 m c) _ (at8_v22 m c) _ ((W8_of m c main_v9_0 (by decide +kernel)).trans <| (W7_of m c main_v9_0 (by decide +kernel)).trans <| (W6_of m c main_v9_0 (by decide +kernel)).trans <| at5_v9_0 m c) _ (W8_arg m c main_arg9 (by decide +kernel)) _ (W8_arg m c main_arg10 (by decide +kernel)) _ (at8_v23 m c) _ ((W8_of m c main_v5 (by decide +kernel)).trans <| (W7_of m c main_v5 (by decide +kernel)).trans <| (W6_of m c main_v5 (by decide +kernel)).trans <| (W5_of m c main_v5 (by decide +kernel)).trans <| (W4_of m c main_v5 (by decide +kernel)).trans <| (W3_of m c main_v5 (by decide +kernel)).trans <| (W2_of m c main_v5 (by decide +kernel)).trans <| at1_v5 m c) i z

theorem at10_v40 : W10 m c (Proc.devRef .tc main_v40) = marks2 (argIdx1 m c) (argIdx2 m c) :=
  v40_of _ _ (W9_arg m c main_arg3 (by decide +kernel)) _ (W9_arg m c main_arg4 (by decide +kernel))

theorem at10_v42 : W10 m c (Proc.devRef .tc main_v42) = col2' m c :=
  v42_of _ _ (W9_arg m c main_arg3 (by decide +kernel)) _ (W9_arg m c main_arg4 (by decide +kernel))

theorem at11_v43 : W11 m c (Proc.devRef .tc main_v43) = deg2 m c :=
  (W11_arr m c 2).trans <| funext fun j => by
    obtain ⟨i, z, rfl⟩ : ∃ i z, j = ix2 i z := ⟨j 0, j 1, eq_ix2 j⟩
    exact final5_2 (E10 m) c _ ((W10_of m c main_v6_0 (by decide +kernel)).trans <| (W9_of m c main_v6_0 (by decide +kernel)).trans <| (W8_of m c main_v6_0 (by decide +kernel)).trans <| (W7_of m c main_v6_0 (by decide +kernel)).trans <| (W6_of m c main_v6_0 (by decide +kernel)).trans <| (W5_of m c main_v6_0 (by decide +kernel)).trans <| (W4_of m c main_v6_0 (by decide +kernel)).trans <| (W3_of m c main_v6_0 (by decide +kernel)).trans <| at2_v6_0 m c) _ (at10_v42 m c) i z

theorem at12_v44 : W12 m c (Proc.devRef .tc main_v44) = col2 m c :=
  v44_of _ _ ((W11_of m c main_v40 (by decide +kernel)).trans <| at10_v40 m c)

theorem at12_v45 : W12 m c (Proc.devRef .tc main_v45) = biasRow3 m c :=
  v45_of _ _ (W11_arg m c main_arg14 (by decide +kernel))

theorem at13_v46_2 : W13 m c (Proc.devRef .tc main_v46_2) = sums m c :=
  (W13_arr m c 13).trans <| funext fun j => by
    obtain ⟨n, z, h, rfl⟩ : ∃ n z h, j = ix3 n z h := ⟨j 0, j 1, j 2, eq_ix3 j⟩
    exact final6_13 (E12 m) c _ ((W12_of m c main_v6_0 (by decide +kernel)).trans <| (W11_of m c main_v6_0 (by decide +kernel)).trans <| (W10_of m c main_v6_0 (by decide +kernel)).trans <| (W9_of m c main_v6_0 (by decide +kernel)).trans <| (W8_of m c main_v6_0 (by decide +kernel)).trans <| (W7_of m c main_v6_0 (by decide +kernel)).trans <| (W6_of m c main_v6_0 (by decide +kernel)).trans <| (W5_of m c main_v6_0 (by decide +kernel)).trans <| (W4_of m c main_v6_0 (by decide +kernel)).trans <| (W3_of m c main_v6_0 (by decide +kernel)).trans <| at2_v6_0 m c) _ ((W12_of m c main_v43 (by decide +kernel)).trans <| at11_v43 m c) _ ((W12_of m c main_v24_1 (by decide +kernel)).trans <| (W11_of m c main_v24_1 (by decide +kernel)).trans <| (W10_of m c main_v24_1 (by decide +kernel)).trans <| at9_v24_1 m c) _ (at12_v44 m c) _ ((W12_of m c main_v24_0 (by decide +kernel)).trans <| (W11_of m c main_v24_0 (by decide +kernel)).trans <| (W10_of m c main_v24_0 (by decide +kernel)).trans <| at9_v24_0 m c) _ (W12_arg m c main_arg12 (by decide +kernel)) _ (W12_arg m c main_arg13 (by decide +kernel)) _ (at12_v45 m c) n z h

theorem at14_v52 : W14 m c (Proc.devRef .tc main_v52) = dense (sums m c) (argWd m c) (argBd m c) :=
  v52_of _ _ (at13_v46_2 m c) _ (W13_arg m c main_arg15 (by decide +kernel)) _ (W13_arg m c main_arg16 (by decide +kernel))

end Cert.KernelIdeal.Calls

end
-- ==== Proof.Algebra.lean ====
/-
  The kernel's result is the reference's: the reference's layers as pooled layers, the layers of the two programs summed over all nodes and
  over the chosen ones, and the two runs.
-/
module

public import proofs.«01_k».proof.Proof.Net
public import proofs.«01_k».proof.Proof.Pre
public import proofs.«01_k».proof.Proof.KernelIdeal.Values

@[expose] public section

set_option maxRecDepth 16384

noncomputable section

namespace Cert.ReferenceIdeal.Net

open Cert.ReferenceIdeal Cert.ReferenceIdeal.Gen Cert.ReferenceIdeal.Read Cert.Math
open Idealize.ShloMosaic Idealize.ShloMosaic.Pointwise

variable (x0 : Vec Ideal S10000x128 .f32) (x1 : Vec Ideal S10000x10000 .f32) (x3 : IVec S5000 32) (x4 : IVec S2500 32)
  (x5 x6 : Vec Ideal S128x32 .f32) (x7 x8 : Vec Ideal S32 .f32) (x9 x10 : Vec Ideal S32x32 .f32) (x11 : Vec Ideal S32 .f32)
  (x12 x13 : Vec Ideal S32x32 .f32) (x14 : Vec Ideal S32 .f32)
  (σ : Fin 5000 → Fin 10000) (hσ : ∀ k, x3 (ix1 k) = BitVec.ofNat 32 (σ k).val)
  (ρ : Fin 2500 → Fin 5000) (hρ : ∀ k, x4 (ix1 k) = BitVec.ofNat 32 (ρ k).val)

include hσ

/-- The adjacency among the first chosen nodes. -/
theorem among1 (k l : Fin 5000) : ((val_main_v63 (F := Ideal) x1 x3) (ix2 k l) : EReal) = x1 (ix2 (σ k) (σ l)) :=
  (cols_v63 x1 x3 σ hσ k l).trans (rows_v56 x1 x3 σ hσ k (σ l))

/-- The second layer is a pooled layer over the first chosen nodes. -/
theorem pooled2 (k : Fin 5000) (h : Fin 32) :
    ((val_main_v91 (F := Ideal) x0 x1 x3 x5 x6 x7 x8 x9 x10 x11) (ix2 k h) : EReal)
      = pooled (fun i j => (x1 (ix2 i j) : EReal)) (fun k => scoreR (fun i q => ((val_main_v20 (F := Ideal) x0 x1 x5 x6 x7) (ix2 i q) : EReal)) (fun q => x8 (ix1 q)) (σ k))
        (fun k q => ((val_main_v20 (F := Ideal) x0 x1 x5 x6 x7) (ix2 (σ k) q) : EReal)) σ (fun q h => x9 (ix2 q h)) (fun q h => x10 (ix2 q h)) (fun h => x11 (ix1 h)) k h := by
  rw [feat2]
  unfold pooled
  simp only [among1 x1 x3 σ hσ, gated1, rows_v46 x0 x1 x3 x5 x6 x7 σ hσ, take_v33 x0 x1 x3 x5 x6 x7 x8 σ hσ, score1]

include hρ

/-- The adjacency among the second chosen nodes. -/
theorem among2 (k l : Fin 2500) : ((val_main_v134 (F := Ideal) x1 x3 x4) (ix2 k l) : EReal) = x1 (ix2 (σ (ρ k)) (σ (ρ l))) :=
  (cols_v134 x1 x3 x4 ρ hρ k l).trans ((rows_v127 x1 x3 x4 ρ hρ k (ρ l)).trans (among1 x1 x3 σ hσ (ρ k) (ρ l)))

/-- The third layer is a pooled layer over the second chosen nodes. -/
theorem pooled3 (k : Fin 2500) (h : Fin 32) :
    ((val_main_v162 (F := Ideal) x0 x1 x3 x4 x5 x6 x7 x8 x9 x10 x11 x12 x13 x14) (ix2 k h) : EReal)
      = pooled (fun i j => (x1 (ix2 (σ i) (σ j)) : EReal)) (fun k => scoreR (fun i q => ((val_main_v91 (F := Ideal) x0 x1 x3 x5 x6 x7 x8 x9 x10 x11) (ix2 i q) : EReal)) (fun q => x8 (ix1 q)) (ρ k))
        (fun k q => ((val_main_v91 (F := Ideal) x0 x1 x3 x5 x6 x7 x8 x9 x10 x11) (ix2 (ρ k) q) : EReal)) ρ (fun q h => x12 (ix2 q h)) (fun q h => x13 (ix2 q h)) (fun h => x14 (ix1 h)) k h := by
  rw [feat3]
  unfold pooled
  simp only [among2 x1 x3 x4 σ hσ ρ hρ, gated2, rows_v117 x0 x1 x3 x4 x5 x6 x7 x8 x9 x10 x11 ρ hρ, take_v104 x0 x1 x3 x4 x5 x6 x7 x8 x9 x10 x11 ρ hρ, score2]

end Cert.ReferenceIdeal.Net

namespace Cert.Algebra

open Cert.Math Cert.Frames Cert.KernelIdeal.Calls
open Idealize.ShloMosaic Idealize.ShloMosaic.TcCoe Idealize.ShloMosaic.Pointwise Idealize.SL.Sem

/-- The kernel's third layer summed over all nodes is the reference's summed over the chosen ones. -/
theorem layers_eq (m : (ℓ : Loc Cert.KernelIdeal.nD Cert.KernelIdeal.τ Cert.KernelIdeal.sig) → Buf (Elt Ideal) ℓ) (c : Dev Cert.KernelIdeal.nD) (G : Given m c)
    (σ : Fin 5000 → Fin 10000) (iσ : Function.Injective σ) (hσ : ∀ k, argIdx1 m c (ix1 k) = BitVec.ofNat 32 (σ k).val)
    (ρ : Fin 2500 → Fin 5000) (iρ : Function.Injective ρ) (hρ : ∀ k, argIdx2 m c (ix1 k) = BitVec.ofNat 32 (ρ k).val) (h : Fin 32) :
    ∑ i : Fin 10000, lay3 m c i h
      = ∑ l : Fin 2500, ((Cert.ReferenceIdeal.Read.val_main_v162 (F := Ideal) (argX m c) (argA m c) (argIdx1 m c) (argIdx2 m c) (argW01 m c) (argW11 m c) (argB1 m c) (argP m c) (argW02 m c) (argW12 m c) (argB2 m c) (argW03 m c) (argW13 m c) (argB3 m c)) (ix2 l h) : EReal) :=
  net_eq (fun i j => ((argA m c) (ix2 i j) : EReal)) (fun i j => ((argX m c) (ix2 i j) : EReal)) (fun i j => ((argW01 m c) (ix2 i j) : EReal)) (fun i j => ((argW11 m c) (ix2 i j) : EReal)) (fun i => ((argB1 m c) (ix1 i) : EReal)) (fun i => ((argP m c) (ix1 i) : EReal))
    (fun i j => ((argW02 m c) (ix2 i j) : EReal)) (fun i j => ((argW12 m c) (ix2 i j) : EReal)) (fun i => ((argB2 m c) (ix1 i) : EReal)) (fun i j => ((argW03 m c) (ix2 i j) : EReal)) (fun i j => ((argW13 m c) (ix2 i j) : EReal)) (fun i => ((argB3 m c) (ix1 i) : EReal)) σ ρ
    (fun i => marks1 (argIdx1 m c) (ix1 i)) (fun i => marks2 (argIdx1 m c) (argIdx2 m c) (ix1 i))
    (marks1_picks _ σ iσ hσ) (marks2_picks _ _ σ iσ hσ ρ iρ hρ)
    G.real0 G.real5 G.real6 G.real7 G.real9 G.real10 G.real11 G.real12
    (fun i h => lay1 m c (ix2 i h)) (fun i h => lay2 m c (ix2 i h)) (lay3 m c)
    (fun i h => ((Cert.ReferenceIdeal.Read.val_main_v20 (F := Ideal) (argX m c) (argA m c) (argW01 m c) (argW11 m c) (argB1 m c)) (ix2 i h) : EReal))
    (fun i h => ((Cert.ReferenceIdeal.Read.val_main_v91 (F := Ideal) (argX m c) (argA m c) (argIdx1 m c) (argW01 m c) (argW11 m c) (argB1 m c) (argP m c) (argW02 m c) (argW12 m c) (argB2 m c)) (ix2 i h) : EReal))
    (fun i h => ((Cert.ReferenceIdeal.Read.val_main_v162 (F := Ideal) (argX m c) (argA m c) (argIdx1 m c) (argIdx2 m c) (argW01 m c) (argW11 m c) (argB1 m c) (argP m c) (argW02 m c) (argW12 m c) (argB2 m c) (argW03 m c) (argW13 m c) (argB3 m c)) (ix2 i h) : EReal))
    (fun i h => rfl) (fun i h => rfl) (fun i h => rfl)
    (fun i h => Cert.ReferenceIdeal.Net.feat1 _ _ _ _ _ i h)
    (fun k h => Cert.ReferenceIdeal.Net.pooled2 (argX m c) (argA m c) (argIdx1 m c) (argW01 m c) (argW11 m c) (argB1 m c) (argP m c) (argW02 m c) (argW12 m c) (argB2 m c) σ hσ k h)
    (fun l h => Cert.ReferenceIdeal.Net.pooled3 (argX m c) (argA m c) (argIdx1 m c) (argIdx2 m c) (argW01 m c) (argW11 m c) (argB1 m c) (argP m c) (argW02 m c) (argW12 m c) (argB2 m c) (argW03 m c) (argW13 m c) (argB3 m c) σ hσ ρ hρ l h) h

/-- The two results are equal. -/
theorem results_eq (m : (ℓ : Loc Cert.KernelIdeal.nD Cert.KernelIdeal.τ Cert.KernelIdeal.sig) → Buf (Elt Ideal) ℓ) (c : Dev Cert.KernelIdeal.nD) (G : Given m c) :
    dense (sums m c) (argWd m c) (argBd m c) = (Cert.ReferenceIdeal.Read.val_main_v176 (F := Ideal) (argX m c) (argA m c) (m ((c : Thread Cert.KernelIdeal.nD Cert.KernelIdeal.τ).loc Cert.KernelIdeal.main_arg2)) (argIdx1 m c) (argIdx2 m c) (argW01 m c) (argW11 m c) (argB1 m c) (argP m c) (argW02 m c) (argW12 m c) (argB2 m c) (argW03 m c) (argW13 m c) (argB3 m c) (argWd m c) (argBd m c)) := by
  obtain ⟨σ, iσ, hσ⟩ := G.first
  obtain ⟨ρ, iρ, hρ⟩ := G.second
  funext j
  obtain ⟨i, z, rfl⟩ : ∃ (i z : Fin 1), j = ix2 i z := ⟨j 0, j 1, eq_ix2 j⟩
  obtain rfl : i = 0 := Subsingleton.elim _ _
  obtain rfl : z = 0 := Subsingleton.elim _ _
  refine (dense_read _ _ _ 0 0).trans (Eq.trans ?_ (Cert.ReferenceIdeal.Net.result (argX m c) (argA m c) (m ((c : Thread Cert.KernelIdeal.nD Cert.KernelIdeal.τ).loc Cert.KernelIdeal.main_arg2)) (argIdx1 m c) (argIdx2 m c) (argW01 m c) (argW11 m c) (argB1 m c) (argP m c) (argW02 m c) (argW12 m c) (argB2 m c) (argW03 m c) (argW13 m c) (argB3 m c) (argWd m c) (argBd m c) σ hσ ρ hρ fun i => ?_).symm)
  · refine congrArg (· + (argBd m c (ix1 0) : EReal)) (Finset.sum_congr rfl fun h _ => ?_)
    rw [sums_all, layers_eq m c G σ iσ hσ ρ iρ hρ h]
  · rw [eq_ix1 i]; exact G.segment _

/-- From memories that agree on the arguments and satisfy the precondition both programs end with one result. -/
theorem algebraic : Cert.algebraic_KernelIdeal_ReferenceIdeal_pre_selections := by
  intro m g m' g' hpre hargs
  refine ⟨fun c => W14 m c (Proc.devRef .tc Cert.KernelIdeal.main_v52), ?_, ?_⟩
  · refine (θ_run _ _ _).mono (fun r h c => ?_) (Cert.KernelIdeal.Calls.run (F := Ideal) m g)
    refine ⟨h.1 c _ (mem_uc Cert.KernelIdeal.main_v52 (by decide)), ?_⟩
    exact ⟨kept m h.1 c Cert.KernelIdeal.main_arg0 (by decide +kernel) (by decide), kept m h.1 c Cert.KernelIdeal.main_arg1 (by decide +kernel) (by decide), kept m h.1 c Cert.KernelIdeal.main_arg2 (by decide +kernel) (by decide), kept m h.1 c Cert.KernelIdeal.main_arg3 (by decide +kernel) (by decide), kept m h.1 c Cert.KernelIdeal.main_arg4 (by decide +kernel) (by decide), kept m h.1 c Cert.KernelIdeal.main_arg5 (by decide +kernel) (by decide), kept m h.1 c Cert.KernelIdeal.main_arg6 (by decide +kernel) (by decide), kept m h.1 c Cert.KernelIdeal.main_arg7 (by decide +kernel) (by decide), kept m h.1 c Cert.KernelIdeal.main_arg8 (by decide +kernel) (by decide), kept m h.1 c Cert.KernelIdeal.main_arg9 (by decide +kernel) (by decide), kept m h.1 c Cert.KernelIdeal.main_arg10 (by decide +kernel) (by decide), kept m h.1 c Cert.KernelIdeal.main_arg11 (by decide +kernel) (by decide), kept m h.1 c Cert.KernelIdeal.main_arg12 (by decide +kernel) (by decide), kept m h.1 c Cert.KernelIdeal.main_arg13 (by decide +kernel) (by decide), kept m h.1 c Cert.KernelIdeal.main_arg14 (by decide +kernel) (by decide), kept m h.1 c Cert.KernelIdeal.main_arg15 (by decide +kernel) (by decide), kept m h.1 c Cert.KernelIdeal.main_arg16 (by decide +kernel) (by decide)⟩
  · refine (θ_run _ _ _).mono (fun r h c => ⟨(h c).1.trans ?_, (h c).2⟩) (Cert.ReferenceIdeal.Value.run (F := Ideal) m' g')
    obtain ⟨h0, h1, h2, h3, h4, h5, h6, h7, h8, h9, h10, h11, h12, h13, h14, h15, h16⟩ := hargs c
    refine (Cert.ReferenceIdeal.Read.val_main_v176_eq _).trans ?_
    refine Eq.trans ?_ ((at14_v52 m c).trans (results_eq m c (given m hpre c))).symm
    show Cert.ReferenceIdeal.Read.val_main_v176 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [h0, h1, h2, h3, h4, h5, h6, h7, h8, h9, h10, h11, h12, h13, h14, h15, h16]

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Pre
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Frames.preFacts,
    Cert.Frames.kernel, Cert.Frames.kernelIdeal, Cert.Frames.kernelIdeal_pre, Cert.Frames.reference, Cert.Frames.reference_pre,
    trivial, Cert.Algebra.algebraic⟩

end Cert.Proof

end
